-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)
      ∧ m' ((c.tc : Thread Cert.OutReferenceIdeal.nD Cert.OutReferenceIdeal.τ).loc Cert.OutReferenceIdeal.main_arg3) = m ((c.tc : Thread Cert.OutKernelIdeal.nD Cert.OutKernelIdeal.τ).loc Cert.OutKernelIdeal.main_arg3)) →
    ∃ (v0 : (c : Dev Cert.OutKernelIdeal.nD) → Buf (Elt Ideal) ((c.tc : Thread Cert.OutKernelIdeal.nD Cert.OutKernelIdeal.τ).loc Cert.OutKernelIdeal.main_v0_0)) (v1 : (c : Dev Cert.OutKernelIdeal.nD) → Buf (Elt Ideal) ((c.tc : Thread Cert.OutKernelIdeal.nD Cert.OutKernelIdeal.τ).loc Cert.OutKernelIdeal.main_v0_1)) (v2 : (c : Dev Cert.OutKernelIdeal.nD) → Buf (Elt Ideal) ((c.tc : Thread Cert.OutKernelIdeal.nD Cert.OutKernelIdeal.τ).loc Cert.OutKernelIdeal.main_v0_2)) (v3 : (c : Dev Cert.OutKernelIdeal.nD) → Buf (Elt Ideal) ((c.tc : Thread Cert.OutKernelIdeal.nD Cert.OutKernelIdeal.τ).loc Cert.OutKernelIdeal.main_v0_3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v0_0) = v0 c
          ∧ r.2.mem ((c.tc : Thread Cert.OutKernelIdeal.nD Cert.OutKernelIdeal.τ).loc Cert.OutKernelIdeal.main_v0_1) = v1 c
          ∧ r.2.mem ((c.tc : Thread Cert.OutKernelIdeal.nD Cert.OutKernelIdeal.τ).loc Cert.OutKernelIdeal.main_v0_2) = v2 c
          ∧ r.2.mem ((c.tc : Thread Cert.OutKernelIdeal.nD Cert.OutKernelIdeal.τ).loc Cert.OutKernelIdeal.main_v0_3) = v3 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
          ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0_0) = v0 c
          ∧ r.2.mem ((c.tc : Thread Cert.OutReferenceIdeal.nD Cert.OutReferenceIdeal.τ).loc Cert.OutReferenceIdeal.main_v0_1) = v1 c
          ∧ r.2.mem ((c.tc : Thread Cert.OutReferenceIdeal.nD Cert.OutReferenceIdeal.τ).loc Cert.OutReferenceIdeal.main_v0_2) = v2 c
          ∧ r.2.mem ((c.tc : Thread Cert.OutReferenceIdeal.nD Cert.OutReferenceIdeal.τ).loc Cert.OutReferenceIdeal.main_v0_3) = v3 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def Claim : Prop :=
  ∃ (hKernel : Cert.Kernel.Facts) (hKernelIdeal : Cert.KernelIdeal.Facts) (hReferenceIdeal : Cert.ReferenceIdeal.Facts) (hOutKernel : Cert.OutKernel.Facts) (hOutKernelIdeal : Cert.OutKernelIdeal.Facts) (hOutReferenceIdeal : Cert.OutReferenceIdeal.Facts),
    quiescent_Kernel (hKernel := hKernel)
    ∧ quiescent_KernelIdeal (hKernelIdeal := hKernelIdeal)
    ∧ quiescent_ReferenceIdeal (hReferenceIdeal := hReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ preserves_Kernel_KernelIdeal
    ∧ algebraic_KernelIdeal_ReferenceIdeal (hKernelIdeal := hKernelIdeal) (hReferenceIdeal := hReferenceIdeal)
    ∧ preserves_OutKernel_OutKernelIdeal
    ∧ algebraic_OutKernelIdeal_OutReferenceIdeal (hOutKernelIdeal := hOutKernelIdeal) (hOutReferenceIdeal := hOutReferenceIdeal)
-- ==== Kernel.lean ====
abbrev S3x8x160 : Shape := ⟨3, ![3, 8, 160]⟩
abbrev S3x8x10240 : Shape := ⟨3, ![3, 8, 10240]⟩
abbrev S3x8x640x128 : Shape := ⟨4, ![3, 8, 640, 128]⟩
abbrev S3x640x8 : Shape := ⟨3, ![3, 640, 8]⟩
abbrev S6x9600x128 : Shape := ⟨3, ![6, 9600, 128]⟩
abbrev S3x2x9600 : Shape := ⟨3, ![3, 2, 9600]⟩
abbrev S3x2x128 : Shape := ⟨3, ![3, 2, 128]⟩
abbrev S6x640x128 : Shape := ⟨3, ![6, 640, 128]⟩
abbrev S3x2x640 : Shape := ⟨3, ![3, 2, 640]⟩
abbrev S32 : Shape := ⟨1, ![32]⟩
abbrev S_ : Shape := ⟨0, ![]⟩
abbrev S24x5x32 : Shape := ⟨3, ![24, 5, 32]⟩
abbrev S24x5 : Shape := ⟨2, ![24, 5]⟩
abbrev S3x640x1024 : Shape := ⟨3, ![3, 640, 1024]⟩
abbrev S1x4x64x128 : Shape := ⟨4, ![1, 4, 64, 128]⟩
abbrev S1x64x8 : Shape := ⟨3, ![1, 64, 8]⟩
abbrev S1x9600x128 : Shape := ⟨3, ![1, 9600, 128]⟩
abbrev S1x2x9600 : Shape := ⟨3, ![1, 2, 9600]⟩
abbrev S1x2x128 : Shape := ⟨3, ![1, 2, 128]⟩
abbrev S1x640x128 : Shape := ⟨3, ![1, 640, 128]⟩
abbrev S1x2x640 : Shape := ⟨3, ![1, 2, 640]⟩
abbrev S1x8x10240 : Shape := ⟨3, ![1, 8, 10240]⟩
abbrev S1x64x512 : Shape := ⟨3, ![1, 64, 512]⟩
abbrev S256x128 : Shape := ⟨2, ![256, 128]⟩
abbrev S1x640 : Shape := ⟨2, ![1, 640]⟩
abbrev S64x640 : Shape := ⟨2, ![64, 640]⟩
abbrev S1x1x64x128 : Shape := ⟨4, ![1, 1, 64, 128]⟩
abbrev S64x128 : Shape := ⟨2, ![64, 128]⟩
abbrev S640x128 : Shape := ⟨2, ![640, 128]⟩
abbrev S64x8 : Shape := ⟨2, ![64, 8]⟩
abbrev S64x1 : Shape := ⟨2, ![64, 1]⟩
abbrev S1x1x640 : Shape := ⟨3, ![1, 1, 640]⟩
abbrev S1x1 : Shape := ⟨2, ![1, 1]⟩
abbrev S256 : Shape := ⟨1, ![256]⟩
abbrev S256x1 : Shape := ⟨2, ![256, 1]⟩
abbrev S64 : Shape := ⟨1, ![64]⟩
abbrev S1x1x128 : Shape := ⟨3, ![1, 1, 128]⟩
abbrev S1x128 : Shape := ⟨2, ![1, 128]⟩
abbrev S1x64x128 : Shape := ⟨3, ![1, 64, 128]⟩

abbrev nBuf : Space → Nat
  | .hbm => 25
  | .vmem => 29
  | .smem => 1
  | _ => 0

abbrev bufTy : (tb : Table) → Fin (tcTables nBuf tb) → BufTy
  | .hbm, ⟨0, _⟩ => ⟨S3x8x160, .i1⟩
  | .hbm, ⟨1, _⟩ => ⟨S3x8x10240, .i1⟩
  | .hbm, ⟨2, _⟩ => ⟨S3x8x640x128, .fp8e4m3⟩
  | .hbm, ⟨3, _⟩ => ⟨S3x640x8, .f32⟩
  | .hbm, ⟨4, _⟩ => ⟨S6x9600x128, .fp8e4m3⟩
  | .hbm, ⟨5, _⟩ => ⟨S3x2x9600, .f32⟩
  | .hbm, ⟨6, _⟩ => ⟨S6x9600x128, .fp8e4m3⟩
  | .hbm, ⟨7, _⟩ => ⟨S3x2x128, .f32⟩
  | .hbm, ⟨8, _⟩ => ⟨S6x640x128, .fp8e4m3⟩
  | .hbm, ⟨9, _⟩ => ⟨S3x2x640, .f32⟩
  | .hbm, ⟨10, _⟩ => ⟨S6x640x128, .fp8e4m3⟩
  | .hbm, ⟨11, _⟩ => ⟨S3x2x128, .f32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S24x5x32, .i1⟩
  | .hbm, ⟨17, _⟩ => ⟨S_, .i32⟩
  | .hbm, ⟨18, _⟩ => ⟨S24x5x32, .i32⟩
  | .hbm, ⟨19, _⟩ => ⟨S24x5x32, .i32⟩
  | .hbm, ⟨20, _⟩ => ⟨S24x5x32, .i32⟩
  | .hbm, ⟨21, _⟩ => ⟨S_, .i32⟩
  | .hbm, ⟨22, _⟩ => ⟨S24x5, .i32⟩
  | .hbm, ⟨23, _⟩ => ⟨S3x8x10240, .i32⟩
  | .hbm, ⟨24, _⟩ => ⟨S3x640x1024, .f32⟩
  | .local _ .vmem, ⟨0, _⟩ => ⟨S1x4x64x128, .fp8e4m3⟩
  | .local _ .vmem, ⟨1, _⟩ => ⟨S1x4x64x128, .fp8e4m3⟩
  | .local _ .vmem, ⟨2, _⟩ => ⟨S1x64x8, .f32⟩
  | .local _ .vmem, ⟨3, _⟩ => ⟨S1x64x8, .f32⟩
  | .local _ .vmem, ⟨4, _⟩ => ⟨S1x9600x128, .fp8e4m3⟩
  | .local _ .vmem, ⟨5, _⟩ => ⟨S1x9600x128, .fp8e4m3⟩
  | .local _ .vmem, ⟨6, _⟩ => ⟨S1x2x9600, .f32⟩
  | .local _ .vmem, ⟨7, _⟩ => ⟨S1x2x9600, .f32⟩
  | .local _ .vmem, ⟨8, _⟩ => ⟨S1x9600x128, .fp8e4m3⟩
  | .local _ .vmem, ⟨9, _⟩ => ⟨S1x9600x128, .fp8e4m3⟩
  | .local _ .vmem, ⟨10, _⟩ => ⟨S1x2x128, .f32⟩
  | .local _ .vmem, ⟨11, _⟩ => ⟨S1x2x128, .f32⟩
  | .local _ .vmem, ⟨12, _⟩ => ⟨S1x640x128, .fp8e4m3⟩
  | .local _ .vmem, ⟨13, _⟩ => ⟨S1x640x128, .fp8e4m3⟩
  | .local _ .vmem, ⟨14, _⟩ => ⟨S1x2x640, .f32⟩
  | .local _ .vmem, ⟨15, _⟩ => ⟨S1x2x640, .f32⟩
  | .local _ .vmem, ⟨16, _⟩ => ⟨S1x640x128, .fp8e4m3⟩
  | .local _ .vmem, ⟨17, _⟩ => ⟨S1x640x128, .fp8e4m3⟩
  | .local _ .vmem, ⟨18, _⟩ => ⟨S1x2x128, .f32⟩
  | .local _ .vmem, ⟨19, _⟩ => ⟨S1x2x128, .f32⟩
  | .local _ .vmem, ⟨20, _⟩ => ⟨S1x8x10240, .i32⟩
  | .local _ .vmem, ⟨21, _⟩ => ⟨S1x8x10240, .i32⟩
  | .local _ .vmem, ⟨22, _⟩ => ⟨S1x64x512, .f32⟩
  | .local _ .vmem, ⟨23, _⟩ => ⟨S1x64x512, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .smem, ⟨0, _⟩ => ⟨S24x5, .i32⟩
  | _, _ => ⟨S3x8x160, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_c_1 : Ref sig .tc := ⟨.hbm, 21, rfl⟩
abbrev main_v5 : Ref sig .tc := ⟨.hbm, 22, rfl⟩
abbrev main_v7 : Ref sig .tc := ⟨.hbm, 23, rfl⟩
abbrev main_v8 : Ref sig .tc := ⟨.hbm, 24, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![6, 10], ![false, false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let c0_27 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v69 : Index := Scalar.indexCast v9
  let c0_28 : Index := 0#32
  ![0, v69.toNat, 0]
def k0_off2 (i : grid0.Coords) (c0_i32_29 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32 : BitVec 32 := 8#32
  let v74 : BitVec 32 := Scalar.muli v26 c8_i32
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let v75 : BitVec 32 := Scalar.muli v9 c4_i32
  let v76 : BitVec 32 := Scalar.addi v74 v75
  let v77 : BitVec 32 := Scalar.addi v76 c0_i32_29
  let v88 : Index := Scalar.indexCast v77
  let c0_33 : Index := 0#32
  ![v88.toNat, 0]
def k0_off3 (i : grid0.Coords) (c0_i32_29 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32 : BitVec 32 := 8#32
  let v74 : BitVec 32 := Scalar.muli v26 c8_i32
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let v75 : BitVec 32 := Scalar.muli v9 c4_i32
  let v76 : BitVec 32 := Scalar.addi v74 v75
  let v77 : BitVec 32 := Scalar.addi v76 c0_i32_29
  let v94 : Index := Scalar.indexCast v77
  let c1 : Index := 1#32
  ![v94.toNat, 1]
def k0_off4 (i : grid0.Coords) (c0_i32_29 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32 : BitVec 32 := 8#32
  let v74 : BitVec 32 := Scalar.muli v26 c8_i32
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let v75 : BitVec 32 := Scalar.muli v9 c4_i32
  let v76 : BitVec 32 := Scalar.addi v74 v75
  let v77 : BitVec 32 := Scalar.addi v76 c0_i32_29
  let v100 : Index := Scalar.indexCast v77
  let c2 : Index := 2#32
  ![v100.toNat, 2]
def k0_off5 (i : grid0.Coords) (c0_i32_29 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32 : BitVec 32 := 8#32
  let v74 : BitVec 32 := Scalar.muli v26 c8_i32
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let v75 : BitVec 32 := Scalar.muli v9 c4_i32
  let v76 : BitVec 32 := Scalar.addi v74 v75
  let v77 : BitVec 32 := Scalar.addi v76 c0_i32_29
  let v106 : Index := Scalar.indexCast v77
  let c3 : Index := 3#32
  ![v106.toNat, 3]
def k0_off6 (i : grid0.Coords) (c0_i32_29 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32 : BitVec 32 := 8#32
  let v74 : BitVec 32 := Scalar.muli v26 c8_i32
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32 : BitVec 32 := 4#32
  let v75 : BitVec 32 := Scalar.muli v9 c4_i32
  let v76 : BitVec 32 := Scalar.addi v74 v75
  let v77 : BitVec 32 := Scalar.addi v76 c0_i32_29
  let v112 : Index := Scalar.indexCast v77
  let c4 : Index := 4#32
  ![v112.toNat, 4]
def k0_off7 (i : grid0.Coords) (c0_i32_42 : BitVec 32) : Fin 3 → Nat :=
  let c0_43 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_41 : BitVec 32 := 4#32
  let v129 : BitVec 32 := Scalar.muli v9 c4_i32_41
  let v130 : BitVec 32 := Scalar.addi v129 c0_i32_42
  let v131 : Index := Scalar.indexCast v130
  let c9600 : Index := 9600#32
  ![0, v131.toNat, 9600]
@[reducible] def k0_t1_loop : Scf.Loop 32 :=
  let c0_i32_192 : BitVec 32 := 0#32
  let c15_i32 : BitVec 32 := 15#32
  let v478 : BitVec 32 := Scalar.addi c0_i32_192 c15_i32
  let c1_i32_193 : BitVec 32 := 1#32
  ⟨c0_i32_192, v478, c1_i32_193⟩
def k0_mult1 (k0_t1 : Fin k0_t1_loop.trips) : BitVec 32 :=
  let c0_i32_495 : BitVec 32 := 0#32
  let c0_i32_192 : BitVec 32 := 0#32
  let c1_i32_193 : BitVec 32 := 1#32
  let arg20 : BitVec 32 := Scf.iv c0_i32_192 c1_i32_193 k0_t1
  let c1_i32_494 : BitVec 32 := 1#32
  let v1061 : BitVec 32 := Scalar.muli arg20 c1_i32_494
  let v1062 : BitVec 32 := Scalar.addi c0_i32_495 v1061
  let c640_i32 : BitVec 32 := 640#32
  let v1064 : BitVec 32 := Scalar.muli v1062 c640_i32
  v1064
def k0_off8 (k0_t1 : Fin k0_t1_loop.trips) : Fin 3 → Nat :=
  let c0_502 : Index := 0#32
  let c0_i32_495 : BitVec 32 := 0#32
  let c0_i32_192 : BitVec 32 := 0#32
  let c1_i32_193 : BitVec 32 := 1#32
  let arg20 : BitVec 32 := Scf.iv c0_i32_192 c1_i32_193 k0_t1
  let c1_i32_494 : BitVec 32 := 1#32
  let v1061 : BitVec 32 := Scalar.muli arg20 c1_i32_494
  let v1062 : BitVec 32 := Scalar.addi c0_i32_495 v1061
  let c640_i32 : BitVec 32 := 640#32
  let v1064 : BitVec 32 := Scalar.muli v1062 c640_i32
  let v1065 : BitVec 32 := v1064
  let v1068 : Index := Scalar.indexCast v1065
  let c0_503 : Index := 0#32
  ![0, v1068.toNat, 0]
def k0_off9 (i : grid0.Coords) (k0_t1 : Fin k0_t1_loop.trips) : Fin 3 → Nat :=
  let c0_505 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1072 : Index := Scalar.indexCast v9
  let c0_i32_495 : BitVec 32 := 0#32
  let c0_i32_192 : BitVec 32 := 0#32
  let c1_i32_193 : BitVec 32 := 1#32
  let arg20 : BitVec 32 := Scf.iv c0_i32_192 c1_i32_193 k0_t1
  let c1_i32_494 : BitVec 32 := 1#32
  let v1061 : BitVec 32 := Scalar.muli arg20 c1_i32_494
  let v1062 : BitVec 32 := Scalar.addi c0_i32_495 v1061
  let c640_i32 : BitVec 32 := 640#32
  let v1064 : BitVec 32 := Scalar.muli v1062 c640_i32
  let v1065 : BitVec 32 := v1064
  let v1073 : Index := Scalar.indexCast v1065
  ![0, v1072.toNat, v1073.toNat]
def k0_off10 (i : grid0.Coords) (c0_i32_513 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32_511 : BitVec 32 := 8#32
  let v1088 : BitVec 32 := Scalar.muli v26 c8_i32_511
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_512 : BitVec 32 := 4#32
  let v1089 : BitVec 32 := Scalar.muli v9 c4_i32_512
  let v1090 : BitVec 32 := Scalar.addi v1088 v1089
  let v1091 : BitVec 32 := Scalar.addi v1090 c0_i32_513
  let v1103 : Index := Scalar.indexCast v1091
  let c0_518 : Index := 0#32
  ![v1103.toNat, 0]
def k0_off11 (i : grid0.Coords) (c0_i32_513 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32_511 : BitVec 32 := 8#32
  let v1088 : BitVec 32 := Scalar.muli v26 c8_i32_511
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_512 : BitVec 32 := 4#32
  let v1089 : BitVec 32 := Scalar.muli v9 c4_i32_512
  let v1090 : BitVec 32 := Scalar.addi v1088 v1089
  let v1091 : BitVec 32 := Scalar.addi v1090 c0_i32_513
  let v1109 : Index := Scalar.indexCast v1091
  let c1_520 : Index := 1#32
  ![v1109.toNat, 1]
def k0_off12 (i : grid0.Coords) (c0_i32_513 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32_511 : BitVec 32 := 8#32
  let v1088 : BitVec 32 := Scalar.muli v26 c8_i32_511
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_512 : BitVec 32 := 4#32
  let v1089 : BitVec 32 := Scalar.muli v9 c4_i32_512
  let v1090 : BitVec 32 := Scalar.addi v1088 v1089
  let v1091 : BitVec 32 := Scalar.addi v1090 c0_i32_513
  let v1115 : Index := Scalar.indexCast v1091
  let c2_522 : Index := 2#32
  ![v1115.toNat, 2]
def k0_off13 (i : grid0.Coords) (c0_i32_513 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32_511 : BitVec 32 := 8#32
  let v1088 : BitVec 32 := Scalar.muli v26 c8_i32_511
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_512 : BitVec 32 := 4#32
  let v1089 : BitVec 32 := Scalar.muli v9 c4_i32_512
  let v1090 : BitVec 32 := Scalar.addi v1088 v1089
  let v1091 : BitVec 32 := Scalar.addi v1090 c0_i32_513
  let v1121 : Index := Scalar.indexCast v1091
  let c3_524 : Index := 3#32
  ![v1121.toNat, 3]
def k0_off14 (i : grid0.Coords) (c0_i32_513 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32_511 : BitVec 32 := 8#32
  let v1088 : BitVec 32 := Scalar.muli v26 c8_i32_511
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_512 : BitVec 32 := 4#32
  let v1089 : BitVec 32 := Scalar.muli v9 c4_i32_512
  let v1090 : BitVec 32 := Scalar.addi v1088 v1089
  let v1091 : BitVec 32 := Scalar.addi v1090 c0_i32_513
  let v1127 : Index := Scalar.indexCast v1091
  let c4_526 : Index := 4#32
  ![v1127.toNat, 4]
def k0_off15 (i : grid0.Coords) (k0_t1 : Fin k0_t1_loop.trips) (c0_i32_533 : BitVec 32) : Fin 3 → Nat :=
  let c0_534 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_532 : BitVec 32 := 4#32
  let v1144 : BitVec 32 := Scalar.muli v9 c4_i32_532
  let v1145 : BitVec 32 := Scalar.addi v1144 c0_i32_533
  let v1146 : Index := Scalar.indexCast v1145
  let c0_i32_495 : BitVec 32 := 0#32
  let c0_i32_192 : BitVec 32 := 0#32
  let c1_i32_193 : BitVec 32 := 1#32
  let arg20 : BitVec 32 := Scf.iv c0_i32_192 c1_i32_193 k0_t1
  let c1_i32_494 : BitVec 32 := 1#32
  let v1061 : BitVec 32 := Scalar.muli arg20 c1_i32_494
  let v1062 : BitVec 32 := Scalar.addi c0_i32_495 v1061
  let c640_i32 : BitVec 32 := 640#32
  let v1064 : BitVec 32 := Scalar.muli v1062 c640_i32
  let v1065 : BitVec 32 := v1064
  let v1147 : Index := Scalar.indexCast v1065
  ![0, v1146.toNat, v1147.toNat]
def k0_mult2 (k0_t1 : Fin k0_t1_loop.trips) : BitVec 32 :=
  let c0_i32_495 : BitVec 32 := 0#32
  let c0_i32_192 : BitVec 32 := 0#32
  let c1_i32_193 : BitVec 32 := 1#32
  let arg20 : BitVec 32 := Scf.iv c0_i32_192 c1_i32_193 k0_t1
  let c1_i32_494 : BitVec 32 := 1#32
  let v1061 : BitVec 32 := Scalar.muli arg20 c1_i32_494
  let v1062 : BitVec 32 := Scalar.addi c0_i32_495 v1061
  let c640_i32_542 : BitVec 32 := 640#32
  let v1172 : BitVec 32 := Scalar.muli v1062 c640_i32_542
  v1172
def k0_mult3 (k0_t1 : Fin k0_t1_loop.trips) : BitVec 32 :=
  let c0_i32_495 : BitVec 32 := 0#32
  let c0_i32_192 : BitVec 32 := 0#32
  let c1_i32_193 : BitVec 32 := 1#32
  let arg20 : BitVec 32 := Scf.iv c0_i32_192 c1_i32_193 k0_t1
  let c1_i32_494 : BitVec 32 := 1#32
  let v1061 : BitVec 32 := Scalar.muli arg20 c1_i32_494
  let v1062 : BitVec 32 := Scalar.addi c0_i32_495 v1061
  let c640_i32_588 : BitVec 32 := 640#32
  let v1280 : BitVec 32 := Scalar.muli v1062 c640_i32_588
  v1280
def k0_mult4 (k0_t1 : Fin k0_t1_loop.trips) : BitVec 32 :=
  let c0_i32_495 : BitVec 32 := 0#32
  let c0_i32_192 : BitVec 32 := 0#32
  let c1_i32_193 : BitVec 32 := 1#32
  let arg20 : BitVec 32 := Scf.iv c0_i32_192 c1_i32_193 k0_t1
  let c1_i32_494 : BitVec 32 := 1#32
  let v1061 : BitVec 32 := Scalar.muli arg20 c1_i32_494
  let v1062 : BitVec 32 := Scalar.addi c0_i32_495 v1061
  let c640_i32_634 : BitVec 32 := 640#32
  let v1388 : BitVec 32 := Scalar.muli v1062 c640_i32_634
  v1388
@[reducible] def k0_t2_loop : Scf.Loop 32 :=
  let c0_i32_436 : BitVec 32 := 0#32
  let c15_i32_437 : BitVec 32 := 15#32
  let v976 : BitVec 32 := Scalar.addi c0_i32_436 c15_i32_437
  let c1_i32_438 : BitVec 32 := 1#32
  ⟨c0_i32_436, v976, c1_i32_438⟩
def k0_mult5 (k0_t2 : Fin k0_t2_loop.trips) : BitVec 32 :=
  let c0_i32_495 : BitVec 32 := 0#32
  let c0_i32_436 : BitVec 32 := 0#32
  let c1_i32_438 : BitVec 32 := 1#32
  let arg20 : BitVec 32 := Scf.iv c0_i32_436 c1_i32_438 k0_t2
  let c1_i32_494 : BitVec 32 := 1#32
  let v1061 : BitVec 32 := Scalar.muli arg20 c1_i32_494
  let v1062 : BitVec 32 := Scalar.addi c0_i32_495 v1061
  let c640_i32 : BitVec 32 := 640#32
  let v1063 : BitVec 32 := Scalar.muli v1062 c640_i32
  v1063
def k0_off16 (k0_t2 : Fin k0_t2_loop.trips) : Fin 3 → Nat :=
  let c0_496 : Index := 0#32
  let c0_i32_495 : BitVec 32 := 0#32
  let c0_i32_436 : BitVec 32 := 0#32
  let c1_i32_438 : BitVec 32 := 1#32
  let arg20 : BitVec 32 := Scf.iv c0_i32_436 c1_i32_438 k0_t2
  let c1_i32_494 : BitVec 32 := 1#32
  let v1061 : BitVec 32 := Scalar.muli arg20 c1_i32_494
  let v1062 : BitVec 32 := Scalar.addi c0_i32_495 v1061
  let c640_i32 : BitVec 32 := 640#32
  let v1063 : BitVec 32 := Scalar.muli v1062 c640_i32
  let v1064 : BitVec 32 := v1063
  let v1065 : Index := Scalar.indexCast v1064
  let c0_497 : Index := 0#32
  ![0, v1065.toNat, 0]
def k0_mult6 (k0_t2 : Fin k0_t2_loop.trips) : BitVec 32 :=
  let c0_i32_495 : BitVec 32 := 0#32
  let c0_i32_436 : BitVec 32 := 0#32
  let c1_i32_438 : BitVec 32 := 1#32
  let arg20 : BitVec 32 := Scf.iv c0_i32_436 c1_i32_438 k0_t2
  let c1_i32_494 : BitVec 32 := 1#32
  let v1061 : BitVec 32 := Scalar.muli arg20 c1_i32_494
  let v1062 : BitVec 32 := Scalar.addi c0_i32_495 v1061
  let c640_i32_498 : BitVec 32 := 640#32
  let v1069 : BitVec 32 := Scalar.muli v1062 c640_i32_498
  v1069
def k0_off17 (i : grid0.Coords) (k0_t2 : Fin k0_t2_loop.trips) : Fin 3 → Nat :=
  let c0_506 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1077 : Index := Scalar.indexCast v9
  let c0_i32_495 : BitVec 32 := 0#32
  let c0_i32_436 : BitVec 32 := 0#32
  let c1_i32_438 : BitVec 32 := 1#32
  let arg20 : BitVec 32 := Scf.iv c0_i32_436 c1_i32_438 k0_t2
  let c1_i32_494 : BitVec 32 := 1#32
  let v1061 : BitVec 32 := Scalar.muli arg20 c1_i32_494
  let v1062 : BitVec 32 := Scalar.addi c0_i32_495 v1061
  let c640_i32_498 : BitVec 32 := 640#32
  let v1069 : BitVec 32 := Scalar.muli v1062 c640_i32_498
  let v1070 : BitVec 32 := v1069
  let v1078 : Index := Scalar.indexCast v1070
  ![0, v1077.toNat, v1078.toNat]
def k0_off18 (i : grid0.Coords) (c0_i32_514 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32_512 : BitVec 32 := 8#32
  let v1093 : BitVec 32 := Scalar.muli v26 c8_i32_512
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_513 : BitVec 32 := 4#32
  let v1094 : BitVec 32 := Scalar.muli v9 c4_i32_513
  let v1095 : BitVec 32 := Scalar.addi v1093 v1094
  let v1096 : BitVec 32 := Scalar.addi v1095 c0_i32_514
  let v1108 : Index := Scalar.indexCast v1096
  let c0_519 : Index := 0#32
  ![v1108.toNat, 0]
def k0_off19 (i : grid0.Coords) (c0_i32_514 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32_512 : BitVec 32 := 8#32
  let v1093 : BitVec 32 := Scalar.muli v26 c8_i32_512
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_513 : BitVec 32 := 4#32
  let v1094 : BitVec 32 := Scalar.muli v9 c4_i32_513
  let v1095 : BitVec 32 := Scalar.addi v1093 v1094
  let v1096 : BitVec 32 := Scalar.addi v1095 c0_i32_514
  let v1114 : Index := Scalar.indexCast v1096
  let c1_521 : Index := 1#32
  ![v1114.toNat, 1]
def k0_off20 (i : grid0.Coords) (c0_i32_514 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32_512 : BitVec 32 := 8#32
  let v1093 : BitVec 32 := Scalar.muli v26 c8_i32_512
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_513 : BitVec 32 := 4#32
  let v1094 : BitVec 32 := Scalar.muli v9 c4_i32_513
  let v1095 : BitVec 32 := Scalar.addi v1093 v1094
  let v1096 : BitVec 32 := Scalar.addi v1095 c0_i32_514
  let v1120 : Index := Scalar.indexCast v1096
  let c2_523 : Index := 2#32
  ![v1120.toNat, 2]
def k0_off21 (i : grid0.Coords) (c0_i32_514 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32_512 : BitVec 32 := 8#32
  let v1093 : BitVec 32 := Scalar.muli v26 c8_i32_512
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_513 : BitVec 32 := 4#32
  let v1094 : BitVec 32 := Scalar.muli v9 c4_i32_513
  let v1095 : BitVec 32 := Scalar.addi v1093 v1094
  let v1096 : BitVec 32 := Scalar.addi v1095 c0_i32_514
  let v1126 : Index := Scalar.indexCast v1096
  let c3_525 : Index := 3#32
  ![v1126.toNat, 3]
def k0_off22 (i : grid0.Coords) (c0_i32_514 : BitVec 32) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c2_i32_3 : BitVec 32 := 2#32
  let c0_i32_6 : BitVec 32 := 0#32
  let v16 : BitVec 1 := Scalar.cmpi .sgt c2_i32_3 c0_i32_6
  let v17 : BitVec 32 := Scalar.extui v16
  let c0_i32_7 : BitVec 32 := 0#32
  let v18 : BitVec 1 := Scalar.cmpi .slt c2_i32_3 c0_i32_7
  let v19 : BitVec 32 := Scalar.extui v18
  let v20 : BitVec 32 := Scalar.subi v17 v19
  let v21 : BitVec 1 := Scalar.cmpi .ne v15 v20
  let v22 : BitVec 32 := Scalar.remsi arg0 c2_i32_3
  let c0_i32_8 : BitVec 32 := 0#32
  let v23 : BitVec 1 := Scalar.cmpi .ne v22 c0_i32_8
  let v24 : BitVec 1 := Scalar.andi v21 v23
  let v10 : BitVec 32 := Scalar.divsi arg0 c2_i32_3
  let c1_i32_9 : BitVec 32 := 1#32
  let v25 : BitVec 32 := Scalar.subi v10 c1_i32_9
  let v26 : BitVec 32 := Scalar.select v24 v25 v10
  let c8_i32_512 : BitVec 32 := 8#32
  let v1093 : BitVec 32 := Scalar.muli v26 c8_i32_512
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_513 : BitVec 32 := 4#32
  let v1094 : BitVec 32 := Scalar.muli v9 c4_i32_513
  let v1095 : BitVec 32 := Scalar.addi v1093 v1094
  let v1096 : BitVec 32 := Scalar.addi v1095 c0_i32_514
  let v1132 : Index := Scalar.indexCast v1096
  let c4_527 : Index := 4#32
  ![v1132.toNat, 4]
def k0_off23 (i : grid0.Coords) (k0_t2 : Fin k0_t2_loop.trips) (c0_i32_534 : BitVec 32) : Fin 3 → Nat :=
  let c0_535 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_533 : BitVec 32 := 4#32
  let v1149 : BitVec 32 := Scalar.muli v9 c4_i32_533
  let v1150 : BitVec 32 := Scalar.addi v1149 c0_i32_534
  let v1151 : Index := Scalar.indexCast v1150
  let c0_i32_495 : BitVec 32 := 0#32
  let c0_i32_436 : BitVec 32 := 0#32
  let c1_i32_438 : BitVec 32 := 1#32
  let arg20 : BitVec 32 := Scf.iv c0_i32_436 c1_i32_438 k0_t2
  let c1_i32_494 : BitVec 32 := 1#32
  let v1061 : BitVec 32 := Scalar.muli arg20 c1_i32_494
  let v1062 : BitVec 32 := Scalar.addi c0_i32_495 v1061
  let c640_i32_498 : BitVec 32 := 640#32
  let v1069 : BitVec 32 := Scalar.muli v1062 c640_i32_498
  let v1070 : BitVec 32 := v1069
  let v1152 : Index := Scalar.indexCast v1070
  ![0, v1151.toNat, v1152.toNat]
def k0_mult7 (k0_t2 : Fin k0_t2_loop.trips) : BitVec 32 :=
  let c0_i32_495 : BitVec 32 := 0#32
  let c0_i32_436 : BitVec 32 := 0#32
  let c1_i32_438 : BitVec 32 := 1#32
  let arg20 : BitVec 32 := Scf.iv c0_i32_436 c1_i32_438 k0_t2
  let c1_i32_494 : BitVec 32 := 1#32
  let v1061 : BitVec 32 := Scalar.muli arg20 c1_i32_494
  let v1062 : BitVec 32 := Scalar.addi c0_i32_495 v1061
  let c640_i32_550 : BitVec 32 := 640#32
  let v1188 : BitVec 32 := Scalar.muli v1062 c640_i32_550
  v1188
def k0_mult8 (k0_t2 : Fin k0_t2_loop.trips) : BitVec 32 :=
  let c0_i32_495 : BitVec 32 := 0#32
  let c0_i32_436 : BitVec 32 := 0#32
  let c1_i32_438 : BitVec 32 := 1#32
  let arg20 : BitVec 32 := Scf.iv c0_i32_436 c1_i32_438 k0_t2
  let c1_i32_494 : BitVec 32 := 1#32
  let v1061 : BitVec 32 := Scalar.muli arg20 c1_i32_494
  let v1062 : BitVec 32 := Scalar.addi c0_i32_495 v1061
  let c640_i32_603 : BitVec 32 := 640#32
  let v1307 : BitVec 32 := Scalar.muli v1062 c640_i32_603
  v1307
def k0_mult9 (k0_t2 : Fin k0_t2_loop.trips) : BitVec 32 :=
  let c0_i32_495 : BitVec 32 := 0#32
  let c0_i32_436 : BitVec 32 := 0#32
  let c1_i32_438 : BitVec 32 := 1#32
  let arg20 : BitVec 32 := Scf.iv c0_i32_436 c1_i32_438 k0_t2
  let c1_i32_494 : BitVec 32 := 1#32
  let v1061 : BitVec 32 := Scalar.muli arg20 c1_i32_494
  let v1062 : BitVec 32 := Scalar.addi c0_i32_495 v1061
  let c640_i32_656 : BitVec 32 := 640#32
  let v1426 : BitVec 32 := Scalar.muli v1062 c640_i32_656
  v1426
def k0_off24 (i : grid0.Coords) : Fin 3 → Nat :=
  let c0_445 : Index := 0#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v981 : Index := Scalar.indexCast v9
  let c0_446 : Index := 0#32
  ![0, v981.toNat, 0]
def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x4x64x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9600x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x9600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x9600x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x640x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x640x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x8x10240 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S3x8x160 : Shape := ⟨3, ![3, 8, 160]⟩
abbrev S3x8x10240 : Shape := ⟨3, ![3, 8, 10240]⟩
abbrev S3x8x640x128 : Shape := ⟨4, ![3, 8, 640, 128]⟩
abbrev S3x640x8 : Shape := ⟨3, ![3, 640, 8]⟩
abbrev S6x9600x128 : Shape := ⟨3, ![6, 9600, 128]⟩
abbrev S3x2x9600 : Shape := ⟨3, ![3, 2, 9600]⟩
abbrev S3x2x128 : Shape := ⟨3, ![3, 2, 128]⟩
abbrev S6x640x128 : Shape := ⟨3, ![6, 640, 128]⟩
abbrev S3x2x640 : Shape := ⟨3, ![3, 2, 640]⟩
abbrev S6x4x640x128 : Shape := ⟨4, ![6, 4, 640, 128]⟩
abbrev S3x8x640 : Shape := ⟨3, ![3, 8, 640]⟩
abbrev S_ : Shape := ⟨0, ![]⟩
abbrev S6x4x640 : Shape := ⟨3, ![6, 4, 640]⟩
abbrev S3x8x159 : Shape := ⟨3, ![3, 8, 159]⟩
abbrev S3x8x1 : Shape := ⟨3, ![3, 8, 1]⟩
abbrev S3x8x320 : Shape := ⟨3, ![3, 8, 320]⟩
abbrev S3x8x320x64 : Shape := ⟨4, ![3, 8, 320, 64]⟩
abbrev S3x8x20480 : Shape := ⟨3, ![3, 8, 20480]⟩
abbrev S3x8x1x10240 : Shape := ⟨4, ![3, 8, 1, 10240]⟩
abbrev S3x8x10x10240 : Shape := ⟨4, ![3, 8, 10, 10240]⟩
abbrev S6x4x10x10240 : Shape := ⟨4, ![6, 4, 10, 10240]⟩
abbrev S6x4x10x64x10240 : Shape := ⟨5, ![6, 4, 10, 64, 10240]⟩
abbrev S6x4x640x10240 : Shape := ⟨4, ![6, 4, 640, 10240]⟩
abbrev S640 : Shape := ⟨1, ![640]⟩
abbrev S1x640 : Shape := ⟨2, ![1, 640]⟩
abbrev S640x1 : Shape := ⟨2, ![640, 1]⟩
abbrev S640x640 : Shape := ⟨2, ![640, 640]⟩
abbrev S6x4x640x9600 : Shape := ⟨4, ![6, 4, 640, 9600]⟩
abbrev S6x4x640x1 : Shape := ⟨4, ![6, 4, 640, 1]⟩
abbrev S6x1x1x9600 : Shape := ⟨4, ![6, 1, 1, 9600]⟩
abbrev S6x4x640x640 : Shape := ⟨4, ![6, 4, 640, 640]⟩
abbrev S6x1x1x640 : Shape := ⟨4, ![6, 1, 1, 640]⟩
abbrev S6x1x1x128 : Shape := ⟨4, ![6, 1, 1, 128]⟩
abbrev S3x640x8x128 : Shape := ⟨4, ![3, 640, 8, 128]⟩
abbrev S3x640x1024 : Shape := ⟨3, ![3, 640, 1024]⟩

abbrev nBuf : Space → Nat
  | .hbm => 135
  | .vmem => 10
  | .smem => 0
  | _ => 0

abbrev hbmTy0_0 (i : Nat) : BufTy := match i % 128 with
  | 0 => ⟨S3x8x160, .i1⟩
  | 1 => ⟨S3x8x10240, .i1⟩
  | 2 => ⟨S3x8x640x128, .fp8e4m3⟩
  | 3 => ⟨S3x640x8, .f32⟩
  | 4 => ⟨S6x9600x128, .fp8e4m3⟩
  | 5 => ⟨S3x2x9600, .f32⟩
  | 6 => ⟨S6x9600x128, .fp8e4m3⟩
  | 7 => ⟨S3x2x128, .f32⟩
  | 8 => ⟨S6x640x128, .fp8e4m3⟩
  | 9 => ⟨S3x2x640, .f32⟩
  | 10 => ⟨S6x640x128, .fp8e4m3⟩
  | 11 => ⟨S3x2x128, .f32⟩
  | 12 => ⟨S3x8x640x128, .f32⟩
  | 13 => ⟨S6x9600x128, .f32⟩
  | 14 => ⟨S6x9600x128, .bf16⟩
  | 15 => ⟨S6x640x128, .f32⟩
  | 16 => ⟨S6x640x128, .bf16⟩
  | 17 => ⟨S6x4x640x128, .f32⟩
  | 18 => ⟨S3x8x640, .f32⟩
  | 19 => ⟨S_, .f32⟩
  | 20 => ⟨S3x8x640, .f32⟩
  | 21 => ⟨S3x8x640, .f32⟩
  | 22 => ⟨S6x4x640, .f32⟩
  | 23 => ⟨S3x8x159, .i1⟩
  | 24 => ⟨S3x8x159, .i1⟩
  | 25 => ⟨S3x8x1, .i1⟩
  | 26 => ⟨S_, .i1⟩
  | 27 => ⟨S3x8x1, .i1⟩
  | 28 => ⟨S_, .i1⟩
  | 29 => ⟨S3x8x160, .i1⟩
  | 30 => ⟨S3x8x320, .i1⟩
  | 31 => ⟨S3x8x320x64, .i1⟩
  | 32 => ⟨S3x8x20480, .i1⟩
  | 33 => ⟨S3x8x10240, .i1⟩
  | 34 => ⟨S3x8x10240, .i1⟩
  | 35 => ⟨S3x8x10240, .i1⟩
  | 36 => ⟨S3x8x10240, .i1⟩
  | 37 => ⟨S3x8x10240, .i1⟩
  | 38 => ⟨S3x8x10240, .i1⟩
  | 39 => ⟨S3x8x10240, .i1⟩
  | 40 => ⟨S3x8x10240, .i1⟩
  | 41 => ⟨S3x8x10240, .i1⟩
  | 42 => ⟨S3x8x10240, .i1⟩
  | 43 => ⟨S3x8x1x10240, .i1⟩
  | 44 => ⟨S3x8x1x10240, .i1⟩
  | 45 => ⟨S3x8x1x10240, .i1⟩
  | 46 => ⟨S3x8x1x10240, .i1⟩
  | 47 => ⟨S3x8x1x10240, .i1⟩
  | 48 => ⟨S3x8x1x10240, .i1⟩
  | 49 => ⟨S3x8x1x10240, .i1⟩
  | 50 => ⟨S3x8x1x10240, .i1⟩
  | 51 => ⟨S3x8x1x10240, .i1⟩
  | 52 => ⟨S3x8x1x10240, .i1⟩
  | 53 => ⟨S3x8x10x10240, .i1⟩
  | 54 => ⟨S3x8x1x10240, .i1⟩
  | 55 => ⟨S3x8x10x10240, .i1⟩
  | 56 => ⟨S3x8x10x10240, .i1⟩
  | 57 => ⟨S_, .f32⟩
  | 58 => ⟨S_, .f32⟩
  | 59 => ⟨S3x8x10x10240, .f32⟩
  | 60 => ⟨S3x8x10x10240, .f32⟩
  | 61 => ⟨S3x8x10x10240, .f32⟩
  | 62 => ⟨S3x8x10x10240, .f32⟩
  | 63 => ⟨S6x4x10x10240, .f32⟩
  | 64 => ⟨S6x4x10x64x10240, .f32⟩
  | 65 => ⟨S6x4x640x10240, .f32⟩
  | 66 => ⟨S640, .i32⟩
  | 67 => ⟨S1x640, .i32⟩
  | 68 => ⟨S640, .i32⟩
  | 69 => ⟨S640x1, .i32⟩
  | 70 => ⟨S640x640, .i32⟩
  | 71 => ⟨S640x640, .i32⟩
  | 72 => ⟨S640x640, .i1⟩
  | 73 => ⟨S6x4x640x9600, .f32⟩
  | 74 => ⟨S6x4x640x1, .f32⟩
  | 75 => ⟨S6x4x640x9600, .f32⟩
  | 76 => ⟨S6x4x640x9600, .f32⟩
  | 77 => ⟨S6x1x1x9600, .f32⟩
  | 78 => ⟨S6x4x640x9600, .f32⟩
  | 79 => ⟨S6x4x640x9600, .f32⟩
  | 80 => ⟨S6x4x640x9600, .f32⟩
  | 81 => ⟨S6x4x640x9600, .f32⟩
  | 82 => ⟨S6x4x640x640, .f32⟩
  | 83 => ⟨S6x4x640x1, .f32⟩
  | 84 => ⟨S6x4x640x640, .f32⟩
  | 85 => ⟨S6x4x640x640, .f32⟩
  | 86 => ⟨S6x1x1x640, .f32⟩
  | 87 => ⟨S6x4x640x640, .f32⟩
  | 88 => ⟨S6x4x640x640, .f32⟩
  | 89 => ⟨S6x4x640x640, .f32⟩
  | 90 => ⟨S6x4x640x640, .f32⟩
  | 91 => ⟨S_, .f32⟩
  | 92 => ⟨S_, .f32⟩
  | 93 => ⟨S6x4x640x640, .i1⟩
  | 94 => ⟨S6x4x640x640, .f32⟩
  | 95 => ⟨S6x4x640x640, .f32⟩
  | 96 => ⟨S_, .f32⟩
  | 97 => ⟨S6x4x640, .f32⟩
  | 98 => ⟨S_, .f32⟩
  | 99 => ⟨S6x4x640, .f32⟩
  | 100 => ⟨S6x4x640, .f32⟩
  | 101 => ⟨S6x4x640, .f32⟩
  | 102 => ⟨S6x4x640x1, .f32⟩
  | 103 => ⟨S_, .f32⟩
  | 104 => ⟨S6x4x640x9600, .f32⟩
  | 105 => ⟨S6x4x640x9600, .f32⟩
  | 106 => ⟨S6x4x640x9600, .f32⟩
  | 107 => ⟨S6x4x640x9600, .f32⟩
  | 108 => ⟨S_, .f32⟩
  | 109 => ⟨S6x4x640x640, .f32⟩
  | 110 => ⟨S6x4x640x640, .f32⟩
  | 111 => ⟨S6x4x640x640, .f32⟩
  | 112 => ⟨S6x4x640x640, .f32⟩
  | 113 => ⟨S_, .f32⟩
  | 114 => ⟨S6x4x640, .f32⟩
  | 115 => ⟨S_, .f32⟩
  | 116 => ⟨S6x4x640, .f32⟩
  | 117 => ⟨S6x4x640, .f32⟩
  | 118 => ⟨S6x4x640x9600, .bf16⟩
  | 119 => ⟨S6x4x640x128, .f32⟩
  | 120 => ⟨S6x4x640x640, .bf16⟩
  | 121 => ⟨S6x4x640x128, .f32⟩
  | 122 => ⟨S6x1x1x128, .f32⟩
  | 123 => ⟨S6x4x640x128, .f32⟩
  | 124 => ⟨S6x4x640x128, .f32⟩
  | 125 => ⟨S6x1x1x128, .f32⟩
  | 126 => ⟨S6x4x640x128, .f32⟩
  | 127 => ⟨S6x4x640x128, .f32⟩
  | _ => ⟨S3x8x160, .i1⟩

abbrev hbmTy0_1 (i : Nat) : BufTy := match i % 128 with
  | 0 => ⟨S6x4x640x128, .f32⟩
  | 1 => ⟨S6x4x640x1, .f32⟩
  | 2 => ⟨S6x4x640x128, .f32⟩
  | 3 => ⟨S6x4x640x128, .f32⟩
  | 4 => ⟨S3x8x640x128, .f32⟩
  | 5 => ⟨S3x640x8x128, .f32⟩
  | 6 => ⟨S3x640x1024, .f32⟩
  | _ => ⟨S3x8x160, .i1⟩

abbrev hbmTy (i : Nat) : BufTy := match i / 128 with
  | 0 => hbmTy0_0 i
  | 1 => hbmTy0_1 i
  | _ => ⟨S3x8x160, .i1⟩

abbrev bufTy : (tb : Table) → Fin (tcTables nBuf tb) → BufTy
  | .hbm, ⟨i, _⟩ => hbmTy i
  | .local _ .vmem, ⟨0, _⟩ => ⟨S3x8x640x128, .fp8e4m3⟩
  | .local _ .vmem, ⟨1, _⟩ => ⟨S6x9600x128, .fp8e4m3⟩
  | .local _ .vmem, ⟨2, _⟩ => ⟨S6x9600x128, .fp8e4m3⟩
  | .local _ .vmem, ⟨3, _⟩ => ⟨S6x640x128, .fp8e4m3⟩
  | .local _ .vmem, ⟨4, _⟩ => ⟨S6x640x128, .fp8e4m3⟩
  | .local _ .vmem, ⟨5, _⟩ => ⟨S3x8x640x128, .f32⟩
  | .local _ .vmem, ⟨6, _⟩ => ⟨S6x9600x128, .f32⟩
  | .local _ .vmem, ⟨7, _⟩ => ⟨S6x9600x128, .bf16⟩
  | .local _ .vmem, ⟨8, _⟩ => ⟨S6x640x128, .f32⟩
  | .local _ .vmem, ⟨9, _⟩ => ⟨S6x640x128, .bf16⟩
  | _, _ => ⟨S3x8x160, .i1⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c : Ref sig .tc := ⟨.hbm, 26, rfl⟩
abbrev main_v9 : Ref sig .tc := ⟨.hbm, 27, rfl⟩
abbrev main_c_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_1 : Ref sig .tc := ⟨.hbm, 57, rfl⟩
abbrev main_cst_2 : Ref sig .tc := ⟨.hbm, 58, rfl⟩
abbrev main_call0_v0 : Ref sig .tc := ⟨.hbm, 59, rfl⟩
abbrev main_call0_v1 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_3 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v68 : Ref sig .tc := ⟨.hbm, 95, rfl⟩
abbrev main_cst_4 : Ref sig .tc := ⟨.hbm, 96, rfl⟩
abbrev main_v69 : Ref sig .tc := ⟨.hbm, 97, rfl⟩
abbrev main_cst_5 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_6 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_7 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_8 : Ref sig .tc := ⟨.hbm, 113, rfl⟩
abbrev main_v82 : Ref sig .tc := ⟨.hbm, 114, rfl⟩
abbrev main_cst_9 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S3x8x640x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x9600x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x9600x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x640x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x640x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x8x640x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x9600x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x9600x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x640x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x640x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== OutKernel.lean ====
abbrev S1920x1024 : Shape := ⟨2, ![1920, 1024]⟩
abbrev S1920x4096 : Shape := ⟨2, ![1920, 4096]⟩
abbrev S1024x4096 : Shape := ⟨2, ![1024, 4096]⟩
abbrev S1x4096 : Shape := ⟨2, ![1, 4096]⟩
abbrev S15x1x128 : Shape := ⟨3, ![15, 1, 128]⟩
abbrev S128x1024 : Shape := ⟨2, ![128, 1024]⟩
abbrev S128x4096 : Shape := ⟨2, ![128, 4096]⟩
abbrev S1x1x128 : Shape := ⟨3, ![1, 1, 128]⟩
abbrev S128 : Shape := ⟨1, ![128]⟩
abbrev S128x1 : Shape := ⟨2, ![128, 1]⟩
abbrev S128x128 : Shape := ⟨2, ![128, 128]⟩
abbrev S1x128 : Shape := ⟨2, ![1, 128]⟩

abbrev nBuf : Space → Nat
  | .hbm => 8
  | .vmem => 14
  | .smem => 0
  | _ => 0

abbrev bufTy : (tb : Table) → Fin (tcTables nBuf tb) → BufTy
  | .hbm, ⟨0, _⟩ => ⟨S1920x1024, .f32⟩
  | .hbm, ⟨1, _⟩ => ⟨S1920x4096, .bf16⟩
  | .hbm, ⟨2, _⟩ => ⟨S1024x4096, .fp8e4m3⟩
  | .hbm, ⟨3, _⟩ => ⟨S1x4096, .f32⟩
  | .hbm, ⟨4, _⟩ => ⟨S1920x4096, .bf16⟩
  | .hbm, ⟨5, _⟩ => ⟨S1920x1024, .fp8e4m3⟩
  | .hbm, ⟨6, _⟩ => ⟨S15x1x128, .f32⟩
  | .hbm, ⟨7, _⟩ => ⟨S1920x1024, .bf16⟩
  | .local _ .vmem, ⟨0, _⟩ => ⟨S128x1024, .f32⟩
  | .local _ .vmem, ⟨1, _⟩ => ⟨S128x1024, .f32⟩
  | .local _ .vmem, ⟨2, _⟩ => ⟨S128x4096, .bf16⟩
  | .local _ .vmem, ⟨3, _⟩ => ⟨S128x4096, .bf16⟩
  | .local _ .vmem, ⟨4, _⟩ => ⟨S1024x4096, .fp8e4m3⟩
  | .local _ .vmem, ⟨5, _⟩ => ⟨S1x4096, .f32⟩
  | .local _ .vmem, ⟨6, _⟩ => ⟨S128x4096, .bf16⟩
  | .local _ .vmem, ⟨7, _⟩ => ⟨S128x4096, .bf16⟩
  | .local _ .vmem, ⟨8, _⟩ => ⟨S128x1024, .fp8e4m3⟩
  | .local _ .vmem, ⟨9, _⟩ => ⟨S128x1024, .fp8e4m3⟩
  | .local _ .vmem, ⟨10, _⟩ => ⟨S1x1x128, .f32⟩
  | .local _ .vmem, ⟨11, _⟩ => ⟨S1x1x128, .f32⟩
  | .local _ .vmem, ⟨12, _⟩ => ⟨S128x1024, .bf16⟩
  | .local _ .vmem, ⟨13, _⟩ => ⟨S128x1024, .bf16⟩
  | _, _ => ⟨S1920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S1920x1024 : Shape := ⟨2, ![1920, 1024]⟩
abbrev S1920x4096 : Shape := ⟨2, ![1920, 4096]⟩
abbrev S1024x4096 : Shape := ⟨2, ![1024, 4096]⟩
abbrev S1x4096 : Shape := ⟨2, ![1, 4096]⟩
abbrev S15x1x128 : Shape := ⟨3, ![15, 1, 128]⟩
abbrev S1920 : Shape := ⟨1, ![1920]⟩
abbrev S1920x1 : Shape := ⟨2, ![1920, 1]⟩

abbrev nBuf : Space → Nat
  | .hbm => 8
  | .vmem => 8
  | .smem => 0
  | _ => 0

abbrev bufTy : (tb : Table) → Fin (tcTables nBuf tb) → BufTy
  | .hbm, ⟨0, _⟩ => ⟨S1920x1024, .f32⟩
  | .hbm, ⟨1, _⟩ => ⟨S1920x4096, .bf16⟩
  | .hbm, ⟨2, _⟩ => ⟨S1024x4096, .fp8e4m3⟩
  | .hbm, ⟨3, _⟩ => ⟨S1x4096, .f32⟩
  | .hbm, ⟨4, _⟩ => ⟨S1920x4096, .bf16⟩
  | .hbm, ⟨5, _⟩ => ⟨S1920x1024, .fp8e4m3⟩
  | .hbm, ⟨6, _⟩ => ⟨S15x1x128, .f32⟩
  | .hbm, ⟨7, _⟩ => ⟨S1920x1024, .bf16⟩
  | .local _ .vmem, ⟨0, _⟩ => ⟨S1920x1024, .f32⟩
  | .local _ .vmem, ⟨1, _⟩ => ⟨S1920x4096, .bf16⟩
  | .local _ .vmem, ⟨2, _⟩ => ⟨S1024x4096, .fp8e4m3⟩
  | .local _ .vmem, ⟨3, _⟩ => ⟨S1x4096, .f32⟩
  | .local _ .vmem, ⟨4, _⟩ => ⟨S1920x4096, .bf16⟩
  | .local _ .vmem, ⟨5, _⟩ => ⟨S1920x1024, .fp8e4m3⟩
  | .local _ .vmem, ⟨6, _⟩ => ⟨S15x1x128, .f32⟩
  | .local _ .vmem, ⟨7, _⟩ => ⟨S1920x1024, .bf16⟩
  | _, _ => ⟨S1920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1920x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920x1024 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S15x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1920x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Attend.Bits.Loops.lean ====
/- Generated by the certificate tool from the attention program, then edited: the COUNTED LOOPS of `proofs.«01_k».proof.Kernel` as
   obligations — per `scf.for` the class of its invariants `Gen.LoopInvTy_kK_tN` (Lib/Exec.lean `LoopInv` at the
   run's frame and clauses and the loop's lifted region `Gen.kK_tN_body`, Skeleton.lean), with what one trip of
   the region does listed in its docstring. A certificate instances each (`@[sl_loop] def … : Gen.LoopInvTy_kK_tN …
   := ⟨inv, step⟩`, the stub `bootstrap` writes) and `sl_exec` goes through the loop by it, ONCE per trip over a
   symbolic trip — never unrolled. -/
module

public import proofs.«01_k».proof.Proof.Gen.Kernel.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_attend` -/

/-- The class of invariants of `k0_part34`'s counted loop `k0_t1_loop` (`scf.for %arg20 =
   %c0_i32_192 to %478 step %c1_i32_193 : i32 {`), trip `k0_t1`, carrying `Unit`, region
   `Gen.k0_t1_body`. Classifier: AFFINE — every store at a `Rect.unit` whose offsets are a stated
   closed form of the trips, nothing carried, no transfer or conditional inside: the invariant is
   the pieces of the trips before `k`. The region loads back what
   it stores into `arg15` (an accumulation): each trip's pieces are stated as functions of the
   contents it finds there. One trip calls the parts `k0_part1`, `k0_part2`, `k0_part3`, `k0_part4`,
   `k0_part5`, `k0_part6`, `k0_part7`, `k0_part8`, `k0_part9`, `k0_part10`. Per trip it STORES
   through arg15 at ![0, 0]; arg15 at ![64, 0]; arg15 at ![128, 0]; arg15 at ![192, 0]. It LOADS
   through arg15 at ![0, 0]; arg3 at ![0, 0, 0, 0]; arg5 at (k0_off8 k0_t1); arg6 at (k0_off9 i
   k0_t1); arg4 at ![0, 0, 0]; arg2 at (k0_off10 i 0#32); arg2 at (k0_off11 i 0#32); arg2 at
   (k0_off12 i 0#32); arg2 at (k0_off13 i 0#32); arg2 at (k0_off14 i 0#32); arg13 at (k0_off15 i
   k0_t1 0#32); arg15 at ![64, 0]; and more. Generated below: `Gen.loopInv_k0_t1` (`@[sl_loop]`), at
   the frame kit's algebra — a run at that algebra (the generated frame's, or a hand proof's over
   `MT nD τ sig Unit (Elt F) ℕ (UR sig nD τ) ℕ`) goes through the loop with nothing more to state; a
   proof at another algebra instances the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446)

/-! ### `k0_t1_loop`: the generated invariant (classifier: affine) -/

/-- One trip's resources: what the region reads (arg2, arg3, arg4, arg5, arg6, arg13) at its
   contents, what it writes (arg15) at any. -/
abbrev Trip_k0_t1 (c : Dev nD) (arg2 : Memref sig .tc .smem S24x5 .i32) (arg3 : Memref sig .tc .vmem S1x4x64x128 .fp8e4m3) (arg4 : Memref sig .tc .vmem S1x64x8 .f32) (arg5 : Memref sig .tc .vmem S1x9600x128 .fp8e4m3) (arg6 : Memref sig .tc .vmem S1x2x9600 .f32) (arg13 : Memref sig .tc .vmem S1x8x10240 .i32) (arg15 : Memref sig .tc .vmem S256x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (f_arg15 : BufTy.Contents (Elt F) arg15.view.ty) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg13.view.loc (c : Thread nD τ) ↦[arg13.view.set]{fullShare} X_arg13) ∗ (arg15.view.loc (c : Thread nD τ) ↦[arg15.view.set]{fullShare} f_arg15))

/-- ONE TRIP of `k0_t1_loop` at a symbolic `k`, run by `sl_exec` (its rectangles' offsets closed
   forms of `k`, their geometry linear arithmetic): the pieces it writes into arg15 are the run's
   own finds — the witnesses `sl_close` assigns handing the buffers to the continuation, as
   functions of the contents the trip finds in the memrefs it writes (the region loads some of them
   back). `@[irreducible]`: cited, never unfolded. -/
@[irreducible] def trip_k0_t1 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (k : Fin k0_t1_loop.trips) :
    { L_arg15 : (BufTy.Contents (Elt F) arg15.view.ty → List (View.Piece (Elt F) S256x128 .f32)) // ∀ (E : Set ℕ) (f_arg15 : BufTy.Contents (Elt F) arg15.view.ty),
      Trip_k0_t1 (F := F) c arg2 arg3 arg4 arg5 arg6 arg13 arg15 X_arg2 X_arg3 X_arg4 X_arg5 X_arg6 X_arg13 f_arg15
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 k PUnit.unit)
          (fun _ => Trip_k0_t1 (F := F) c arg2 arg3 arg4 arg5 arg6 arg13 arg15 X_arg2 X_arg3 X_arg4 X_arg5 X_arg6 X_arg13 (arg15.view.writes (Elt F) f_arg15 (L_arg15 f_arg15))) } := by
  have hk : k.val < 15 := Nat.lt_of_lt_of_le k.isLt k0_t1_abs.2.1
  refine ⟨?_, fun E f_arg15 => ?run⟩
  case run =>
    unfold k0_t1_body
    iintro ⟨HR_arg2, HR_arg3, HR_arg4, HR_arg5, HR_arg6, HR_arg13, HW_arg15⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (k : Fin k0_t1_loop.trips) (f_arg15 : BufTy.Contents (Elt F) arg15.view.ty) : List (View.Piece (Elt F) S256x128 .f32) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 k).1 f_arg15

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (G_arg15 : BufTy.Contents (Elt F) arg15.view.ty) (k : ℕ) (prev : List (View.Piece (Elt F) S256x128 .f32)) : List (View.Piece (Elt F) S256x128 .f32) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 ⟨k, h⟩ (arg15.view.writes (Elt F) G_arg15 prev)) ++ prev
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (G_arg15 : BufTy.Contents (Elt F) arg15.view.ty) : ℕ → List (View.Piece (Elt F) S256x128 .f32)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 k)

theorem pb_k0_t1_succ (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (G_arg15 : BufTy.Contents (Elt F) arg15.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 k (arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 k.val))) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 k.val) := by
  rw [pb_k0_t1.eq_2]; unfold pb_k0_t1Step; exact dif_pos k.isLt

/-- THE INVARIANT before trip `k`: arg2, arg3, arg4, arg5, arg6, arg13 read at `X_·`; arg15 holding
   the pieces of the trips before `k` written over the contents at loop entry `G_·` (stated `∃ f, …
   ∗ ⌜f = …⌝`, so that a hypothesis of any contents matches and the equation is what is proved). -/
abbrev inv_k0_t1 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (G_arg15 : BufTy.Contents (Elt F) arg15.view.ty) (k : ℕ) (_u : PUnit) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg13.view.loc (c : Thread nD τ) ↦[arg13.view.set]{fullShare} X_arg13) ∗ (∃ f, (arg15.view.loc (c : Thread nD τ) ↦[arg15.view.set]{fullShare} f) ∗ ⌜f = arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (G_arg15 : BufTy.Contents (Elt F) arg15.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15
  step k acc := by
    iintro ⟨HR_arg2, HR_arg3, HR_arg4, HR_arg5, HR_arg6, HR_arg13, ⟨%f_arg15, HW_arg15, %h_arg15⟩⟩
    iapply (wp_wand_r Idealize.ShloMosaic.frame (wpE (defs₀ (F := F)) 𝒱 (c : Thread nD τ) bd) E)
    isplitl [HR_arg2 HR_arg3 HR_arg4 HR_arg5 HR_arg6 HR_arg13 HW_arg15]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 k).2 E f_arg15)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg13]; · iexact HR_arg13
      iexact HW_arg15
    · iintro %_ ⟨HR_arg2, HR_arg3, HR_arg4, HR_arg5, HR_arg6, HR_arg13, HW_arg15⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg13]; · iexact HR_arg13
      rw [pb_k0_t1_succ]
      iexists _; isplitl [HW_arg15]; · iexact HW_arg15
      ipureintro; rw [h_arg15, ← View.writes_append]

/-- The class of invariants of `k0_part47`'s counted loop `k0_t2_loop` (`scf.for %arg20 =
   %c0_i32_436 to %976 step %c1_i32_438 : i32 {`), trip `k0_t2`, carrying `Unit`, region
   `Gen.k0_t2_body`. Classifier: AFFINE — every store at a `Rect.unit` whose offsets are a stated
   closed form of the trips, nothing carried, no transfer or conditional inside: the invariant is
   the pieces of the trips before `k`. The region loads back what
   it stores into `arg17`, `arg18` (an accumulation): each trip's pieces are stated as functions of
   the contents it finds there. One trip calls the parts `k0_part22`, `k0_part11`, `k0_part12`,
   `k0_part13`, `k0_part14`, `k0_part15`, `k0_part16`, `k0_part17`, `k0_part18`, `k0_part19`,
   `k0_part20`, `k0_part21`. Per trip it STORES through arg17 at ![0, 0]; arg18 at ![0, 0]; arg17 at
   ![64, 0]; arg18 at ![64, 0]; arg17 at ![128, 0]; arg18 at ![128, 0]; arg17 at ![192, 0]; arg18 at
   ![192, 0]. It LOADS through arg7 at (k0_off16 k0_t2); arg3 at ![0, 0, 0, 0]; arg5 at (k0_off16
   k0_t2); arg6 at (k0_off17 i k0_t2); arg4 at ![0, 0, 0]; arg2 at (k0_off18 i 0#32); arg2 at
   (k0_off19 i 0#32); arg2 at (k0_off20 i 0#32); arg2 at (k0_off21 i 0#32); arg2 at (k0_off22 i
   0#32); arg13 at (k0_off23 i k0_t2 0#32); arg16 at ![0, 0]; and more. Generated below:
   `Gen.loopInv_k0_t2` (`@[sl_loop]`), at the frame kit's algebra — a run at that algebra (the
   generated frame's, or a hand proof's over `MT nD τ sig Unit (Elt F) ℕ (UR sig nD τ) ℕ`) goes
   through the loop with nothing more to state; a proof at another algebra instances the class
   itself, after this one. -/
abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968)

/-! ### `k0_t2_loop`: the generated invariant (classifier: affine) -/

/-- One trip's resources: what the region reads (arg2, arg3, arg4, arg5, arg6, arg7, arg13, arg16)
   at its contents, what it writes (arg17, arg18) at any. -/
abbrev Trip_k0_t2 (c : Dev nD) (arg2 : Memref sig .tc .smem S24x5 .i32) (arg3 : Memref sig .tc .vmem S1x4x64x128 .fp8e4m3) (arg4 : Memref sig .tc .vmem S1x64x8 .f32) (arg5 : Memref sig .tc .vmem S1x9600x128 .fp8e4m3) (arg6 : Memref sig .tc .vmem S1x2x9600 .f32) (arg7 : Memref sig .tc .vmem S1x9600x128 .fp8e4m3) (arg13 : Memref sig .tc .vmem S1x8x10240 .i32) (arg16 : Memref sig .tc .vmem S256x128 .f32) (arg17 : Memref sig .tc .vmem S256x128 .f32) (arg18 : Memref sig .tc .vmem S256x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (f_arg17 : BufTy.Contents (Elt F) arg17.view.ty) (f_arg18 : BufTy.Contents (Elt F) arg18.view.ty) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg16.view.loc (c : Thread nD τ) ↦[arg16.view.set]{fullShare} X_arg16) ∗ (arg17.view.loc (c : Thread nD τ) ↦[arg17.view.set]{fullShare} f_arg17) ∗ (arg18.view.loc (c : Thread nD τ) ↦[arg18.view.set]{fullShare} f_arg18))

/-- ONE TRIP of `k0_t2_loop` at a symbolic `k`, run by `sl_exec` (its rectangles' offsets closed
   forms of `k`, their geometry linear arithmetic): the pieces it writes into arg17, arg18 are the
   run's own finds — the witnesses `sl_close` assigns handing the buffers to the continuation, as
   functions of the contents the trip finds in the memrefs it writes (the region loads some of them
   back). `@[irreducible]`: cited, never unfolded. -/
@[irreducible] def trip_k0_t2 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (k : Fin k0_t2_loop.trips) :
    Σ' (L_arg17 : (BufTy.Contents (Elt F) arg17.view.ty → BufTy.Contents (Elt F) arg18.view.ty → List (View.Piece (Elt F) S256x128 .f32))) , { L_arg18 : (BufTy.Contents (Elt F) arg17.view.ty → BufTy.Contents (Elt F) arg18.view.ty → List (View.Piece (Elt F) S256x128 .f32)) // ∀ (E : Set ℕ) (f_arg17 : BufTy.Contents (Elt F) arg17.view.ty) (f_arg18 : BufTy.Contents (Elt F) arg18.view.ty),
      Trip_k0_t2 (F := F) c arg2 arg3 arg4 arg5 arg6 arg7 arg13 arg16 arg17 arg18 X_arg2 X_arg3 X_arg4 X_arg5 X_arg6 X_arg7 X_arg13 X_arg16 f_arg17 f_arg18
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 k PUnit.unit)
          (fun _ => Trip_k0_t2 (F := F) c arg2 arg3 arg4 arg5 arg6 arg7 arg13 arg16 arg17 arg18 X_arg2 X_arg3 X_arg4 X_arg5 X_arg6 X_arg7 X_arg13 X_arg16 (arg17.view.writes (Elt F) f_arg17 (L_arg17 f_arg17 f_arg18)) (arg18.view.writes (Elt F) f_arg18 (L_arg18 f_arg17 f_arg18))) } := by
  have hk : k.val < 15 := Nat.lt_of_lt_of_le k.isLt k0_t2_abs.2.1
  refine ⟨?_, ?_, fun E f_arg17 f_arg18 => ?run⟩
  case run =>
    unfold k0_t2_body
    iintro ⟨HR_arg2, HR_arg3, HR_arg4, HR_arg5, HR_arg6, HR_arg7, HR_arg13, HR_arg16, HW_arg17, HW_arg18⟩
    sl_exec
    sl_step
    sl_close

/-- The trip's piece lists (plain projections of `trip_…`, for the recursion below to cite without
   its proof), at the contents the trip finds in the written memrefs. -/
abbrev tripL_k0_t2 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (k : Fin k0_t2_loop.trips) (f_arg17 : BufTy.Contents (Elt F) arg17.view.ty) (f_arg18 : BufTy.Contents (Elt F) arg18.view.ty) : List (View.Piece (Elt F) S256x128 .f32) × List (View.Piece (Elt F) S256x128 .f32) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 k).1 f_arg17 f_arg18, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 k).2.1 f_arg17 f_arg18)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (G_arg17 : BufTy.Contents (Elt F) arg17.view.ty) (G_arg18 : BufTy.Contents (Elt F) arg18.view.ty) (k : ℕ) (prev : List (View.Piece (Elt F) S256x128 .f32) × List (View.Piece (Elt F) S256x128 .f32)) : List (View.Piece (Elt F) S256x128 .f32) × List (View.Piece (Elt F) S256x128 .f32) :=
  if h : k < k0_t2_loop.trips then
    ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 ⟨k, h⟩ (arg17.view.writes (Elt F) G_arg17 prev.1) (arg18.view.writes (Elt F) G_arg18 prev.2)).1 ++ prev.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 ⟨k, h⟩ (arg17.view.writes (Elt F) G_arg17 prev.1) (arg18.view.writes (Elt F) G_arg18 prev.2)).2 ++ prev.2)
  else prev

/-- The pieces of the trips before `k` (last first), per written memref, starting from the contents
   `G_·` at loop entry; each trip's pieces taken at the contents the earlier trips left. -/
def pb_k0_t2 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (G_arg17 : BufTy.Contents (Elt F) arg17.view.ty) (G_arg18 : BufTy.Contents (Elt F) arg18.view.ty) : ℕ → List (View.Piece (Elt F) S256x128 .f32) × List (View.Piece (Elt F) S256x128 .f32)
  | 0 => ([], [])
  | k + 1 => pb_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k)

theorem pb_k0_t2_succ (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (G_arg17 : BufTy.Contents (Elt F) arg17.view.ty) (G_arg18 : BufTy.Contents (Elt F) arg18.view.ty) (k : Fin k0_t2_loop.trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 (k.val + 1)
      = ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 k (arg17.view.writes (Elt F) G_arg17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).1) (arg18.view.writes (Elt F) G_arg18 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).2)).1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 k (arg17.view.writes (Elt F) G_arg17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).1) (arg18.view.writes (Elt F) G_arg18 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).2)).2 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).2) := by
  rw [pb_k0_t2.eq_2]; unfold pb_k0_t2Step; exact dif_pos k.isLt

/-- THE INVARIANT before trip `k`: arg2, arg3, arg4, arg5, arg6, arg7, arg13, arg16 read at `X_·`;
   arg17, arg18 holding the pieces of the trips before `k` written over the contents at loop entry
   `G_·` (stated `∃ f, … ∗ ⌜f = …⌝`, so that a hypothesis of any contents matches and the equation
   is what is proved). -/
abbrev inv_k0_t2 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (G_arg17 : BufTy.Contents (Elt F) arg17.view.ty) (G_arg18 : BufTy.Contents (Elt F) arg18.view.ty) (k : ℕ) (_u : PUnit) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg16.view.loc (c : Thread nD τ) ↦[arg16.view.set]{fullShare} X_arg16) ∗ (∃ f, (arg17.view.loc (c : Thread nD τ) ↦[arg17.view.set]{fullShare} f) ∗ ⌜f = arg17.view.writes (Elt F) G_arg17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k).1⌝) ∗ (∃ f, (arg18.view.loc (c : Thread nD τ) ↦[arg18.view.set]{fullShare} f) ∗ ⌜f = arg18.view.writes (Elt F) G_arg18 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k).2⌝))

set_option warn.classDefReducibility false in
/-- THE LOOP BY ITS INVARIANT — generated (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (G_arg17 : BufTy.Contents (Elt F) arg17.view.ty) (G_arg18 : BufTy.Contents (Elt F) arg18.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18
  step k acc := by
    iintro ⟨HR_arg2, HR_arg3, HR_arg4, HR_arg5, HR_arg6, HR_arg7, HR_arg13, HR_arg16, ⟨%f_arg17, HW_arg17, %h_arg17⟩, ⟨%f_arg18, HW_arg18, %h_arg18⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg13 HR_arg16 HW_arg17 HW_arg18]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 k).2.2 E f_arg17 f_arg18)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg13]; · iexact HR_arg13
      isplitl [HR_arg16]; · iexact HR_arg16
      isplitl [HW_arg17]; · iexact HW_arg17
      iexact HW_arg18
    · iintro %_ ⟨HR_arg2, HR_arg3, HR_arg4, HR_arg5, HR_arg6, HR_arg7, HR_arg13, HR_arg16, HW_arg17, HW_arg18⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg13]; · iexact HR_arg13
      isplitl [HR_arg16]; · iexact HR_arg16
      rw [pb_k0_t2_succ]
      isplitl [HW_arg17]
      · iexists _; isplitl [HW_arg17]; · iexact HW_arg17
        ipureintro; rw [h_arg17, h_arg18, ← View.writes_append]
      iexists _; isplitl [HW_arg18]; · iexact HW_arg18
      ipureintro; rw [h_arg17, h_arg18, ← View.writes_append]

end Cert.Kernel.Gen

end
-- ==== Proof.Attend.Bits.Points.lean ====
/- TensorCore pallas_calls on their static grids — per window, at which points the pipeline fetches it and at
   which it writes it back (`Gen.fetchK_W`, `Gen.flushK_W`), in closed form, proved from the index map's shape
   where the generator reads it (each block index a grid coordinate or a constant) and decided over the grid
   otherwise; the current staging memrefs at a point (`Gen.stK_W`) and the kernel body as the pipeline calls it
   there (`Gen.bodyAtK`). What a certificate's
   `Dat.before` lemmas and body obligation take (Lib/Pipeline/Frame.lean `Dat.before_out_reset` /
   `before_out_acc`; FrameBody.lean `Dat.before_in_eq_fetched` needs none of it). -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg2)) is fetched at every point, at any contents of the tables (its index map reads none). -/
theorem fetch0_0 (a : (pcfg0 (F := F)).Adm) : ∀ t : Fin (cfg0 a).N, ((cfg0 a).win 0).fetch t = true :=
  (by decide +kernel : ∀ t : Fin grid0.N, Pipeline.Window.fetchOf grid0 false cc0_transform_0 t = true)
/-- Window 1 (operand 2 (%arg3)) is fetched at every point, at any contents of the tables (its index map reads none). -/
theorem fetch0_1 (a : (pcfg0 (F := F)).Adm) : ∀ t : Fin (cfg0 a).N, ((cfg0 a).win 1).fetch t = true :=
  (by decide +kernel : ∀ t : Fin grid0.N, Pipeline.Window.fetchOf grid0 false cc0_transform_1 t = true)
/-- Window 2 (operand 3 (%arg4)) is fetched at the points ≡ 0 (mod 10), at any contents of the tables (its index map reads none). -/
theorem fetch0_2 (a : (pcfg0 (F := F)).Adm) : ∀ t : Fin (cfg0 a).N, ((cfg0 a).win 2).fetch t = true ↔ t.val % 10 = 0 :=
  (fun t => Pipeline.Window.fetchOf_reads cc0_transform_2 reads0_2 hreads0_2 0 (by decide) (by decide) (Pipeline.Window.sep_of_coord cc0_transform_2 0 0 (fun _ => rfl) (by decide)) (P := 10) (by decide) t : ∀ t : Fin grid0.N, Pipeline.Window.fetchOf grid0 false cc0_transform_2 t = true ↔ t.val % 10 = 0)
/-- Window 3 (operand 4 (%arg5)) is fetched at the points ≡ 0 (mod 20), at any contents of the tables (its index map reads none). -/
theorem fetch0_3 (a : (pcfg0 (F := F)).Adm) : ∀ t : Fin (cfg0 a).N, ((cfg0 a).win 3).fetch t = true ↔ t.val % 20 = 0 :=
  (by decide +kernel : ∀ t : Fin grid0.N, Pipeline.Window.fetchOf grid0 false cc0_transform_3 t = true ↔ t.val % 20 = 0)
/-- Window 4 (operand 5 (%arg6)) is fetched at the points ≡ 0 (mod 10), at any contents of the tables (its index map reads none). -/
theorem fetch0_4 (a : (pcfg0 (F := F)).Adm) : ∀ t : Fin (cfg0 a).N, ((cfg0 a).win 4).fetch t = true ↔ t.val % 10 = 0 :=
  (fun t => Pipeline.Window.fetchOf_reads cc0_transform_4 reads0_4 hreads0_4 0 (by decide) (by decide) (Pipeline.Window.sep_of_coord cc0_transform_4 0 0 (fun _ => rfl) (by decide)) (P := 10) (by decide) t : ∀ t : Fin grid0.N, Pipeline.Window.fetchOf grid0 false cc0_transform_4 t = true ↔ t.val % 10 = 0)
/-- Window 5 (operand 6 (%arg7)) is fetched at the points ≡ 0 (mod 20), at any contents of the tables (its index map reads none). -/
theorem fetch0_5 (a : (pcfg0 (F := F)).Adm) : ∀ t : Fin (cfg0 a).N, ((cfg0 a).win 5).fetch t = true ↔ t.val % 20 = 0 :=
  (by decide +kernel : ∀ t : Fin grid0.N, Pipeline.Window.fetchOf grid0 false cc0_transform_5 t = true ↔ t.val % 20 = 0)
/-- Window 6 (operand 7 (%arg8)) is fetched at the points ≡ 0 (mod 10), at any contents of the tables (its index map reads none). -/
theorem fetch0_6 (a : (pcfg0 (F := F)).Adm) : ∀ t : Fin (cfg0 a).N, ((cfg0 a).win 6).fetch t = true ↔ t.val % 10 = 0 :=
  (fun t => Pipeline.Window.fetchOf_reads cc0_transform_6 reads0_6 hreads0_6 0 (by decide) (by decide) (Pipeline.Window.sep_of_coord cc0_transform_6 0 0 (fun _ => rfl) (by decide)) (P := 10) (by decide) t : ∀ t : Fin grid0.N, Pipeline.Window.fetchOf grid0 false cc0_transform_6 t = true ↔ t.val % 10 = 0)
/-- Window 7 (operand 8 (%arg9)) is fetched at the points ≡ 0 (mod 20), at any contents of the tables (its index map reads none). -/
theorem fetch0_7 (a : (pcfg0 (F := F)).Adm) : ∀ t : Fin (cfg0 a).N, ((cfg0 a).win 7).fetch t = true ↔ t.val % 20 = 0 :=
  (by decide +kernel : ∀ t : Fin grid0.N, Pipeline.Window.fetchOf grid0 false cc0_transform_7 t = true ↔ t.val % 20 = 0)
/-- Window 8 (operand 9 (%arg10)) is fetched at the points ≡ 0 (mod 10), at any contents of the tables (its index map reads none). -/
theorem fetch0_8 (a : (pcfg0 (F := F)).Adm) : ∀ t : Fin (cfg0 a).N, ((cfg0 a).win 8).fetch t = true ↔ t.val % 10 = 0 :=
  (fun t => Pipeline.Window.fetchOf_reads cc0_transform_8 reads0_8 hreads0_8 0 (by decide) (by decide) (Pipeline.Window.sep_of_coord cc0_transform_8 0 0 (fun _ => rfl) (by decide)) (P := 10) (by decide) t : ∀ t : Fin grid0.N, Pipeline.Window.fetchOf grid0 false cc0_transform_8 t = true ↔ t.val % 10 = 0)
/-- Window 9 (operand 10 (%arg11)) is fetched at the points ≡ 0 (mod 20), at any contents of the tables (its index map reads none). -/
theorem fetch0_9 (a : (pcfg0 (F := F)).Adm) : ∀ t : Fin (cfg0 a).N, ((cfg0 a).win 9).fetch t = true ↔ t.val % 20 = 0 :=
  (by decide +kernel : ∀ t : Fin grid0.N, Pipeline.Window.fetchOf grid0 false cc0_transform_9 t = true ↔ t.val % 20 = 0)
/-- Window 10 (operand 11 (%7)) is fetched at the points ≡ 0 (mod 20), at any contents of the tables (its index map reads none). -/
theorem fetch0_10 (a : (pcfg0 (F := F)).Adm) : ∀ t : Fin (cfg0 a).N, ((cfg0 a).win 10).fetch t = true ↔ t.val % 20 = 0 :=
  (by decide +kernel : ∀ t : Fin grid0.N, Pipeline.Window.fetchOf grid0 false cc0_transform_10 t = true ↔ t.val % 20 = 0)
/-- Window 11 (result 0 (%8)) is written back at every point, at any contents of the tables (its index map reads none). -/
theorem flush0_11 (a : (pcfg0 (F := F)).Adm) : ∀ t : Fin (cfg0 a).N, ((cfg0 a).win 11).flush t = true :=
  (by decide +kernel : ∀ t : Fin grid0.N, Pipeline.Window.flushOf grid0 true cc0_transform_11 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_v6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.Kernel.Gen

end
-- ==== Proof.Attend.Bits.Runs.lean ====
/- Generated by the certificate tool from the attention program, then edited: what the runs of `proofs.«01_k».proof.Kernel`'s
   frame certificate share — the frame kit (`Gen.hmain`, `Gen.V`, `Gen.iblk`, `Gen.frame_of`) and everything the runs
   are stated over (the body's branch conditions in closed form over the points; where its windows are idle; the staging and
   scratch memrefs; side conditions assumed, `Gen.Hyps`; a ring's names and canonical forms) —, imported by the
   first case's run (Frame/Run<κ>.lean: each imports the one before it) and, through the last, by the Frame module
   (Frame.lean), which holds the rest of the certificate. -/
module

public import proofs.«01_k».proof.Proof.Gen.Kernel.Launch
public import proofs.«01_k».proof.Proof.Gen.Kernel.Skeleton
public import proofs.«01_k».proof.Proof.Attend.Bits.Loops
public import proofs.«01_k».proof.Proof.Attend.Bits.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S24x5 .i32 := Memref.whole main_v6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      (Pipeline.RDat.FramePost.arr_in h c 0 rfl).trans ((hA c 0).trans (V_main_arg2 m c)),
      (Pipeline.RDat.FramePost.arr_in h c 1 rfl).trans ((hA c 1).trans (V_main_arg3 m c)),
      (Pipeline.RDat.FramePost.arr_in h c 2 rfl).trans ((hA c 2).trans (V_main_arg4 m c)),
      (Pipeline.RDat.FramePost.arr_in h c 3 rfl).trans ((hA c 3).trans (V_main_arg5 m c)),
      (Pipeline.RDat.FramePost.arr_in h c 4 rfl).trans ((hA c 4).trans (V_main_arg6 m c)),
      (Pipeline.RDat.FramePost.arr_in h c 5 rfl).trans ((hA c 5).trans (V_main_arg7 m c)),
      (Pipeline.RDat.FramePost.arr_in h c 6 rfl).trans ((hA c 6).trans (V_main_arg8 m c)),
      (Pipeline.RDat.FramePost.arr_in h c 7 rfl).trans ((hA c 7).trans (V_main_arg9 m c)),
      (Pipeline.RDat.FramePost.arr_in h c 8 rfl).trans ((hA c 8).trans (V_main_arg10 m c)),
      (Pipeline.RDat.FramePost.arr_in h c 9 rfl).trans ((hA c 9).trans (V_main_arg11 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x4x64x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x8 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x9600x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2x9600 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x9600x128 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x640x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x2x640 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x640x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x2x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x8x10240 .i32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x64x512 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.Attend.Bits.RunA.lean ====
/- Generated by the certificate tool from the attention program, then edited: the whole-body RUN of `proofs.«01_k».proof.Kernel`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.Attend.Bits.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table's half share, with the whole buffer spelt as the memref's own elements: the form in which a loop's
    invariant reads it. -/
theorem tbPt0_iff (c : Dev nD) (f : TbBuf0 (F := F) c tbM0_0) :
    (tbPt0 c tbM0_0 f : sProp 𝕄) = (tbM0_0.view.loc (c : Thread nD τ) ↦[tbM0_0.view.set]{fullShare.right} f) := by
  have h : tbM0_0.view.set = Finset.univ := View.set_whole _
  rw [h]

-- (the run's proof term is large: checking it walks past the default budget)
set_option maxHeartbeats 1640000 in
/-- The body's triple: on whole staging memrefs — the inputs' at their contents,
    the FORGOTTEN outputs' (11) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)
    (x0 : Vec F S1x4x64x128 .fp8e4m3) (x1 : Vec F S1x64x8 .f32) (x2 : Vec F S1x9600x128 .fp8e4m3) (x3 : Vec F S1x2x9600 .f32) (x4 : Vec F S1x9600x128 .fp8e4m3) (x5 : Vec F S1x2x128 .f32) (x6 : Vec F S1x640x128 .fp8e4m3) (x7 : Vec F S1x2x640 .f32) (x8 : Vec F S1x640x128 .fp8e4m3) (x9 : Vec F S1x2x128 .f32) (x10 : Vec F S1x8x10240 .i32) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0) -∗ K ⟨⟩))
          ⊢ wp frame (wpE (defs₀ (F := F)) Variants.none c none) E (cc0_attend i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    simp only [cc0_attend_eq_skeleton]; unfold cc0_attend_skel
    simp only [k0_part49_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    rw [tbPt0_iff]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _, _; isplitr; swap; · iexact H11
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexact HT0

end Cert.Kernel.Gen

end
-- ==== Proof.Attend.Bits.Frame.lean ====
/- Generated by the certificate tool from the attention program, then edited: the FRAME CERTIFICATE of `proofs.«01_k».proof.Kernel`,
   its last module — (the outputs' contents FORGOTTEN, stated nowhere) what a carried scratch, if any, holds point by point
   (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   `scf.if`s on the coordinates admitted — framerun.py), its OUTPUTS FORGOTTEN (window 11: nothing in the directory reads what the kernel leaves there —
   Lib/Pipeline/Dat.lean `Dat.toRForget`), the whole certificate: the body's triple per case (`Gen.kernelRunK_κ`, by
   `sl_exec`; each output handed back at some contents, nothing of it named), the conditions in closed form (`Gen.hcondK_J`),
   the proof data (the outputs at `Dat.unnamed`), the obligation over `Gen.forgetsK`, the run (`Gen.run_main`, by
   `θ_run_frameP_forget`) and `Gen.frame` — the frame claim at any `F`,
   here for EVERY contents of the pallas_call's prefetched tables, under `Gen.Ok m` (the pipeline's side condition of
   the tables read off `m`: each window whose index map reads one inside its array, its transfers word-exact),
   which Proof.lean proves from the precondition:
   `theorem Cert.Proof.claim : Cert.Claim := ⟨Gen.facts, …, fun m ρ h => Gen.frame m ρ (ok_of_pre m h)⟩`.
   CLASS R (one case, 5 scratch operands, output 11 FORGOTTEN — nothing reads it, so nothing of its contents is named; for every contents of the 1 prefetched table, their pipeline side condition taken as the hypothesis `Gen.Ok`, Proof.lean's to prove from the precondition): the certificate is whole here — not class A: the kernel takes operands the pipeline does not stage (scratch, semaphores, tables, arrays left in HBM). -/
module

public import proofs.«01_k».proof.Proof.Attend.Bits.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (11): nothing reads what the kernel leaves in them, so nothing
    of it is named (Lib/Pipeline/Dat.lean `Dat.toRForget`). -/
def forgets0 : Fin 12 → Bool := fun w => w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ (∃ d, owns (c : Thread nD τ) (ms0_11 m hO t) fullShare d))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10]
  rw [show (dats m hO 0 c).Φ t.castSucc = iprop(Pipeline.ΦA spec0 c ∗ Pipeline.ΦT pre0 (tbl m) c) from rfl, PhiT0_eq, PhiA0_eq]
  iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, H5, H6, H7, H8, H9, H10, H11, HS0, HS1, HS2, HS3, HS4, HT0⟩
  isplitl [HS0 HS1 HS2 HS3 HS4 Hg HT0]
  · isplitl [HS0 HS1 HS2 HS3 HS4 Hg]
    · isplitl [HS0 HS1 HS2 HS3 HS4]
      · isplitl [HS0]
        · iexact HS0
        isplitl [HS1]
        · iexact HS1
        isplitl [HS2]
        · iexact HS2
        isplitl [HS3]
        · iexact HS3
        iexact HS4
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 11) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ hO) ((θ_run defs _ _).mono (fun _ h => h.2) (run_main_quiescent m ρ hO))

end Cert.Kernel.Gen

end
-- ==== Proof.Attend.Ideal.Loops.lean ====
/- Generated by the certificate tool from the attention program, then edited: the COUNTED LOOPS of `proofs.«01_k».proof.KernelIdeal` as
   obligations — per `scf.for` the class of its invariants `Gen.LoopInvTy_kK_tN` (Lib/Exec.lean `LoopInv` at the
   run's frame and clauses and the loop's lifted region `Gen.kK_tN_body`, Skeleton.lean), with what one trip of
   the region does listed in its docstring. A certificate instances each (`@[sl_loop] def … : Gen.LoopInvTy_kK_tN …
   := ⟨inv, step⟩`, the stub `bootstrap` writes) and `sl_exec` goes through the loop by it, ONCE per trip over a
   symbolic trip — never unrolled. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

-- a LISTED loop's recursion (`pb_…` / `st_…`) and its successor equation apply the region's every parameter around the
-- recursive call; for a kernel with some forty operands and words (flash-attention forward) elaborating the recursion's
-- equation lemmas — realised in the recursion's own context, so a budget set on the `_succ` theorem does not reach
-- them — needs a deeper traversal and more heartbeats than Lean's defaults
set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ
/-! ## `cc0_attend` -/

/-- The class of invariants of `k0_part34`'s counted loop `k0_t1_loop` (`scf.for %arg20 =
   %c0_i32_192 to %478 step %c1_i32_193 : i32 {`), trip `k0_t1`, carrying `Unit`, region
   `Gen.k0_t1_body`. Classifier: AFFINE — every store at a `Rect.unit` whose offsets are a stated
   closed form of the trips, nothing carried, no transfer or conditional inside: the invariant is
   the pieces of the trips before `k`. The region loads back what
   it stores into `arg15` (an accumulation): each trip's pieces are stated as functions of the
   contents it finds there. One trip calls the parts `k0_part1`, `k0_part2`, `k0_part3`, `k0_part4`,
   `k0_part5`, `k0_part6`, `k0_part7`, `k0_part8`, `k0_part9`, `k0_part10`. Per trip it STORES
   through arg15 at ![0, 0]; arg15 at ![64, 0]; arg15 at ![128, 0]; arg15 at ![192, 0]. It LOADS
   through arg15 at ![0, 0]; arg3 at ![0, 0, 0, 0]; arg5 at (k0_off8 k0_t1); arg6 at (k0_off9 i
   k0_t1); arg4 at ![0, 0, 0]; arg2 at (k0_off10 i 0#32); arg2 at (k0_off11 i 0#32); arg2 at
   (k0_off12 i 0#32); arg2 at (k0_off13 i 0#32); arg2 at (k0_off14 i 0#32); arg13 at (k0_off15 i
   k0_t1 0#32); arg15 at ![64, 0]; and more. Generated below: `Gen.loopInv_k0_t1` (`@[sl_loop]`), at
   the frame kit's algebra — a run at that algebra (the generated frame's, or a hand proof's over
   `MT nD τ sig Unit (Elt F) ℕ (UR sig nD τ) ℕ`) goes through the loop with nothing more to state; a
   proof at another algebra instances the class itself, after this one. -/
abbrev LoopInvTy_k0_t1 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) :=
  Idealize.ShloMosaic.LoopInv (M := MT nD τ sig Ix (Elt F) Name U Lvl) Idealize.ShloMosaic.frame (wpE defs₀ 𝒱 (c : Thread nD τ) bd) E
    k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446)

/-! ### `k0_t1_loop`: the generated invariant (classifier: affine) -/

/-- One trip's resources: what the region reads (arg2, arg3, arg4, arg5, arg6, arg13) at its
   contents, what it writes (arg15) at any. -/
abbrev Trip_k0_t1 (c : Dev nD) (arg2 : Memref sig .tc .smem S24x5 .i32) (arg3 : Memref sig .tc .vmem S1x4x64x128 .fp8e4m3) (arg4 : Memref sig .tc .vmem S1x64x8 .f32) (arg5 : Memref sig .tc .vmem S1x9600x128 .fp8e4m3) (arg6 : Memref sig .tc .vmem S1x2x9600 .f32) (arg13 : Memref sig .tc .vmem S1x8x10240 .i32) (arg15 : Memref sig .tc .vmem S256x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (f_arg15 : BufTy.Contents (Elt F) arg15.view.ty) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg13.view.loc (c : Thread nD τ) ↦[arg13.view.set]{fullShare} X_arg13) ∗ (arg15.view.loc (c : Thread nD τ) ↦[arg15.view.set]{fullShare} f_arg15))

/-- ONE TRIP of `k0_t1_loop` at a symbolic `k`, run by `sl_exec` (its rectangles' offsets closed
   forms of `k`, their geometry linear arithmetic): the pieces it writes into arg15 are the run's
   own finds — the witnesses `sl_close` assigns handing the buffers to the continuation, as
   functions of the contents the trip finds in the memrefs it writes (the region loads some of them
   back). `@[irreducible]`: cited, never unfolded. -/
@[irreducible] def trip_k0_t1 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (k : Fin k0_t1_loop.trips) :
    { L_arg15 : (BufTy.Contents (Elt F) arg15.view.ty → List (View.Piece (Elt F) S256x128 .f32)) // ∀ (E : Set ℕ) (f_arg15 : BufTy.Contents (Elt F) arg15.view.ty),
      Trip_k0_t1 (F := F) c arg2 arg3 arg4 arg5 arg6 arg13 arg15 X_arg2 X_arg3 X_arg4 X_arg5 X_arg6 X_arg13 f_arg15
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 k PUnit.unit)
          (fun _ => Trip_k0_t1 (F := F) c arg2 arg3 arg4 arg5 arg6 arg13 arg15 X_arg2 X_arg3 X_arg4 X_arg5 X_arg6 X_arg13 (arg15.view.writes (Elt F) f_arg15 (L_arg15 f_arg15))) } := by
  have hk : k.val < 15 := Nat.lt_of_lt_of_le k.isLt k0_t1_abs.2.1
  refine ⟨?_, fun E f_arg15 => ?run⟩
  case run =>
    unfold k0_t1_body
    iintro ⟨HR_arg2, HR_arg3, HR_arg4, HR_arg5, HR_arg6, HR_arg13, HW_arg15⟩
    sl_exec
    sl_step
    sl_close

/-- The trip's piece lists (plain projections of `trip_…`, for the recursion below to cite without
   its proof), at the contents the trip finds in the written memrefs. -/
abbrev tripL_k0_t1 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (k : Fin k0_t1_loop.trips) (f_arg15 : BufTy.Contents (Elt F) arg15.view.ty) : List (View.Piece (Elt F) S256x128 .f32) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 k).1 f_arg15

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (G_arg15 : BufTy.Contents (Elt F) arg15.view.ty) (k : ℕ) (prev : List (View.Piece (Elt F) S256x128 .f32)) : List (View.Piece (Elt F) S256x128 .f32) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 ⟨k, h⟩ (arg15.view.writes (Elt F) G_arg15 prev)) ++ prev
  else prev

/-- The pieces of the trips before `k` (last first), per written memref, starting from the contents
   `G_·` at loop entry; each trip's pieces taken at the contents the earlier trips left. -/
def pb_k0_t1 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (G_arg15 : BufTy.Contents (Elt F) arg15.view.ty) : ℕ → List (View.Piece (Elt F) S256x128 .f32)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 k)

theorem pb_k0_t1_succ (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (G_arg15 : BufTy.Contents (Elt F) arg15.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 k (arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 k.val))) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 k.val) := by
  rw [pb_k0_t1.eq_2]; unfold pb_k0_t1Step; exact dif_pos k.isLt

/-- THE INVARIANT before trip `k`: arg2, arg3, arg4, arg5, arg6, arg13 read at `X_·`; arg15 holding
   the pieces of the trips before `k` written over the contents at loop entry `G_·` (stated `∃ f, …
   ∗ ⌜f = …⌝`, so that a hypothesis of any contents matches and the equation is what is proved). -/
abbrev inv_k0_t1 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (G_arg15 : BufTy.Contents (Elt F) arg15.view.ty) (k : ℕ) (_u : PUnit) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg13.view.loc (c : Thread nD τ) ↦[arg13.view.set]{fullShare} X_arg13) ∗ (∃ f, (arg15.view.loc (c : Thread nD τ) ↦[arg15.view.set]{fullShare} f) ∗ ⌜f = arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15 k)⌝))

set_option warn.classDefReducibility false in
/-- THE LOOP BY ITS INVARIANT — generated (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (G_arg15 : BufTy.Contents (Elt F) arg15.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 G_arg15
  step k acc := by
    iintro ⟨HR_arg2, HR_arg3, HR_arg4, HR_arg5, HR_arg6, HR_arg13, ⟨%f_arg15, HW_arg15, %h_arg15⟩⟩
    iapply (wp_wand_r Idealize.ShloMosaic.frame (wpE (defs₀ (F := F)) 𝒱 (c : Thread nD τ) bd) E)
    isplitl [HR_arg2 HR_arg3 HR_arg4 HR_arg5 HR_arg6 HR_arg13 HW_arg15]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v52 v53 v391 v446 X_arg2 X_arg3 X_arg4 X_arg5 X_arg6 X_arg13 k).2 E f_arg15)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg13]; · iexact HR_arg13
      iexact HW_arg15
    · iintro %_ ⟨HR_arg2, HR_arg3, HR_arg4, HR_arg5, HR_arg6, HR_arg13, HW_arg15⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg13]; · iexact HR_arg13
      rw [pb_k0_t1_succ]
      iexists _; isplitl [HW_arg15]; · iexact HW_arg15
      ipureintro; rw [h_arg15, ← View.writes_append]

/-- The class of invariants of `k0_part47`'s counted loop `k0_t2_loop` (`scf.for %arg20 =
   %c0_i32_436 to %976 step %c1_i32_438 : i32 {`), trip `k0_t2`, carrying `Unit`, region
   `Gen.k0_t2_body`. Classifier: AFFINE — every store at a `Rect.unit` whose offsets are a stated
   closed form of the trips, nothing carried, no transfer or conditional inside: the invariant is
   the pieces of the trips before `k`. The region loads back what
   it stores into `arg17`, `arg18` (an accumulation): each trip's pieces are stated as functions of
   the contents it finds there. One trip calls the parts `k0_part22`, `k0_part11`, `k0_part12`,
   `k0_part13`, `k0_part14`, `k0_part15`, `k0_part16`, `k0_part17`, `k0_part18`, `k0_part19`,
   `k0_part20`, `k0_part21`. Per trip it STORES through arg17 at ![0, 0]; arg18 at ![0, 0]; arg17 at
   ![64, 0]; arg18 at ![64, 0]; arg17 at ![128, 0]; arg18 at ![128, 0]; arg17 at ![192, 0]; arg18 at
   ![192, 0]. It LOADS through arg7 at (k0_off16 k0_t2); arg3 at ![0, 0, 0, 0]; arg5 at (k0_off16
   k0_t2); arg6 at (k0_off17 i k0_t2); arg4 at ![0, 0, 0]; arg2 at (k0_off18 i 0#32); arg2 at
   (k0_off19 i 0#32); arg2 at (k0_off20 i 0#32); arg2 at (k0_off21 i 0#32); arg2 at (k0_off22 i
   0#32); arg13 at (k0_off23 i k0_t2 0#32); arg16 at ![0, 0]; and more. Generated below:
   `Gen.loopInv_k0_t2` (`@[sl_loop]`), at the frame kit's algebra — a run at that algebra (the
   generated frame's, or a hand proof's over `MT nD τ sig Unit (Elt F) ℕ (UR sig nD τ) ℕ`) goes
   through the loop with nothing more to state; a proof at another algebra instances the class
   itself, after this one. -/
abbrev LoopInvTy_k0_t2 (Ix Name U Lvl : Type) [DecidableEq Ix] [DecidableEq Name] [RA.URA U] [Preorder Lvl]
    (𝒱 : Variants) (c : Dev nD) (bd : Option 𝒱.V) (E : Set Name) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) :=
  Idealize.ShloMosaic.LoopInv (M := MT nD τ sig Ix (Elt F) Name U Lvl) Idealize.ShloMosaic.frame (wpE defs₀ 𝒱 (c : Thread nD τ) bd) E
    k0_t2_loop.lb k0_t2_loop.ub k0_t2_loop.st k0_t2_ok () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968)

/-! ### `k0_t2_loop`: the generated invariant (classifier: affine) -/

/-- One trip's resources: what the region reads (arg2, arg3, arg4, arg5, arg6, arg7, arg13, arg16)
   at its contents, what it writes (arg17, arg18) at any. -/
abbrev Trip_k0_t2 (c : Dev nD) (arg2 : Memref sig .tc .smem S24x5 .i32) (arg3 : Memref sig .tc .vmem S1x4x64x128 .fp8e4m3) (arg4 : Memref sig .tc .vmem S1x64x8 .f32) (arg5 : Memref sig .tc .vmem S1x9600x128 .fp8e4m3) (arg6 : Memref sig .tc .vmem S1x2x9600 .f32) (arg7 : Memref sig .tc .vmem S1x9600x128 .fp8e4m3) (arg13 : Memref sig .tc .vmem S1x8x10240 .i32) (arg16 : Memref sig .tc .vmem S256x128 .f32) (arg17 : Memref sig .tc .vmem S256x128 .f32) (arg18 : Memref sig .tc .vmem S256x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (f_arg17 : BufTy.Contents (Elt F) arg17.view.ty) (f_arg18 : BufTy.Contents (Elt F) arg18.view.ty) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg16.view.loc (c : Thread nD τ) ↦[arg16.view.set]{fullShare} X_arg16) ∗ (arg17.view.loc (c : Thread nD τ) ↦[arg17.view.set]{fullShare} f_arg17) ∗ (arg18.view.loc (c : Thread nD τ) ↦[arg18.view.set]{fullShare} f_arg18))

/-- ONE TRIP of `k0_t2_loop` at a symbolic `k`, run by `sl_exec` (its rectangles' offsets closed
   forms of `k`, their geometry linear arithmetic): the pieces it writes into arg17, arg18 are the
   run's own finds — the witnesses `sl_close` assigns handing the buffers to the continuation, as
   functions of the contents the trip finds in the memrefs it writes (the region loads some of them
   back). `@[irreducible]`: cited, never unfolded. -/
@[irreducible] def trip_k0_t2 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (k : Fin k0_t2_loop.trips) :
    Σ' (L_arg17 : (BufTy.Contents (Elt F) arg17.view.ty → BufTy.Contents (Elt F) arg18.view.ty → List (View.Piece (Elt F) S256x128 .f32))) , { L_arg18 : (BufTy.Contents (Elt F) arg17.view.ty → BufTy.Contents (Elt F) arg18.view.ty → List (View.Piece (Elt F) S256x128 .f32)) // ∀ (E : Set ℕ) (f_arg17 : BufTy.Contents (Elt F) arg17.view.ty) (f_arg18 : BufTy.Contents (Elt F) arg18.view.ty),
      Trip_k0_t2 (F := F) c arg2 arg3 arg4 arg5 arg6 arg7 arg13 arg16 arg17 arg18 X_arg2 X_arg3 X_arg4 X_arg5 X_arg6 X_arg7 X_arg13 X_arg16 f_arg17 f_arg18
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 k PUnit.unit)
          (fun _ => Trip_k0_t2 (F := F) c arg2 arg3 arg4 arg5 arg6 arg7 arg13 arg16 arg17 arg18 X_arg2 X_arg3 X_arg4 X_arg5 X_arg6 X_arg7 X_arg13 X_arg16 (arg17.view.writes (Elt F) f_arg17 (L_arg17 f_arg17 f_arg18)) (arg18.view.writes (Elt F) f_arg18 (L_arg18 f_arg17 f_arg18))) } := by
  have hk : k.val < 15 := Nat.lt_of_lt_of_le k.isLt k0_t2_abs.2.1
  refine ⟨?_, ?_, fun E f_arg17 f_arg18 => ?run⟩
  case run =>
    unfold k0_t2_body
    iintro ⟨HR_arg2, HR_arg3, HR_arg4, HR_arg5, HR_arg6, HR_arg7, HR_arg13, HR_arg16, HW_arg17, HW_arg18⟩
    sl_exec
    sl_step
    sl_close

/-- The trip's piece lists (plain projections of `trip_…`, for the recursion below to cite without
   its proof), at the contents the trip finds in the written memrefs. -/
abbrev tripL_k0_t2 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (k : Fin k0_t2_loop.trips) (f_arg17 : BufTy.Contents (Elt F) arg17.view.ty) (f_arg18 : BufTy.Contents (Elt F) arg18.view.ty) : List (View.Piece (Elt F) S256x128 .f32) × List (View.Piece (Elt F) S256x128 .f32) :=
  ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 k).1 f_arg17 f_arg18, (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 k).2.1 f_arg17 f_arg18)

/-- Trip `k`'s contribution to the state the recursion `pb_k0_t2` below carries (`prev`): its pieces
   in front, per written memref; past the last trip, `prev` itself. -/
@[irreducible] def pb_k0_t2Step (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (G_arg17 : BufTy.Contents (Elt F) arg17.view.ty) (G_arg18 : BufTy.Contents (Elt F) arg18.view.ty) (k : ℕ) (prev : List (View.Piece (Elt F) S256x128 .f32) × List (View.Piece (Elt F) S256x128 .f32)) : List (View.Piece (Elt F) S256x128 .f32) × List (View.Piece (Elt F) S256x128 .f32) :=
  if h : k < k0_t2_loop.trips then
    ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 ⟨k, h⟩ (arg17.view.writes (Elt F) G_arg17 prev.1) (arg18.view.writes (Elt F) G_arg18 prev.2)).1 ++ prev.1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 ⟨k, h⟩ (arg17.view.writes (Elt F) G_arg17 prev.1) (arg18.view.writes (Elt F) G_arg18 prev.2)).2 ++ prev.2)
  else prev

/-- The pieces of the trips before `k` (last first), per written memref, starting from the contents
   `G_·` at loop entry; each trip's pieces taken at the contents the earlier trips left. -/
def pb_k0_t2 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (G_arg17 : BufTy.Contents (Elt F) arg17.view.ty) (G_arg18 : BufTy.Contents (Elt F) arg18.view.ty) : ℕ → List (View.Piece (Elt F) S256x128 .f32) × List (View.Piece (Elt F) S256x128 .f32)
  | 0 => ([], [])
  | k + 1 => pb_k0_t2Step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k)

theorem pb_k0_t2_succ (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (G_arg17 : BufTy.Contents (Elt F) arg17.view.ty) (G_arg18 : BufTy.Contents (Elt F) arg18.view.ty) (k : Fin k0_t2_loop.trips) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 (k.val + 1)
      = ((tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 k (arg17.view.writes (Elt F) G_arg17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).1) (arg18.view.writes (Elt F) G_arg18 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).2)).1 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).1, (tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 k (arg17.view.writes (Elt F) G_arg17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).1) (arg18.view.writes (Elt F) G_arg18 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).2)).2 ++ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k.val).2) := by
  rw [pb_k0_t2.eq_2]; unfold pb_k0_t2Step; exact dif_pos k.isLt

/-- THE INVARIANT before trip `k`: arg2, arg3, arg4, arg5, arg6, arg7, arg13, arg16 read at `X_·`;
   arg17, arg18 holding the pieces of the trips before `k` written over the contents at loop entry
   `G_·` (stated `∃ f, … ∗ ⌜f = …⌝`, so that a hypothesis of any contents matches and the equation
   is what is proved). -/
abbrev inv_k0_t2 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (G_arg17 : BufTy.Contents (Elt F) arg17.view.ty) (G_arg18 : BufTy.Contents (Elt F) arg18.view.ty) (k : ℕ) (_u : PUnit) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg16.view.loc (c : Thread nD τ) ↦[arg16.view.set]{fullShare} X_arg16) ∗ (∃ f, (arg17.view.loc (c : Thread nD τ) ↦[arg17.view.set]{fullShare} f) ∗ ⌜f = arg17.view.writes (Elt F) G_arg17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k).1⌝) ∗ (∃ f, (arg18.view.loc (c : Thread nD τ) ↦[arg18.view.set]{fullShare} f) ∗ ⌜f = arg18.view.writes (Elt F) G_arg18 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18 k).2⌝))

set_option warn.classDefReducibility false in
/-- THE LOOP BY ITS INVARIANT — generated (`@[sl_loop]`: `sl_exec` finds it meeting `k0_t2_loop`,
   fixing `X_· G_·` against the context; after the loop each written memref holds `writes G (pb …
   trips)`). -/
@[sl_loop] def loopInv_k0_t2 (𝒱 : Variants) (c : Dev nD) (bd : Option 𝒱.V) (E : Set ℕ) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (arg1 : BitVec 32) (v9 : BitVec 32) (v26 : BitVec 32) (v51 : IVec S1x640 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (G_arg17 : BufTy.Contents (Elt F) arg17.view.ty) (G_arg18 : BufTy.Contents (Elt F) arg18.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 where
  inv := inv_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 G_arg17 G_arg18
  step k acc := by
    iintro ⟨HR_arg2, HR_arg3, HR_arg4, HR_arg5, HR_arg6, HR_arg7, HR_arg13, HR_arg16, ⟨%f_arg17, HW_arg17, %h_arg17⟩, ⟨%f_arg18, HW_arg18, %h_arg18⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg13 HR_arg16 HW_arg17 HW_arg18]
    · iapply ((trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v9 v26 v51 v968 X_arg2 X_arg3 X_arg4 X_arg5 X_arg6 X_arg7 X_arg13 X_arg16 k).2.2 E f_arg17 f_arg18)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg13]; · iexact HR_arg13
      isplitl [HR_arg16]; · iexact HR_arg16
      isplitl [HW_arg17]; · iexact HW_arg17
      iexact HW_arg18
    · iintro %_ ⟨HR_arg2, HR_arg3, HR_arg4, HR_arg5, HR_arg6, HR_arg7, HR_arg13, HR_arg16, HW_arg17, HW_arg18⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg13]; · iexact HR_arg13
      isplitl [HR_arg16]; · iexact HR_arg16
      rw [pb_k0_t2_succ]
      isplitl [HW_arg17]
      · iexists _; isplitl [HW_arg17]; · iexact HW_arg17
        ipureintro; rw [h_arg17, h_arg18, ← View.writes_append]
      iexists _; isplitl [HW_arg18]; · iexact HW_arg18
      ipureintro; rw [h_arg17, h_arg18, ← View.writes_append]

end Cert.KernelIdeal.Gen

end
-- ==== Proof.Attend.Ideal.Points.lean ====
/- TensorCore pallas_calls on their static grids — per window, at which points the pipeline fetches it and at
   which it writes it back (`Gen.fetchK_W`, `Gen.flushK_W`), in closed form, proved from the index map's shape
   where the generator reads it (each block index a grid coordinate or a constant) and decided over the grid
   otherwise; the current staging memrefs at a point (`Gen.stK_W`) and the kernel body as the pipeline calls it
   there (`Gen.bodyAtK`). What a certificate's
   `Dat.before` lemmas and body obligation take (Lib/Pipeline/Frame.lean `Dat.before_out_reset` /
   `before_out_acc`; FrameBody.lean `Dat.before_in_eq_fetched` needs none of it). -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg2)) is fetched at every point, at any contents of the tables (its index map reads none). -/
theorem fetch0_0 (a : (pcfg0 (F := F)).Adm) : ∀ t : Fin (cfg0 a).N, ((cfg0 a).win 0).fetch t = true :=
  (by decide +kernel : ∀ t : Fin grid0.N, Pipeline.Window.fetchOf grid0 false cc0_transform_0 t = true)
/-- Window 1 (operand 2 (%arg3)) is fetched at every point, at any contents of the tables (its index map reads none). -/
theorem fetch0_1 (a : (pcfg0 (F := F)).Adm) : ∀ t : Fin (cfg0 a).N, ((cfg0 a).win 1).fetch t = true :=
  (by decide +kernel : ∀ t : Fin grid0.N, Pipeline.Window.fetchOf grid0 false cc0_transform_1 t = true)
/-- Window 2 (operand 3 (%arg4)) is fetched at the points ≡ 0 (mod 10), at any contents of the tables (its index map reads none). -/
theorem fetch0_2 (a : (pcfg0 (F := F)).Adm) : ∀ t : Fin (cfg0 a).N, ((cfg0 a).win 2).fetch t = true ↔ t.val % 10 = 0 :=
  (fun t => Pipeline.Window.fetchOf_reads cc0_transform_2 reads0_2 hreads0_2 0 (by decide) (by decide) (Pipeline.Window.sep_of_coord cc0_transform_2 0 0 (fun _ => rfl) (by decide)) (P := 10) (by decide) t : ∀ t : Fin grid0.N, Pipeline.Window.fetchOf grid0 false cc0_transform_2 t = true ↔ t.val % 10 = 0)
/-- Window 3 (operand 4 (%arg5)) is fetched at the points ≡ 0 (mod 20), at any contents of the tables (its index map reads none). -/
theorem fetch0_3 (a : (pcfg0 (F := F)).Adm) : ∀ t : Fin (cfg0 a).N, ((cfg0 a).win 3).fetch t = true ↔ t.val % 20 = 0 :=
  (by decide +kernel : ∀ t : Fin grid0.N, Pipeline.Window.fetchOf grid0 false cc0_transform_3 t = true ↔ t.val % 20 = 0)
/-- Window 4 (operand 5 (%arg6)) is fetched at the points ≡ 0 (mod 10), at any contents of the tables (its index map reads none). -/
theorem fetch0_4 (a : (pcfg0 (F := F)).Adm) : ∀ t : Fin (cfg0 a).N, ((cfg0 a).win 4).fetch t = true ↔ t.val % 10 = 0 :=
  (fun t => Pipeline.Window.fetchOf_reads cc0_transform_4 reads0_4 hreads0_4 0 (by decide) (by decide) (Pipeline.Window.sep_of_coord cc0_transform_4 0 0 (fun _ => rfl) (by decide)) (P := 10) (by decide) t : ∀ t : Fin grid0.N, Pipeline.Window.fetchOf grid0 false cc0_transform_4 t = true ↔ t.val % 10 = 0)
/-- Window 5 (operand 6 (%arg7)) is fetched at the points ≡ 0 (mod 20), at any contents of the tables (its index map reads none). -/
theorem fetch0_5 (a : (pcfg0 (F := F)).Adm) : ∀ t : Fin (cfg0 a).N, ((cfg0 a).win 5).fetch t = true ↔ t.val % 20 = 0 :=
  (by decide +kernel : ∀ t : Fin grid0.N, Pipeline.Window.fetchOf grid0 false cc0_transform_5 t = true ↔ t.val % 20 = 0)
/-- Window 6 (operand 7 (%arg8)) is fetched at the points ≡ 0 (mod 10), at any contents of the tables (its index map reads none). -/
theorem fetch0_6 (a : (pcfg0 (F := F)).Adm) : ∀ t : Fin (cfg0 a).N, ((cfg0 a).win 6).fetch t = true ↔ t.val % 10 = 0 :=
  (fun t => Pipeline.Window.fetchOf_reads cc0_transform_6 reads0_6 hreads0_6 0 (by decide) (by decide) (Pipeline.Window.sep_of_coord cc0_transform_6 0 0 (fun _ => rfl) (by decide)) (P := 10) (by decide) t : ∀ t : Fin grid0.N, Pipeline.Window.fetchOf grid0 false cc0_transform_6 t = true ↔ t.val % 10 = 0)
/-- Window 7 (operand 8 (%arg9)) is fetched at the points ≡ 0 (mod 20), at any contents of the tables (its index map reads none). -/
theorem fetch0_7 (a : (pcfg0 (F := F)).Adm) : ∀ t : Fin (cfg0 a).N, ((cfg0 a).win 7).fetch t = true ↔ t.val % 20 = 0 :=
  (by decide +kernel : ∀ t : Fin grid0.N, Pipeline.Window.fetchOf grid0 false cc0_transform_7 t = true ↔ t.val % 20 = 0)
/-- Window 8 (operand 9 (%arg10)) is fetched at the points ≡ 0 (mod 10), at any contents of the tables (its index map reads none). -/
theorem fetch0_8 (a : (pcfg0 (F := F)).Adm) : ∀ t : Fin (cfg0 a).N, ((cfg0 a).win 8).fetch t = true ↔ t.val % 10 = 0 :=
  (fun t => Pipeline.Window.fetchOf_reads cc0_transform_8 reads0_8 hreads0_8 0 (by decide) (by decide) (Pipeline.Window.sep_of_coord cc0_transform_8 0 0 (fun _ => rfl) (by decide)) (P := 10) (by decide) t : ∀ t : Fin grid0.N, Pipeline.Window.fetchOf grid0 false cc0_transform_8 t = true ↔ t.val % 10 = 0)
/-- Window 9 (operand 10 (%arg11)) is fetched at the points ≡ 0 (mod 20), at any contents of the tables (its index map reads none). -/
theorem fetch0_9 (a : (pcfg0 (F := F)).Adm) : ∀ t : Fin (cfg0 a).N, ((cfg0 a).win 9).fetch t = true ↔ t.val % 20 = 0 :=
  (by decide +kernel : ∀ t : Fin grid0.N, Pipeline.Window.fetchOf grid0 false cc0_transform_9 t = true ↔ t.val % 20 = 0)
/-- Window 10 (operand 11 (%7)) is fetched at the points ≡ 0 (mod 20), at any contents of the tables (its index map reads none). -/
theorem fetch0_10 (a : (pcfg0 (F := F)).Adm) : ∀ t : Fin (cfg0 a).N, ((cfg0 a).win 10).fetch t = true ↔ t.val % 20 = 0 :=
  (by decide +kernel : ∀ t : Fin grid0.N, Pipeline.Window.fetchOf grid0 false cc0_transform_10 t = true ↔ t.val % 20 = 0)
/-- Window 11 (result 0 (%8)) is written back at every point, at any contents of the tables (its index map reads none). -/
theorem flush0_11 (a : (pcfg0 (F := F)).Adm) : ∀ t : Fin (cfg0 a).N, ((cfg0 a).win 11).flush t = true :=
  (by decide +kernel : ∀ t : Fin grid0.N, Pipeline.Window.flushOf grid0 true cc0_transform_11 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_attend (grid0.coords t) (Memref.whole main_v6) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

end Cert.KernelIdeal.Gen

end
-- ==== Proof.Attend.Ideal.Runs.lean ====
/- Generated by the certificate tool from the attention program, then edited: what the runs of `proofs.«01_k».proof.KernelIdeal`'s
   frame certificate share — the frame kit (`Gen.hmain`, `Gen.V`, `Gen.iblk`, `Gen.frame_of`) and everything the runs
   are stated over (the body's branch conditions in closed form over the points; where its windows are idle; the staging and
   scratch memrefs; side conditions assumed, `Gen.Hyps`; a ring's names and canonical forms) —, imported by the
   first case's run (Frame/Run<κ>.lean: each imports the one before it) and, through the last, by the Frame module
   (Frame.lean), which holds the rest of the certificate. -/
module

public import proofs.«01_k».proof.Proof.Gen.KernelIdeal.Launch
public import proofs.«01_k».proof.Proof.Gen.KernelIdeal.Skeleton
public import proofs.«01_k».proof.Proof.Attend.Ideal.Loops
public import proofs.«01_k».proof.Proof.Attend.Ideal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S24x5 .i32 := Memref.whole main_v6
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 1).trans (((dats 0 c).arrAt_in 1 rfl _).trans ((hA c 1).trans (V_main_arg3 m c))),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c))),
      ((h c).1 6).trans (((dats 0 c).arrAt_in 6 rfl _).trans ((hA c 6).trans (V_main_arg8 m c))),
      ((h c).1 7).trans (((dats 0 c).arrAt_in 7 rfl _).trans ((hA c 7).trans (V_main_arg9 m c))),
      ((h c).1 8).trans (((dats 0 c).arrAt_in 8 rfl _).trans ((hA c 8).trans (V_main_arg10 m c))),
      ((h c).1 9).trans (((dats 0 c).arrAt_in 9 rfl _).trans ((hA c 9).trans (V_main_arg11 m c)))⟩) h

/-! ## The kernel body on any staging memrefs: a subtype the run finds -/

/-- One staging buffer of output window 11, through which its contents are stated (`View.read_writes_of_cover`: the
    choice does not matter). -/
abbrev VO0_11 : View sig .tc .vmem S1x64x512 .f32 := (Memref.whole cc0_stg11_0 : Memref sig .tc .vmem S1x64x512 .f32).view
/-- Each window's current staging memref at point `t`, spelled as the pipeline passes it (`bodyAt0`), and its wholeness. -/
abbrev ms0_0 (hO : Ok m) (t : Fin (cfgM m hO).N) : Memref sig .tc .vmem S1x4x64x128 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x8 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x9600x128 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2x9600 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x9600x128 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x640x128 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x2x640 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x640x128 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x2x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x8x10240 .i32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x64x512 .f32 := spec0_11.stage ((cfgM m hO).slots t 11)
abbrev hs0_11 (hO : Ok m) (t : Fin (cfgM m hO).N) : (ms0_11 m hO t).IsWhole := hstage0_11 (((cfgM m hO).slots t 11).cast nbuf0_11)
/-- The scratch operands: whole scoped buffers of the kernel's own, passed beside the windows. -/
abbrev scM0_0 : Memref sig .tc .vmem S256x128 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.Attend.Ideal.RunA.lean ====
/- Generated by the certificate tool from the attention program, then edited: the whole-body RUN of `proofs.«01_k».proof.KernelIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. -/
module

public import proofs.«01_k».proof.Proof.Attend.Ideal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table's half share, with the whole buffer spelt as the memref's own elements: the form in which a loop's
    invariant reads it. -/
theorem tbPt0_iff (c : Dev nD) (f : TbBuf0 (F := F) c tbM0_0) :
    (tbPt0 c tbM0_0 f : sProp 𝕄) = (tbM0_0.view.loc (c : Thread nD τ) ↦[tbM0_0.view.set]{fullShare.right} f) := by
  have h : tbM0_0.view.set = Finset.univ := View.set_whole _
  rw [h]

-- (the run's proof term is large: the definition's epilogue — `abstractNestedProofs` — walks it past the default budget)
set_option maxHeartbeats 1640000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, the other scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)
    (x0 : Vec F S1x4x64x128 .fp8e4m3) (x1 : Vec F S1x64x8 .f32) (x2 : Vec F S1x9600x128 .fp8e4m3) (x3 : Vec F S1x2x9600 .f32) (x4 : Vec F S1x9600x128 .fp8e4m3) (x5 : Vec F S1x2x128 .f32) (x6 : Vec F S1x640x128 .fp8e4m3) (x7 : Vec F S1x2x640 .f32) (x8 : Vec F S1x640x128 .fp8e4m3) (x9 : Vec F S1x2x128 .f32) (x10 : Vec F S1x8x10240 .i32) (xt0 : TbBuf0 (F := F) c tbM0_0) :
    Σ' (L11 : List (View.Piece (Elt F) S1x64x512 .f32)), Σ' (LT1 : List (View.Piece (Elt F) S256x128 .f32)), { LT4 : List (View.Piece (Elt F) S256x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ (∃ f, arg14.view.loc (c : Thread nD τ) ↦[arg14.view.set]{fullShare} arg14.view.writes (Elt F) f L11) ∗ (∃ d, owns (c : Thread nD τ) arg15 fullShare d) ∗ (∃ f, arg16.view.loc (c : Thread nD τ) ↦[arg16.view.set]{fullShare} arg16.view.writes (Elt F) f LT1) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LT4) ∗ tbPt0 c tbM0_0 xt0) -∗ K ⟨⟩))
          ⊢ wp frame (wpE (defs₀ (F := F)) Variants.none c none) E (cc0_attend i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, fun E K => ?run⟩
  case run =>
    simp only [cc0_attend_eq_skeleton]; unfold cc0_attend_skel
    simp only [k0_part49_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    rw [tbPt0_iff]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]; · iexists _; iexact H11
    isplitl [HS0]
    · iexists _, _; isplitr; swap; · iexact HS0
      ipureintro; rfl
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]; · iexists _; iexact HS4
    iexact HT0

end Cert.KernelIdeal.Gen

end
-- ==== Proof.Attend.Ideal.Frame.lean ====
/- Generated by the certificate tool from the attention program, then edited: the FRAME CERTIFICATE of `proofs.«01_k».proof.KernelIdeal`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   `scf.if`s on the coordinates admitted — framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frameP`) and `Gen.frame` — the frame claim at any `F`,
   here for EVERY contents of the pallas_call's prefetched tables, under `Gen.Ok m` (the pipeline's side condition of
   the tables read off `m`: each window whose index map reads one inside its array, its transfers word-exact),
   which Proof.lean proves from the precondition:
   `theorem Cert.Proof.claim : Cert.Claim := ⟨Gen.facts, …, fun m ρ h => Gen.frame m ρ (ok_of_pre m h)⟩`.
   CLASS R (one case, 5 scratch operands, scratch `arg16`, `arg19` posted (their store pieces named, `LT·`, in the run of each case that posts them); for every contents of the 1 prefetched table, their pipeline side condition taken as the hypothesis `Gen.Ok`, Proof.lean's to prove from the precondition): the certificate is whole here — not class A: the kernel takes operands the pipeline does not stage (scratch, semaphores, tables, arrays left in HBM). -/
module

public import proofs.«01_k».proof.Proof.Attend.Ideal.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 11 tile its block (4 stores of `S1x64x128`, checked by the kernel's evaluation: Lib/Ring.lean `Piece.tiledL`, linear in the pieces, through a loop's `@[irreducible]` trip theorem too), so they cover it. -/
theorem cover0_A_11 (c : Dev nD) (i : grid0.Coords) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)
    (x0 : Vec F S1x4x64x128 .fp8e4m3) (x1 : Vec F S1x64x8 .f32) (x2 : Vec F S1x9600x128 .fp8e4m3) (x3 : Vec F S1x2x9600 .f32) (x4 : Vec F S1x9600x128 .fp8e4m3) (x5 : Vec F S1x2x128 .f32) (x6 : Vec F S1x640x128 .fp8e4m3) (x7 : Vec F S1x2x640 .f32) (x8 : Vec F S1x640x128 .fp8e4m3) (x9 : Vec F S1x2x128 .f32) (x10 : Vec F S1x8x10240 .i32) (xt0 : TbBuf0 (F := F) c tbM0_0) (y : S1x64x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 xt0).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 xt0).1 S1x64x128.size (by sl_kernel_rfl) y

/-- What the run leaves in output 11's staging buffer: its pieces read back over junk. -/
def out0_A_11 (c : Dev nD) (i : grid0.Coords) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)
    (x0 : Vec F S1x4x64x128 .fp8e4m3) (x1 : Vec F S1x64x8 .f32) (x2 : Vec F S1x9600x128 .fp8e4m3) (x3 : Vec F S1x2x9600 .f32) (x4 : Vec F S1x9600x128 .fp8e4m3) (x5 : Vec F S1x2x128 .f32) (x6 : Vec F S1x640x128 .fp8e4m3) (x7 : Vec F S1x2x640 .f32) (x8 : Vec F S1x640x128 .fp8e4m3) (x9 : Vec F S1x2x128 .f32) (x10 : Vec F S1x8x10240 .i32) (xt0 : TbBuf0 (F := F) c tbM0_0) : Vec F S1x64x512 .f32 :=
  VO0_11.read (Elt F) (VO0_11.writes (Elt F) VO0_11.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 xt0).1)

/-! ## What the outputs hold after each point -/

/-- What the outputs' staging buffers hold after the body at point `t`: the run's contents at
    the point's memrefs and input blocks. -/
def outsAt0 (hO : Ok m) (c : Dev nD) (t : Fin (cfgM m hO).N) : Vec F S1x64x512 .f32 :=
  out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t))

set_option maxHeartbeats 1600000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11]
  rw [show (dats m hO 0 c).Φ t.castSucc = iprop(Pipeline.ΦA spec0 c ∗ Pipeline.ΦT pre0 (tbl m) c) from rfl, PhiT0_eq, PhiA0_eq]
  unfold outsAt0
  unfold out0_A_11
  iintro ⟨⟨⟨⟨HS0, HS1, HS2, HS3, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c (grid0.coords t) _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HT0]; · iexact HT0
  iintro ⟨H0, H1, H2, H3, H4, H5, H6, H7, H8, H9, H10, ⟨%e11, H11⟩, HS0, ⟨%fT1, HS1⟩, HS2, HS3, ⟨%fT4, HS4⟩, HT0⟩
  isplitl [HS0 HS1 HS2 HS3 HS4 Hg HT0]
  · isplitl [HS0 HS1 HS2 HS3 HS4 Hg]
    · isplitl [HS0 HS1 HS2 HS3 HS4]
      · isplitl [HS0]
        · iexact HS0
        isplitl [HS1]
        · iexists _; unfold owns; iexists _; isplitr
          swap; · iexact HS1
          ipureintro; rfl
        isplitl [HS2]
        · iexact HS2
        isplitl [HS3]
        · iexact HS3
        iexists _; unfold owns; iexists _; isplitr
        swap; · iexact HS4
        ipureintro; rfl
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ hO) ((θ_run defs _ _).mono (fun _ h => h.2) (run_main_quiescent m ρ hO))

end Cert.KernelIdeal.Gen

end
-- ==== Proof.Attend.Ideal.Value.lean ====
/- Generated by the certificate tool from the attention program, then edited (the facts that need an injective
   index map are removed).
   The VALUE LEG of proofs.«01_k».proof.KernelIdeal's certificate (Lib/Pipeline/Value.lean) for this class-R kernel, in two forms. BLOCKWISE,
   whatever its body computes: `run_blocks` is the frame run `Gen.run_main` with each output array after the run NAMED
   (`(Gen.dats …).arrAt w N`), and per output window `w`: `flushed_w` — what grid point `t` would write back is the
   run's contents for the window (`Gen.outsAtK`) read through the block —, per case `flushed_w_κ` — at a point of that case,
   the case's NAMED TERM (`Gen.outK_κ_W`: its pieces read back; for an output the case reads back, over what the point
   before left) —, when the index map is injective (decided) `disjoint_w` / `blocks_w` — block `t` of the final array
   IS what point `t` wrote —, `entry_w` — an index no block covers keeps the region-entry
   contents. The ACCUMULATED form (`run`: each output array one function of the arguments) is NOT written for this
   kernel:
   no static grid, or prefetched tables.
   The certificate's hand proof unfolds the named terms `flushed_w_κ` cites and sets `run_blocks` beside the
   reference's run. -/
module

public import proofs.«01_k».proof.Proof.Attend.Ideal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 11's array: the run's contents for that window after the body (`Gen.outsAt0`), read through the window's block. -/
theorem flushed11 (hO : Ok m) (c : Dev nD) (t : Fin (cfgM m hO).N) :
    (dats m hO 0 c).flushed 11 t = ((cfgM m hO).win 11).cut (grid0.coords t) (outsAt0 m hO c t) := by
  show ((cfgM m hO).win 11).cut (grid0.coords t) ((dats m hO 0 c).after 11 t) = _
  rw [after0_11]

/-- … so at a point where case A runs, what its write-back would write is that case's NAMED TERM for the window (`Gen.out0_A_11`: the pieces
    its run found, read back) at the point's memrefs and input blocks, and for an output the case reads back what the point before left (`Gen.outsAt0` at `t - 1`) — the kernel's one case, `Gen.outsAt0` by definition. -/
theorem flushed11_A (hO : Ok m) (c : Dev nD) (t : Fin (cfgM m hO).N) :
    (dats m hO 0 c).flushed 11 t = ((cfgM m hO).win 11).cut (grid0.coords t) (out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) scM0_0 (Memref.isWhole_whole _) scM0_1 (Memref.isWhole_whole _) scM0_2 (Memref.isWhole_whole _) scM0_3 (Memref.isWhole_whole _) scM0_4 (Memref.isWhole_whole _) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0)) := by
  rw [flushed11]
  rfl

/-- After the frame run, output window 11's array is `(dats m hO 0 c).arrAt 11 N`. -/
theorem post11 (hO : Ok m) (r : PUnit × MemSt nD τ sig (Elt F)) (h : Pipeline.FramePost (Pipeline.pin pcfgs fun _ => adm m hO) (dats m hO) 0 (V m) r) (c : Dev nD) :
    r.2.mem ((c : Thread nD τ).loc main_v8) = (dats m hO 0 c).arrAt 11 (cfgM m hO).N :=
  (h c).1 11

/-- After the frame run, argument `main_arg0` is as launched: no window stages it, and the run leaves the region's other buffers as they were. -/
theorem kept_main_arg0 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg0) = m ((c : Thread nD τ).loc main_arg0) :=
  ((h c).2 main_arg0 (by decide : main_arg0 ∈ Pipeline.restRefs sig spec0)).trans (V_main_arg0 m c)

/-- After the frame run, argument `main_arg1` is as launched: no window stages it, and the run leaves the region's other buffers as they were. -/
theorem kept_main_arg1 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg1) = m ((c : Thread nD τ).loc main_arg1) :=
  ((h c).2 main_arg1 (by decide : main_arg1 ∈ Pipeline.restRefs sig spec0)).trans (V_main_arg1 m c)

/-- After the frame run, argument `main_arg2` is as launched: input window 0 stages it and never writes it back. -/
theorem kept_main_arg2 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg2) = m ((c : Thread nD τ).loc main_arg2) :=
  ((h c).1 0).trans (((dats m hO 0 c).arrAt_in 0 rfl _).trans ((A_eq m hO c 0).trans (V_main_arg2 m c)))

/-- After the frame run, argument `main_arg3` is as launched: input window 1 stages it and never writes it back. -/
theorem kept_main_arg3 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg3) = m ((c : Thread nD τ).loc main_arg3) :=
  ((h c).1 1).trans (((dats m hO 0 c).arrAt_in 1 rfl _).trans ((A_eq m hO c 1).trans (V_main_arg3 m c)))

/-- After the frame run, argument `main_arg4` is as launched: input window 2 stages it and never writes it back. -/
theorem kept_main_arg4 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg4) = m ((c : Thread nD τ).loc main_arg4) :=
  ((h c).1 2).trans (((dats m hO 0 c).arrAt_in 2 rfl _).trans ((A_eq m hO c 2).trans (V_main_arg4 m c)))

/-- After the frame run, argument `main_arg5` is as launched: input window 3 stages it and never writes it back. -/
theorem kept_main_arg5 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg5) = m ((c : Thread nD τ).loc main_arg5) :=
  ((h c).1 3).trans (((dats m hO 0 c).arrAt_in 3 rfl _).trans ((A_eq m hO c 3).trans (V_main_arg5 m c)))

/-- After the frame run, argument `main_arg6` is as launched: input window 4 stages it and never writes it back. -/
theorem kept_main_arg6 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg6) = m ((c : Thread nD τ).loc main_arg6) :=
  ((h c).1 4).trans (((dats m hO 0 c).arrAt_in 4 rfl _).trans ((A_eq m hO c 4).trans (V_main_arg6 m c)))

/-- After the frame run, argument `main_arg7` is as launched: input window 5 stages it and never writes it back. -/
theorem kept_main_arg7 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg7) = m ((c : Thread nD τ).loc main_arg7) :=
  ((h c).1 5).trans (((dats m hO 0 c).arrAt_in 5 rfl _).trans ((A_eq m hO c 5).trans (V_main_arg7 m c)))

/-- After the frame run, argument `main_arg8` is as launched: input window 6 stages it and never writes it back. -/
theorem kept_main_arg8 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg8) = m ((c : Thread nD τ).loc main_arg8) :=
  ((h c).1 6).trans (((dats m hO 0 c).arrAt_in 6 rfl _).trans ((A_eq m hO c 6).trans (V_main_arg8 m c)))

/-- After the frame run, argument `main_arg9` is as launched: input window 7 stages it and never writes it back. -/
theorem kept_main_arg9 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg9) = m ((c : Thread nD τ).loc main_arg9) :=
  ((h c).1 7).trans (((dats m hO 0 c).arrAt_in 7 rfl _).trans ((A_eq m hO c 7).trans (V_main_arg9 m c)))

/-- After the frame run, argument `main_arg10` is as launched: input window 8 stages it and never writes it back. -/
theorem kept_main_arg10 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg10) = m ((c : Thread nD τ).loc main_arg10) :=
  ((h c).1 8).trans (((dats m hO 0 c).arrAt_in 8 rfl _).trans ((A_eq m hO c 8).trans (V_main_arg10 m c)))

/-- After the frame run, argument `main_arg11` is as launched: input window 9 stages it and never writes it back. -/
theorem kept_main_arg11 (hO : Ok m) (r : PUnit × MemSt nD τ sig (Elt F)) (h : Pipeline.FramePost (Pipeline.pin pcfgs fun _ => adm m hO) (dats m hO) 0 (V m) r) (c : Dev nD) :
    r.2.mem ((c : Thread nD τ).loc main_arg11) = m ((c : Thread nD τ).loc main_arg11) :=
  ((h c).1 9).trans (((dats m hO 0 c).arrAt_in 9 rfl _).trans ((A_eq m hO c 9).trans (V_main_arg11 m c)))

/-- The frame run with each output array after the run NAMED — `(dats m hO 0 c).arrAt w N`, which `blocks_w` / `entry_w` read —,
    the arguments unchanged. -/
theorem run_blocks (hO : Ok m) : θ_run defs (onTc (τ := τ) (main (F := F))) ⟨m, fun _ => 0, ρ⟩ fun r => ∀ c : Dev nD,
      r.2.mem ((c : Thread nD τ).loc main_v8) = (dats m hO 0 c).arrAt 11 (cfgM m hO).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨post11 m hO r h c,
      kept_main_arg0 m hO r h c,
      kept_main_arg1 m hO r h c,
      kept_main_arg2 m hO r h c,
      kept_main_arg3 m hO r h c,
      kept_main_arg4 m hO r h c,
      kept_main_arg5 m hO r h c,
      kept_main_arg6 m hO r h c,
      kept_main_arg7 m hO r h c,
      kept_main_arg8 m hO r h c,
      kept_main_arg9 m hO r h c,
      kept_main_arg10 m hO r h c,
      kept_main_arg11 m hO r h c⟩)
    (run_main m ρ hO)

end Cert.KernelIdeal.Value

end
-- ==== Proof.Attend.Ideal.Template.lean ====
module
public import proofs.«01_k».proof.Proof.Attend.Ideal.Loops
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.RefValue
open Cert.KernelIdeal Cert.KernelIdeal.Gen
variable {F : FTy → Type} [FloatOps F]

/-- The program id of the key/value group within its batch entry, as the kernel computes it. -/
def grp (i : grid0.Coords) : BitVec 32 :=
  Scalar.select (Scalar.andi (Scalar.xori (Scalar.cmpi .slt (Scalar.remsi (BitVec.ofNat 32 (i 0).val) 2#32) 0#32) 0#1)
      (Scalar.cmpi .ne (Scalar.remsi (BitVec.ofNat 32 (i 0).val) 2#32) 0#32))
    (Scalar.addi (Scalar.remsi (BitVec.ofNat 32 (i 0).val) 2#32) 2#32) (Scalar.remsi (BitVec.ofNat 32 (i 0).val) 2#32)

/-- The block of 64 keys of each lane of a 640-lane tile. -/
def laneBlk : IVec S1x640 32 := k0_pay68 (iota .tc S1x640 32 [1] iota_S1x640_d1_w32) 64#32 k0_pay66 k0_pay67 1#32 0#1

def rowId : IVec S64x640 32 := iota .tc S64x640 32 [0] iota_S64x640_d0_w32
def laneId : IVec S64x640 32 := iota .tc S64x640 32 [1] iota_S64x640_d1_w32

theorem inb_q (r : Fin 4) : ∀ a, (![0, r.val, 0, 0] : Fin 4 → ℕ) a + S1x1x64x128.size a ≤ S1x4x64x128.size a := by
  revert r; decide +kernel
theorem inb_row (r : Fin 4) : ∀ a, (![64 * r.val, 0] : Fin 2 → ℕ) a + S64x128.size a ≤ S256x128.size a := by
  revert r; decide +kernel
theorem inb_colA (r : Fin 4) : S64x8.Slices ![0, r.val] S64x1 := by revert r; decide +kernel
theorem inb_colB (r : Fin 4) : S64x8.Slices ![0, 4 + r.val] S64x1 := by revert r; decide +kernel

/-- Head `r` of the query codes. -/
def qHead (x0 : Vec F S1x4x64x128 .fp8e4m3) (r : Fin 4) : Vec F S1x1x64x128 .fp8e4m3 :=
  View.ld x0 (Rect.unit (s := S1x4x64x128) ![0, r.val, 0, 0] S1x1x64x128.size (inb_q r))

/-- Product of query and key codes, scaled by row and by key. -/
def dotScale (v9 : BitVec 32) (q : Vec F S1x1x64x128 .fp8e4m3) (k : Vec F S1x640x128 .fp8e4m3) (qs : Vec F S1x64x8 .f32)
    (col : Vec F S1x1x640 .f32) (r : Fin 4) : FVec F S64x640 .f32 :=
  mulf (mulf (matmul dot_S64x128_S640x128_S64x640_1_1_0_0_n_n none (shapeCast S64x128 q shapeCasts_S1x1x64x128_S64x128 : FVec F S64x128 .fp8e4m3)
      (shapeCast S640x128 k shapeCasts_S1x640x128_S640x128 : FVec F S640x128 .fp8e4m3) (constant S64x640 .f32 0x00000000#32))
    (broadcastTo S64x640 (mulf (Scalar.select (Scalar.cmpi .eq v9 0#32)
      (extractStridedSlice S64x1 ![0, r.val] (shapeCast S64x8 qs shapeCasts_S1x64x8_S64x8 : FVec F S64x8 .f32) (inb_colA r))
      (extractStridedSlice S64x1 ![0, 4 + r.val] (shapeCast S64x8 qs shapeCasts_S1x64x8_S64x8 : FVec F S64x8 .f32) (inb_colB r)))
      (broadcast S64x1 (Scalar.ofBits .f32 0x3E0293EE#32))) broadcasts_S64x1_S64x640))
    (broadcastTo S64x640 (shapeCast S1x640 col shapeCasts_S1x1x640_S1x640 : FVec F S1x640 .f32) broadcasts_S1x640_S64x640)

/-- The word of the packed table that holds slash bit `d`. -/
def pick (d : IVec S1x640 32) (w : Fin 5 → BitVec 32) : IVec S1x640 32 :=
  select (cmpi .eq (shrsi d (broadcast S1x640 5#32)) (broadcast S1x640 4#32)) (broadcast S1x640 (w 4))
  (select (cmpi .eq (shrsi d (broadcast S1x640 5#32)) (broadcast S1x640 3#32)) (broadcast S1x640 (w 3))
  (select (cmpi .eq (shrsi d (broadcast S1x640 5#32)) (broadcast S1x640 2#32)) (broadcast S1x640 (w 2))
  (select (cmpi .eq (shrsi d (broadcast S1x640 5#32)) (broadcast S1x640 1#32)) (broadcast S1x640 (w 1))
  (select (cmpi .eq (shrsi d (broadcast S1x640 5#32)) (broadcast S1x640 0#32)) (broadcast S1x640 (w 0)) (broadcast S1x640 0#32)))))

/-- Which of 640 keys a row block keeps by the slash pattern. -/
def slashV (d : IVec S1x640 32) (w : Fin 5 → BitVec 32) : IVec S1x640 1 :=
  ori (cmpi .eq d (broadcast S1x640 0#32)) (andi (cmpi .sgt d (broadcast S1x640 0#32))
    (cmpi .eq (andi (shrui (pick d w) (andi d (broadcast S1x640 31#32))) (broadcast S1x640 1#32)) (broadcast S1x640 1#32)))

/-- Which of 640 keys a row block keeps. -/
def keepV (d : IVec S1x640 32) (w : Fin 5 → BitVec 32) (vert : Vec F S1x1x640 .i32) : IVec S1x640 1 :=
  ori (slashV d w)
    (cmpi .sgt (shapeCast S1x640 vert shapeCasts_S1x1x640_S1x640 : IVec S1x640 32) (broadcast S1x640 0#32))

def maskV (s : FVec F S64x640 .f32) (keep : IVec S1x640 1) : FVec F S64x640 .f32 :=
  addf s (broadcastTo S64x640 (select keep (broadcast S1x640 (Scalar.ofBits .f32 0x00000000#32)) (broadcast S1x640 (Scalar.ofBits .f32 0xFF800000#32))) broadcasts_S1x640_S64x640)

/-- The mask of later keys of the new block. -/
def causalV (a1 : BitVec 32) (s : FVec F S64x640 .f32) : FVec F S64x640 .f32 :=
  select (cmpi .sle laneId (addi (broadcast S64x640 (Scalar.muli a1 64#32)) rowId)) s (broadcast S64x640 (Scalar.ofBits .f32 0xFF800000#32))

/-- Distance in key blocks. -/
def distV (a1 tb : BitVec 32) : IVec S1x640 32 :=
  subi (broadcast S1x640 (Scalar.addi 150#32 a1)) (addi (broadcast S1x640 tb) laneBlk)

def max5 (s : FVec F S64x640 .f32) : FVec F S64x128 .f32 :=
  maximumf (maximumf (maximumf (maximumf (extractStridedSlice S64x128 ![0, 0] s slices_S64x640_o0_0_S64x128)
    (extractStridedSlice S64x128 ![0, 128] s slices_S64x640_o0_128_S64x128)) (extractStridedSlice S64x128 ![0, 256] s slices_S64x640_o0_256_S64x128))
    (extractStridedSlice S64x128 ![0, 384] s slices_S64x640_o0_384_S64x128)) (extractStridedSlice S64x128 ![0, 512] s slices_S64x640_o0_512_S64x128)
def sum5 (s : FVec F S64x640 .f32) : FVec F S64x128 .f32 :=
  addf (addf (addf (addf (extractStridedSlice S64x128 ![0, 0] s slices_S64x640_o0_0_S64x128)
    (extractStridedSlice S64x128 ![0, 128] s slices_S64x640_o0_128_S64x128)) (extractStridedSlice S64x128 ![0, 256] s slices_S64x640_o0_256_S64x128))
    (extractStridedSlice S64x128 ![0, 384] s slices_S64x640_o0_384_S64x128)) (extractStridedSlice S64x128 ![0, 512] s slices_S64x640_o0_512_S64x128)

/-- The five packed words of head `r`. -/
def words (i : grid0.Coords) (wt : Vec F S24x5 .i32) (r : Fin 4) : Fin 5 → BitVec 32 :=
  ![View.ld wt (Rect.unit (s := S24x5) (k0_off10 i (BitVec.ofNat 32 r.val)) S1x1.size (k0_off10_inb i r)) (Shape.Idx.first (numel1_S1x1.trans_gt one_pos)),
    View.ld wt (Rect.unit (s := S24x5) (k0_off11 i (BitVec.ofNat 32 r.val)) S1x1.size (k0_off11_inb i r)) (Shape.Idx.first (numel1_S1x1.trans_gt one_pos)),
    View.ld wt (Rect.unit (s := S24x5) (k0_off12 i (BitVec.ofNat 32 r.val)) S1x1.size (k0_off12_inb i r)) (Shape.Idx.first (numel1_S1x1.trans_gt one_pos)),
    View.ld wt (Rect.unit (s := S24x5) (k0_off13 i (BitVec.ofNat 32 r.val)) S1x1.size (k0_off13_inb i r)) (Shape.Idx.first (numel1_S1x1.trans_gt one_pos)),
    View.ld wt (Rect.unit (s := S24x5) (k0_off14 i (BitVec.ofNat 32 r.val)) S1x1.size (k0_off14_inb i r)) (Shape.Idx.first (numel1_S1x1.trans_gt one_pos))]

/-- Masked scores of head `r` against cached tile `k`. -/
def cached (i : grid0.Coords) (wt : Vec F S24x5 .i32) (x0 : Vec F S1x4x64x128 .fp8e4m3) (x1 : Vec F S1x64x8 .f32) (x2 : Vec F S1x9600x128 .fp8e4m3)
    (x3 : Vec F S1x2x9600 .f32) (x10 : Vec F S1x8x10240 .i32) (k : Fin k0_t1_loop.trips) (r : Fin 4) : FVec F S64x640 .f32 :=
  maskV (dotScale (grp i) (qHead x0 r) (View.ld x2 (Rect.unit (s := S1x9600x128) (k0_off8 k) S1x640x128.size (k0_off8_inb k)))
      (View.ld x1 (Rect.unit (s := S1x64x8) ![0, 0, 0] S1x64x8.size inb_S1x64x8_S1x64x8_0_0_0))
      (View.ld x3 (Rect.unit (s := S1x2x9600) (k0_off9 i k) S1x1x640.size (k0_off9_inb i k))) r)
    (keepV (distV (BitVec.ofNat 32 (i 1).val) (Scalar.muli (Scalar.addi 0#32 (Scalar.muli (Scf.iv 0#32 1#32 k.val) 1#32)) 10#32)) (words i wt r)
      (View.ld x10 (Rect.unit (s := S1x8x10240) (k0_off15 i k (BitVec.ofNat 32 r.val)) S1x1x640.size (k0_off15_inb i k r)) : Vec F S1x1x640 .i32))

/-- Masked scores of head `r` against the new keys. -/
def fresh (i : grid0.Coords) (wt : Vec F S24x5 .i32) (x0 : Vec F S1x4x64x128 .fp8e4m3) (x1 : Vec F S1x64x8 .f32) (x6 : Vec F S1x640x128 .fp8e4m3)
    (x7 : Vec F S1x2x640 .f32) (x10 : Vec F S1x8x10240 .i32) (r : Fin 4) : FVec F S64x640 .f32 :=
  causalV (BitVec.ofNat 32 (i 1).val) (maskV (dotScale (grp i) (qHead x0 r) x6 x1
      (View.ld x7 (Rect.unit (s := S1x2x640) (k0_off1 i) S1x1x640.size (k0_off1_inb i))) r)
    (keepV (distV (BitVec.ofNat 32 (i 1).val) 150#32) (words i wt r)
      (View.ld x10 (Rect.unit (s := S1x8x10240) (k0_off7 i (BitVec.ofNat 32 r.val)) S1x1x640.size (k0_off7_inb i r)) : Vec F S1x1x640 .i32)))

abbrev rowR (r : Fin 4) : Rect S256x128 := Rect.unit (s := S256x128) ![64 * r.val, 0] S64x128.size (inb_row r)

/-- Powers of two of scores minus the row maximum. -/
def expV (s : FVec F S64x640 .f32) (m : FVec F S64x1 .f32) : FVec F S64x640 .f32 :=
  exp2 (subf s (broadcastTo S64x640 m broadcasts_S64x1_S64x640))
/-- Product of weights and value codes. -/
def pvV (p : FVec F S64x640 .f32) (v : Vec F S1x640x128 .fp8e4m3) : FVec F S64x128 .f32 :=
  matmul dot_S64x640_S640x128_S64x128_1_0_0_1_n_n none (truncf .bf16 p bitsLt_bf16_f32)
    (extf .bf16 (shapeCast S640x128 v shapeCasts_S1x640x128_S640x128 : FVec F S640x128 .fp8e4m3) bitsLt_fp8e4m3_bf16) (constant S64x128 .f32 0x00000000#32)
theorem inb_m (r : Fin 4) : ∀ a, (![64 * r.val, 0] : Fin 2 → ℕ) a + S64x1.size a ≤ S256x128.size a := by
  revert r; decide +kernel
abbrev rowM (r : Fin 4) : Rect S256x128 := Rect.unit (s := S256x128) ![64 * r.val, 0] S64x1.size (inb_m r)
theorem inb_o (r : Fin 4) : ∀ a, (![0, 0, 128 * r.val] : Fin 3 → ℕ) a + S1x64x128.size a ≤ S1x64x512.size a := by
  revert r; decide +kernel
abbrev colO (r : Fin 4) : Rect S1x64x512 := Rect.unit (s := S1x64x512) ![0, 0, 128 * r.val] S1x64x128.size (inb_o r)
/-- The weighted value sums, scaled and divided by the sum of the weights. -/
def outV (oc on den : Vec F S64x128 .f32) (vcs vns : Vec F S1x1x128 .f32) : FVec F S1x64x128 .f32 :=
  shapeCast S1x64x128 (divf (addf (mulf oc (broadcastTo S64x128 (shapeCast S1x128 vcs shapeCasts_S1x1x128_S1x128 : FVec F S1x128 .f32) broadcasts_S1x128_S64x128))
      (mulf on (broadcastTo S64x128 (shapeCast S1x128 vns shapeCasts_S1x1x128_S1x128 : FVec F S1x128 .f32) broadcasts_S1x128_S64x128)))
    (broadcastTo S64x128 (shapeCast S64x1 (multiReduction .add [1] S64 den 0x00000000#32 reduces_S64x128_S64 (.inl rfl) rfl : FVec F S64 .f32) shapeCasts_S64_S64x1 : FVec F S64x1 .f32) broadcasts_S64x1_S64x128)) shapeCasts_S64x128_S1x64x128
/-- The batch entry, as the kernel computes it. -/
def bat (i : grid0.Coords) : BitVec 32 :=
  Scalar.select (Scalar.andi (Scalar.cmpi .ne (Scalar.subi (Scalar.extui (Scalar.cmpi .sgt (BitVec.ofNat 32 (i 0).val) 0#32))
      (Scalar.extui (Scalar.cmpi .slt (BitVec.ofNat 32 (i 0).val) 0#32))) 1#32) (Scalar.cmpi .ne (Scalar.remsi (BitVec.ofNat 32 (i 0).val) 2#32) 0#32))
    (Scalar.subi (Scalar.divsi (BitVec.ofNat 32 (i 0).val) 2#32) 1#32) (Scalar.divsi (BitVec.ofNat 32 (i 0).val) 2#32)

/-- The entry pieces of the running maximum. -/
def ent15 (i : grid0.Coords) (wt : Vec F S24x5 .i32) (x0 : Vec F S1x4x64x128 .fp8e4m3) (x1 : Vec F S1x64x8 .f32) (x6 : Vec F S1x640x128 .fp8e4m3)
    (x7 : Vec F S1x2x640 .f32) (x10 : Vec F S1x8x10240 .i32) : List (View.Piece (Elt F) S256x128 .f32) :=
  [⟨rowR 3, shapeCast S64x128 (max5 (fresh i wt x0 x1 x6 x7 x10 3)) shapeCasts_S64x128_S64x128⟩, ⟨rowR 2, shapeCast S64x128 (max5 (fresh i wt x0 x1 x6 x7 x10 2)) shapeCasts_S64x128_S64x128⟩, ⟨rowR 1, shapeCast S64x128 (max5 (fresh i wt x0 x1 x6 x7 x10 1)) shapeCasts_S64x128_S64x128⟩, ⟨rowR 0, shapeCast S64x128 (max5 (fresh i wt x0 x1 x6 x7 x10 0)) shapeCasts_S64x128_S64x128⟩]
def ent17 (i : grid0.Coords) (wt : Vec F S24x5 .i32) (x0 : Vec F S1x4x64x128 .fp8e4m3) (x1 : Vec F S1x64x8 .f32) (x6 : Vec F S1x640x128 .fp8e4m3)
    (x7 : Vec F S1x2x640 .f32) (x10 : Vec F S1x8x10240 .i32) (M : Vec F S256x128 .f32) : List (View.Piece (Elt F) S256x128 .f32) :=
  [⟨rowR 3, shapeCast S64x128 (sum5 (expV (fresh i wt x0 x1 x6 x7 x10 3) (View.ld M (rowM 3)))) shapeCasts_S64x128_S64x128⟩, ⟨rowR 2, shapeCast S64x128 (sum5 (expV (fresh i wt x0 x1 x6 x7 x10 2) (View.ld M (rowM 2)))) shapeCasts_S64x128_S64x128⟩, ⟨rowR 1, shapeCast S64x128 (sum5 (expV (fresh i wt x0 x1 x6 x7 x10 1) (View.ld M (rowM 1)))) shapeCasts_S64x128_S64x128⟩, ⟨rowR 0, shapeCast S64x128 (sum5 (expV (fresh i wt x0 x1 x6 x7 x10 0) (View.ld M (rowM 0)))) shapeCasts_S64x128_S64x128⟩]
def ent18 : List (View.Piece (Elt F) S256x128 .f32) :=
  [⟨rowR 3, shapeCast S64x128 (broadcast S64x128 (Scalar.ofBits .f32 0x00000000#32) : FVec F S64x128 .f32) shapeCasts_S64x128_S64x128⟩, ⟨rowR 2, shapeCast S64x128 (broadcast S64x128 (Scalar.ofBits .f32 0x00000000#32) : FVec F S64x128 .f32) shapeCasts_S64x128_S64x128⟩, ⟨rowR 1, shapeCast S64x128 (broadcast S64x128 (Scalar.ofBits .f32 0x00000000#32) : FVec F S64x128 .f32) shapeCasts_S64x128_S64x128⟩, ⟨rowR 0, shapeCast S64x128 (broadcast S64x128 (Scalar.ofBits .f32 0x00000000#32) : FVec F S64x128 .f32) shapeCasts_S64x128_S64x128⟩]
def ent19 (i : grid0.Coords) (wt : Vec F S24x5 .i32) (x0 : Vec F S1x4x64x128 .fp8e4m3) (x1 : Vec F S1x64x8 .f32) (x6 : Vec F S1x640x128 .fp8e4m3)
    (x7 : Vec F S1x2x640 .f32) (x8 : Vec F S1x640x128 .fp8e4m3) (x10 : Vec F S1x8x10240 .i32) (M : Vec F S256x128 .f32) : List (View.Piece (Elt F) S256x128 .f32) :=
  [⟨rowR 3, shapeCast S64x128 (pvV (expV (fresh i wt x0 x1 x6 x7 x10 3) (View.ld M (rowM 3))) x8) shapeCasts_S64x128_S64x128⟩, ⟨rowR 2, shapeCast S64x128 (pvV (expV (fresh i wt x0 x1 x6 x7 x10 2) (View.ld M (rowM 2))) x8) shapeCasts_S64x128_S64x128⟩, ⟨rowR 1, shapeCast S64x128 (pvV (expV (fresh i wt x0 x1 x6 x7 x10 1) (View.ld M (rowM 1))) x8) shapeCasts_S64x128_S64x128⟩, ⟨rowR 0, shapeCast S64x128 (pvV (expV (fresh i wt x0 x1 x6 x7 x10 0) (View.ld M (rowM 0))) x8) shapeCasts_S64x128_S64x128⟩]

theorem trip1_eq (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (v26 : BitVec 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (k : Fin k0_t1_loop.trips) (f_arg15 : BufTy.Contents (Elt F) arg15.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) v26 laneBlk v52 v53 v391 v446 X_arg2 X_arg3 X_arg4 X_arg5 X_arg6 X_arg13 k).1 f_arg15 = [⟨rowR 3, shapeCast S64x128 (maximumf (View.ld (arg15.view.read (Elt F) f_arg15) (rowR 3) : FVec F S64x128 .f32) (max5 (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 3))) shapeCasts_S64x128_S64x128⟩, ⟨rowR 2, shapeCast S64x128 (maximumf (View.ld (arg15.view.read (Elt F) f_arg15) (rowR 2) : FVec F S64x128 .f32) (max5 (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 2))) shapeCasts_S64x128_S64x128⟩, ⟨rowR 1, shapeCast S64x128 (maximumf (View.ld (arg15.view.read (Elt F) f_arg15) (rowR 1) : FVec F S64x128 .f32) (max5 (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 1))) shapeCasts_S64x128_S64x128⟩, ⟨rowR 0, shapeCast S64x128 (maximumf (View.ld (arg15.view.read (Elt F) f_arg15) (rowR 0) : FVec F S64x128 .f32) (max5 (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 0))) shapeCasts_S64x128_S64x128⟩] := by
  unfold trip_k0_t1
  dsimp only
  rfl

theorem trip2_eq (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (v26 : BitVec 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (k : Fin k0_t2_loop.trips) (f_arg17 : BufTy.Contents (Elt F) arg17.view.ty) (f_arg18 : BufTy.Contents (Elt F) arg18.view.ty) :
    (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) v26 laneBlk v968 X_arg2 X_arg3 X_arg4 X_arg5 X_arg6 X_arg7 X_arg13 X_arg16 k).1 f_arg17 f_arg18 = [⟨rowR 3, shapeCast S64x128 (addf (View.ld (arg17.view.read (Elt F) f_arg17) (rowR 3) : FVec F S64x128 .f32) (sum5 (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 3) (View.ld (arg16.view.read (Elt F) X_arg16) (rowM 3))))) shapeCasts_S64x128_S64x128⟩, ⟨rowR 2, shapeCast S64x128 (addf (View.ld (arg17.view.read (Elt F) f_arg17) (rowR 2) : FVec F S64x128 .f32) (sum5 (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 2) (View.ld (arg16.view.read (Elt F) X_arg16) (rowM 2))))) shapeCasts_S64x128_S64x128⟩, ⟨rowR 1, shapeCast S64x128 (addf (View.ld (arg17.view.read (Elt F) f_arg17) (rowR 1) : FVec F S64x128 .f32) (sum5 (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 1) (View.ld (arg16.view.read (Elt F) X_arg16) (rowM 1))))) shapeCasts_S64x128_S64x128⟩, ⟨rowR 0, shapeCast S64x128 (addf (View.ld (arg17.view.read (Elt F) f_arg17) (rowR 0) : FVec F S64x128 .f32) (sum5 (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 0) (View.ld (arg16.view.read (Elt F) X_arg16) (rowM 0))))) shapeCasts_S64x128_S64x128⟩]
    ∧ (trip_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) v26 laneBlk v968 X_arg2 X_arg3 X_arg4 X_arg5 X_arg6 X_arg7 X_arg13 X_arg16 k).2.1 f_arg17 f_arg18 = [⟨rowR 3, shapeCast S64x128 (addf (View.ld (arg18.view.read (Elt F) f_arg18) (rowR 3) : FVec F S64x128 .f32) (pvV (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 3) (View.ld (arg16.view.read (Elt F) X_arg16) (rowM 3))) (View.ld (arg7.view.read (Elt F) X_arg7) (Rect.unit (s := S1x9600x128) (k0_off8 k) S1x640x128.size (k0_off8_inb k))))) shapeCasts_S64x128_S64x128⟩, ⟨rowR 2, shapeCast S64x128 (addf (View.ld (arg18.view.read (Elt F) f_arg18) (rowR 2) : FVec F S64x128 .f32) (pvV (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 2) (View.ld (arg16.view.read (Elt F) X_arg16) (rowM 2))) (View.ld (arg7.view.read (Elt F) X_arg7) (Rect.unit (s := S1x9600x128) (k0_off8 k) S1x640x128.size (k0_off8_inb k))))) shapeCasts_S64x128_S64x128⟩, ⟨rowR 1, shapeCast S64x128 (addf (View.ld (arg18.view.read (Elt F) f_arg18) (rowR 1) : FVec F S64x128 .f32) (pvV (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 1) (View.ld (arg16.view.read (Elt F) X_arg16) (rowM 1))) (View.ld (arg7.view.read (Elt F) X_arg7) (Rect.unit (s := S1x9600x128) (k0_off8 k) S1x640x128.size (k0_off8_inb k))))) shapeCasts_S64x128_S64x128⟩, ⟨rowR 0, shapeCast S64x128 (addf (View.ld (arg18.view.read (Elt F) f_arg18) (rowR 0) : FVec F S64x128 .f32) (pvV (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) k 0) (View.ld (arg16.view.read (Elt F) X_arg16) (rowM 0))) (View.ld (arg7.view.read (Elt F) X_arg7) (Rect.unit (s := S1x9600x128) (k0_off8 k) S1x640x128.size (k0_off8_inb k))))) shapeCasts_S64x128_S64x128⟩] := by
  unfold trip_k0_t2
  dsimp only
  exact ⟨rfl, rfl⟩
end Cert.KernelIdeal.RefValue
-- ==== Proof.Attend.Attn.lean ====
/- One number of an attention output, as both programs compute it. -/
module
public import Idealize.ShloMosaic.Lib.Pipeline.ValueKit
public import Idealize.ShloMosaic.Lib.Pointwise
@[expose] public section
noncomputable section
open Idealize.ShloMosaic
namespace Cert.Attend

/-- The maximum of all scores, rounded up. -/
def top (sc : Fin 9600 → EReal) (sn : Fin 640 → EReal) : EReal :=
  Ideal.liftRound Int.ceil (max (Finset.fold max (⊥ : EReal) sc Finset.univ) (Finset.fold max (⊥ : EReal) sn Finset.univ))

/-- The weighted sum of the values, cached and new, over the sum of the weights: powers of two of the scores minus their
    maximum. -/
def attn (sc : Fin 9600 → EReal) (sn : Fin 640 → EReal) (vc : Fin 9600 → EReal) (vn : Fin 640 → EReal) (cs ns : EReal) : EReal :=
  Ideal.div ((∑ k, Ideal.exp2 (sc k - top sc sn) * vc k) * cs + (∑ k, Ideal.exp2 (sn k - top sc sn) * vn k) * ns)
    ((∑ k, Ideal.exp2 (sc k - top sc sn)) + ∑ k, Ideal.exp2 (sn k - top sc sn))

/-- Whether key block `kb` is kept for key block `n` of the query: `sl t` is the flag of distance `t`, `v` the flag of the key. -/
def keep (sl : ℕ → BitVec 1) (n kb : ℕ) (v : BitVec 1) : BitVec 1 :=
  IntOp.ori (if kb < n then sl (n - kb) else if kb = n then 1#1 else 0#1) v

/-- One masked score. -/
def score (dot qs ks : EReal) (kp : BitVec 1) : EReal :=
  dot * (qs * Ideal.ofBits .f32 1040356334#32) * ks + Scalar.select kp (0 : EReal) (Ideal.ofBits .f32 4286578688#32)

/-- The slash flag of distance `t`. -/
def flag (a0 : (⟨3, ![3, 8, 160]⟩ : Shape).Idx → BitVec 1) (b : Fin 3) (hd : Fin 8) (t : ℕ) : BitVec 1 :=
  if h : t < 160 then a0 (ix3 b hd ⟨t, h⟩) else 0#1

/-- The group of a head. -/
abbrev gOf (hd : Fin 8) : Fin 2 := ⟨hd.val / 4, by omega⟩
/-- The row of the key and value arrays of a batch entry and a head. -/
abbrev nOf (b : Fin 3) (hd : Fin 8) : Fin 6 := ⟨b.val * 2 + hd.val / 4, by omega⟩

/-- The score of a query row against a cached key. -/
def scoreOld (a0 : (⟨3, ![3, 8, 160]⟩ : Shape).Idx → BitVec 1) (a1 : (⟨3, ![3, 8, 10240]⟩ : Shape).Idx → BitVec 1)
    (a2 : (⟨4, ![3, 8, 640, 128]⟩ : Shape).Idx → EReal) (a3 : (⟨3, ![3, 640, 8]⟩ : Shape).Idx → EReal)
    (a4 : (⟨3, ![6, 9600, 128]⟩ : Shape).Idx → EReal) (a5 : (⟨3, ![3, 2, 9600]⟩ : Shape).Idx → EReal)
    (b : Fin 3) (hd : Fin 8) (s : Fin 640) (k : Fin 9600) : EReal :=
  score (∑ x : Fin 128, a2 (ix4 b hd s x) * a4 (ix3 (nOf b hd) k x)) (a3 (ix3 b s hd)) (a5 (ix3 b (gOf hd) k))
    (keep (flag a0 b hd) (150 + s.val / 64) (k.val / 64) (a1 (ix3 b hd ⟨k.val, by omega⟩)))

/-- The score of a query row against a new key, minus infinity for a later key. -/
def scoreNew (a0 : (⟨3, ![3, 8, 160]⟩ : Shape).Idx → BitVec 1) (a1 : (⟨3, ![3, 8, 10240]⟩ : Shape).Idx → BitVec 1)
    (a2 : (⟨4, ![3, 8, 640, 128]⟩ : Shape).Idx → EReal) (a3 : (⟨3, ![3, 640, 8]⟩ : Shape).Idx → EReal)
    (a8 : (⟨3, ![6, 640, 128]⟩ : Shape).Idx → EReal) (a9 : (⟨3, ![3, 2, 640]⟩ : Shape).Idx → EReal)
    (b : Fin 3) (hd : Fin 8) (s : Fin 640) (k : Fin 640) : EReal :=
  if k.val ≤ s.val then
    score (∑ x : Fin 128, a2 (ix4 b hd s x) * a8 (ix3 (nOf b hd) k x)) (a3 (ix3 b s hd)) (a9 (ix3 b (gOf hd) k))
      (keep (flag a0 b hd) (150 + s.val / 64) (150 + k.val / 64) (a1 (ix3 b hd ⟨9600 + k.val, by omega⟩)))
  else Ideal.ofBits .f32 4286578688#32

/-- One number of the attention output as a function of the twelve arguments. -/
def spec (a0 : (⟨3, ![3, 8, 160]⟩ : Shape).Idx → BitVec 1) (a1 : (⟨3, ![3, 8, 10240]⟩ : Shape).Idx → BitVec 1)
    (a2 : (⟨4, ![3, 8, 640, 128]⟩ : Shape).Idx → EReal) (a3 : (⟨3, ![3, 640, 8]⟩ : Shape).Idx → EReal)
    (a4 : (⟨3, ![6, 9600, 128]⟩ : Shape).Idx → EReal) (a5 : (⟨3, ![3, 2, 9600]⟩ : Shape).Idx → EReal)
    (a6 : (⟨3, ![6, 9600, 128]⟩ : Shape).Idx → EReal) (a7 : (⟨3, ![3, 2, 128]⟩ : Shape).Idx → EReal)
    (a8 : (⟨3, ![6, 640, 128]⟩ : Shape).Idx → EReal) (a9 : (⟨3, ![3, 2, 640]⟩ : Shape).Idx → EReal)
    (a10 : (⟨3, ![6, 640, 128]⟩ : Shape).Idx → EReal) (a11 : (⟨3, ![3, 2, 128]⟩ : Shape).Idx → EReal)
    (b : Fin 3) (hd : Fin 8) (s : Fin 640) (l : Fin 128) : EReal :=
  attn (scoreOld a0 a1 a2 a3 a4 a5 b hd s) (scoreNew a0 a1 a2 a3 a8 a9 b hd s) (fun k => a6 (ix3 (nOf b hd) k l))
    (fun k => a10 (ix3 (nOf b hd) k l)) (a7 (ix3 b (gOf hd) l)) (a11 (ix3 b (gOf hd) l))

end Cert.Attend
-- ==== Proof.Attend.Ideal.Keep.lean ====
module
public import proofs.«01_k».proof.Proof.Attend.Ideal.Template
public import proofs.«01_k».proof.Proof.Attend.Attn
public import Idealize.ShloMosaic.Lib.BitWord
@[expose] public section
set_option maxRecDepth 16384
noncomputable section
open Idealize.ShloMosaic Idealize.ShloMosaic.TcCoe Idealize.SL.Sem
namespace Cert.KernelIdeal.RefValue
open Cert.KernelIdeal Cert.KernelIdeal.Gen
open Cert.Attend

theorem int_nat (x : ℕ) (hx : x < 640) : (BitVec.ofNat 32 x).toInt = x := by
  rw [BitVec.toInt_eq_toNat_of_lt (by rw [BitVec.toNat_ofNat]; omega), BitVec.toNat_ofNat, Nat.mod_eq_of_lt (by omega)]

theorem sle_nat (x y : ℕ) (hx : x < 640) (hy : y < 640) :
    IntOp.cmpi .sle (BitVec.ofNat 32 x) (BitVec.ofNat 32 y) = if x ≤ y then 1#1 else 0#1 := by
  show BitVec.ofBool (decide ((BitVec.ofNat 32 x).toInt ≤ (BitVec.ofNat 32 y).toInt)) = _
  rw [int_nat x hx, int_nat y hy]
  by_cases h : x ≤ y
  · rw [if_pos h, decide_eq_true (by exact_mod_cast h)]; rfl
  · rw [if_neg h, decide_eq_false (by exact_mod_cast h)]; rfl

/-- Bit `t` of five packed words. -/
def bitOf (w : Fin 5 → BitVec 32) (t : ℕ) : BitVec 1 :=
  if h : t / 32 < 5 then BitVec.ofBool ((w ⟨t / 32, h⟩).getLsbD (t % 32)) else 0#1

def slashS (d : BitVec 32) (w : Fin 5 → BitVec 32) : BitVec 1 :=
  IntOp.ori (IntOp.cmpi .eq d 0#32) (IntOp.andi (IntOp.cmpi .sgt d 0#32)
    (IntOp.cmpi .eq (IntOp.andi (IntOp.shrui .vector (
      Scalar.select (IntOp.cmpi .eq (IntOp.shrsi .vector d 5#32) 4#32) (w 4)
      (Scalar.select (IntOp.cmpi .eq (IntOp.shrsi .vector d 5#32) 3#32) (w 3)
      (Scalar.select (IntOp.cmpi .eq (IntOp.shrsi .vector d 5#32) 2#32) (w 2)
      (Scalar.select (IntOp.cmpi .eq (IntOp.shrsi .vector d 5#32) 1#32) (w 1)
      (Scalar.select (IntOp.cmpi .eq (IntOp.shrsi .vector d 5#32) 0#32) (w 0) 0#32)))))
      (IntOp.andi d 31#32)) 1#32) 1#32))

theorem keepV_at (d : IVec S1x640 32) (w : Fin 5 → BitVec 32) (vert : Vec Ideal S1x1x640 .i32) (h : Fin 1) (l : Fin 640) :
    keepV d w vert (ix2 h l) = IntOp.ori (slashS (d (ix2 0 l)) w) (IntOp.cmpi .sgt (vert (ix3 0 0 l)) 0#32) := by
  obtain rfl := Subsingleton.elim h 0
  pointwise [keepV, slashV, pick, slashS]

theorem bit_word (x : BitVec 32) (t : Fin 32) :
    IntOp.cmpi .eq (IntOp.andi (IntOp.shrui .vector x (BitVec.ofNat 32 t.val)) 1#32) 1#32 = BitVec.ofBool (x.getLsbD t.val) := by
  have ht : (BitVec.ofNat 32 t.val).toNat = t.val := by rw [BitVec.toNat_ofNat, Nat.mod_eq_of_lt (by omega)]
  have hs : IntOp.shrui .vector x (BitVec.ofNat 32 t.val) = x >>> t.val := by
    show (if (BitVec.ofNat 32 t.val).toNat < 32 then x >>> (BitVec.ofNat 32 t.val).toNat else _) = _
    rw [ht, if_pos t.isLt]
  rw [hs]
  have hb : IntOp.andi (x >>> t.val) 1#32 = BitVec.setWidth 32 (BitVec.ofBool (x.getLsbD t.val)) := by
    apply BitVec.eq_of_getLsbD_eq
    intro i hi
    show ((x >>> t.val) &&& 1#32).getLsbD i = _
    rw [BitVec.getLsbD_and, BitVec.getLsbD_ushiftRight, BitVec.getLsbD_setWidth]
    rcases Nat.eq_zero_or_pos i with h | h
    · subst h; simp
    · have : (1#32).getLsbD i = false := by rw [BitVec.getLsbD_one]; simp; omega
      rw [this]; simp; omega
  rw [hb]
  cases x.getLsbD t.val <;> rfl

theorem slashS_pos (w : Fin 5 → BitVec 32) (q : Fin 5) (t : Fin 32) (h0 : 32 * q.val + t.val ≠ 0) :
    slashS (BitVec.ofNat 32 (32 * q.val + t.val)) w = BitVec.ofBool ((w q).getLsbD t.val) := by
  have e1 : IntOp.cmpi .eq (BitVec.ofNat 32 (32 * q.val + t.val)) 0#32 = 0#1 := by
    revert q t; decide +kernel
  have e2 : IntOp.cmpi .sgt (BitVec.ofNat 32 (32 * q.val + t.val)) 0#32 = 1#1 := by
    revert q t; decide +kernel
  have e3 : IntOp.shrsi .vector (BitVec.ofNat 32 (32 * q.val + t.val)) 5#32 = BitVec.ofNat 32 q.val := by
    clear e1 e2 h0; revert q t; decide +kernel
  have e4 : IntOp.andi (BitVec.ofNat 32 (32 * q.val + t.val)) 31#32 = BitVec.ofNat 32 t.val := by
    clear e1 e2 h0 e3; revert q t; decide +kernel
  unfold slashS
  rw [e1, e2, e3, e4]
  have : ∀ b : BitVec 1, IntOp.ori 0#1 (IntOp.andi 1#1 b) = b := by decide
  rw [this]
  have hx : (Scalar.select (IntOp.cmpi .eq (BitVec.ofNat 32 q.val) 4#32) (w 4)
      (Scalar.select (IntOp.cmpi .eq (BitVec.ofNat 32 q.val) 3#32) (w 3)
      (Scalar.select (IntOp.cmpi .eq (BitVec.ofNat 32 q.val) 2#32) (w 2)
      (Scalar.select (IntOp.cmpi .eq (BitVec.ofNat 32 q.val) 1#32) (w 1)
      (Scalar.select (IntOp.cmpi .eq (BitVec.ofNat 32 q.val) 0#32) (w 0) 0#32))))) = w q := by
    fin_cases q <;> rfl
  rw [hx]
  exact bit_word _ _

theorem slashS_eq (w : Fin 5 → BitVec 32) (n kb : ℕ) (hn : n < 160) (hk : kb < 160) :
    slashS (IntOp.subi (BitVec.ofNat 32 n) (BitVec.ofNat 32 kb)) w
      = if kb < n then bitOf w (n - kb) else if kb = n then 1#1 else 0#1 := by
  rcases lt_trichotomy kb n with h | h | h
  · rw [if_pos h]
    have hd : IntOp.subi (BitVec.ofNat 32 n) (BitVec.ofNat 32 kb) = BitVec.ofNat 32 (32 * ((n - kb) / 32) + (n - kb) % 32) := by
      apply BitVec.eq_of_toNat_eq
      show ((BitVec.ofNat 32 n) - (BitVec.ofNat 32 kb)).toNat = _
      simp only [BitVec.toNat_sub, BitVec.toNat_ofNat]
      omega
    have hq : (n - kb) / 32 < 5 := by omega
    rw [hd, slashS_pos w ⟨(n - kb) / 32, hq⟩ ⟨(n - kb) % 32, Nat.mod_lt _ (by decide)⟩ (by show 32 * ((n - kb) / 32) + (n - kb) % 32 ≠ 0; omega), bitOf, dif_pos hq]
  · subst h
    rw [if_neg (lt_irrefl _), if_pos rfl]
    have hd : IntOp.subi (BitVec.ofNat 32 kb) (BitVec.ofNat 32 kb) = 0#32 := BitVec.sub_self _
    rw [hd]
    have : ∀ b : BitVec 1, IntOp.ori 1#1 b = 1#1 := by decide
    exact this _
  · rw [if_neg (by omega), if_neg (by omega)]
    have hd : (IntOp.subi (BitVec.ofNat 32 n) (BitVec.ofNat 32 kb)) = BitVec.ofNat 32 (4294967296 - (kb - n)) := by
      apply BitVec.eq_of_toNat_eq
      show ((BitVec.ofNat 32 n) - (BitVec.ofNat 32 kb)).toNat = _
      simp only [BitVec.toNat_sub, BitVec.toNat_ofNat]
      omega
    have e1 : ∀ (a : Fin 160), a.val ≠ 0 → IntOp.cmpi .eq (BitVec.ofNat 32 (4294967296 - a.val)) 0#32 = 0#1
      ∧ IntOp.cmpi .sgt (BitVec.ofNat 32 (4294967296 - a.val)) 0#32 = 0#1 := by decide +kernel
    obtain ⟨u, v⟩ := e1 ⟨kb - n, by omega⟩ (by show kb - n ≠ 0; omega)
    rw [hd]
    unfold slashS
    rw [u, v]
    have : ∀ b : BitVec 1, IntOp.ori 0#1 (IntOp.andi 0#1 b) = 0#1 := by decide
    exact this _

theorem sgt_bit : ∀ v : BitVec 1, IntOp.cmpi .sgt (BitVec.setWidth 32 v) 0#32 = v := by decide

theorem keepV_eq (w : Fin 5 → BitVec 32) (n kb : ℕ) (hn : n < 160) (hk : kb < 160) (v : BitVec 1) :
    IntOp.ori (slashS (IntOp.subi (BitVec.ofNat 32 n) (BitVec.ofNat 32 kb)) w) (IntOp.cmpi .sgt (BitVec.setWidth 32 v) 0#32)
      = keep (bitOf w) n kb v := by
  rw [slashS_eq w n kb hn hk, sgt_bit]; rfl

/-- The lane's key block, as a number. -/
theorem laneBlk_at (l : Fin 640) : laneBlk (ix2 0 l) = BitVec.ofNat 32 (l.val / 64) := by
  revert l; decide +kernel

theorem distV_at (a1 tb : BitVec 32) (l : Fin 640) :
    distV a1 tb (ix2 0 l) = IntOp.subi (Scalar.addi 150#32 a1) (IntOp.addi tb (laneBlk (ix2 0 l))) := by
  pointwise [distV]

theorem dist_new : ∀ (nb : Fin 10) (l : Fin 640), distV (BitVec.ofNat 32 nb.val) 150#32 (ix2 0 l)
    = IntOp.subi (BitVec.ofNat 32 (150 + nb.val)) (BitVec.ofNat 32 (150 + l.val / 64)) := by
  intro nb l
  rw [distV_at, laneBlk_at]
  show (150#32 + BitVec.ofNat 32 nb.val) - (150#32 + BitVec.ofNat 32 (l.val / 64)) = _ - _
  rw [BitVec.ofNat_add, BitVec.ofNat_add]

theorem dist_old (nb : Fin 10) (k : Fin k0_t1_loop.trips) (l : Fin 640) :
    distV (BitVec.ofNat 32 nb.val) (Scalar.muli (Scalar.addi 0#32 (Scalar.muli (Scf.iv 0#32 1#32 k.val) 1#32)) 10#32) (ix2 0 l)
    = IntOp.subi (BitVec.ofNat 32 (150 + nb.val)) (BitVec.ofNat 32 (10 * k.val + l.val / 64)) := by
  rw [distV_at, laneBlk_at]
  have : (Scalar.muli (Scalar.addi 0#32 (Scalar.muli (Scf.iv 0#32 1#32 k.val) 1#32)) 10#32) = BitVec.ofNat 32 (10 * k.val) := by
    revert k; decide +kernel
  rw [this]
  show (150#32 + BitVec.ofNat 32 nb.val) - (BitVec.ofNat 32 (10 * k.val) + BitVec.ofNat 32 (l.val / 64)) = _ - _
  rw [BitVec.ofNat_add, BitVec.ofNat_add]

theorem dotScale_at (v9 : BitVec 32) (q : Vec Ideal S1x1x64x128 .fp8e4m3) (k : Vec Ideal S1x640x128 .fp8e4m3) (qs : Vec Ideal S1x64x8 .f32)
    (col : Vec Ideal S1x1x640 .f32) (r : Fin 4) (h : Fin 64) (l : Fin 640) : dotScale v9 q k qs col r (ix2 h l)
    = (∑ x, q (ix4 0 0 h x) * k (ix3 0 l x)) * (Scalar.select (Scalar.cmpi .eq v9 0#32) (qs (ix3 0 h ⟨r.val, by omega⟩)) (qs (ix3 0 h ⟨4 + r.val, by omega⟩)) * Ideal.ofBits .f32 1040356334#32) * col (ix3 0 0 l) := by
  pointwise [dotScale]

theorem maskV_at (s : FVec Ideal S64x640 .f32) (keep : IVec S1x640 1) (h : Fin 64) (l : Fin 640) : maskV s keep (ix2 h l)
    = s (ix2 h l) + Scalar.select (keep (ix2 0 l)) 0 (Ideal.ofBits .f32 4286578688#32) := by
  pointwise [maskV]

theorem causalV_at (a : Fin 10) (s : FVec Ideal S64x640 .f32) (h : Fin 64) (l : Fin 640) : causalV (BitVec.ofNat 32 a.val) s (ix2 h l)
    = if l.val ≤ 64 * a.val + h.val then s (ix2 h l) else Ideal.ofBits .f32 4286578688#32 := by
  have e : causalV (BitVec.ofNat 32 a.val) s (ix2 h l) = Scalar.select (IntOp.cmpi .sle (BitVec.ofNat 32 l.val) (IntOp.addi (Scalar.muli (BitVec.ofNat 32 a.val) 64#32) (BitVec.ofNat 32 h.val))) (s (ix2 h l)) (Ideal.ofBits .f32 4286578688#32) := by
    pointwise [causalV, laneId, rowId]
  rw [e]
  have hb : IntOp.addi (Scalar.muli (BitVec.ofNat 32 a.val) 64#32) (BitVec.ofNat 32 h.val) = BitVec.ofNat 32 (64 * a.val + h.val) := by
    show BitVec.ofNat 32 a.val * 64#32 + BitVec.ofNat 32 h.val = _
    rw [← BitVec.ofNat_mul, ← BitVec.ofNat_add, Nat.mul_comm]
  rw [hb]
  rw [sle_nat l.val (64 * a.val + h.val) (by omega) (by omega)]
  by_cases g : l.val ≤ 64 * a.val + h.val
  · simp only [if_pos g]; rfl
  · simp only [if_neg g]; rfl

theorem grp_eq : ∀ i : grid0.Coords, grp i = BitVec.ofNat 32 ((i 0).val % 2) := by
  have : ∀ a : Fin 6, Scalar.select (Scalar.andi (Scalar.xori (Scalar.cmpi .slt (Scalar.remsi (BitVec.ofNat 32 a.val) 2#32) 0#32) 0#1)
      (Scalar.cmpi .ne (Scalar.remsi (BitVec.ofNat 32 a.val) 2#32) 0#32))
    (Scalar.addi (Scalar.remsi (BitVec.ofNat 32 a.val) 2#32) 2#32) (Scalar.remsi (BitVec.ofNat 32 a.val) 2#32) = BitVec.ofNat 32 (a.val % 2) := by decide +kernel
  exact fun i => this (i 0)
end Cert.KernelIdeal.RefValue
-- ==== Proof.Attend.Ideal.Packed.lean ====
module
public import proofs.«01_k».proof.Proof.Attend.Ideal.Keep
public import proofs.«01_k».proof.Proof.Attend.Ideal.Runs
public import Idealize.ShloMosaic.Lib.StableHlo.ReadAt
public import Idealize.ShloMosaic.Lib.StableHlo.Predicate
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.KernelIdeal.RefValue
open Cert.KernelIdeal Cert.KernelIdeal.Gen

theorem sum_bits (f : ℕ → Bool) : ∀ n, (∀ t, (∑ i ∈ Finset.range n, if f i then 2 ^ i else 0).testBit t = (decide (t < n) && f t))
    ∧ (∑ i ∈ Finset.range n, if f i then 2 ^ i else 0) < 2 ^ n
  | 0 => by simp
  | n + 1 => by
    obtain ⟨h1, h2⟩ := sum_bits f n
    rw [Finset.sum_range_succ]
    set S := (∑ i ∈ Finset.range n, if f i then 2 ^ i else 0) with hS
    cases hf : f n
    · simp only [Bool.false_eq_true, if_false, add_zero]
      refine ⟨fun t => ?_, by rw [pow_succ]; omega⟩
      rw [h1]
      rcases Nat.lt_trichotomy t n with h | h | h
      · rw [decide_eq_true h, decide_eq_true (by omega)]
      · subst h; simp [hf]
      · rw [decide_eq_false (by omega), decide_eq_false (by omega)]
    · simp only [if_true]
      refine ⟨fun t => ?_, by rw [pow_succ]; omega⟩
      rw [add_comm]
      rcases Nat.lt_trichotomy t n with h | h | h
      · rw [Nat.testBit_two_pow_add_gt h, h1, decide_eq_true h, decide_eq_true (by omega)]
      · subst h
        rw [Nat.testBit_two_pow_add_eq, Nat.testBit_lt_two_pow h2]; simp [hf]
      · rw [Nat.testBit_lt_two_pow (lt_of_lt_of_le (show 2 ^ n + S < 2 ^ (n + 1) by rw [pow_succ]; omega) (Nat.pow_le_pow_right (by decide) h)), decide_eq_false (by omega)]
        rfl

/-- The packed words, as the host operations compute them. -/
def packed (a0 : IVec S3x8x160 1) : IVec S24x5 32 :=
  Host.reduce IntOp.addi
        (select (shapeCast S24x5x32 a0 shapeCasts_S3x8x160_S24x5x32)
          (broadcastInDim S24x5x32 ![2] bcast_S32_S24x5x32_2
            (Host.shli (broadcastInDim S32 ![] bcast_S_S32 (constantI S_ 32 1#32)) (iotaInDim S32 32 0)))
          (broadcastInDim S24x5x32 ![] bcast_S_S24x5x32 (constantI S_ 32 0#32)))
        (constantI S_ 32 0#32) reducesTo_S24x5x32_S24x5_d2 h_S_

theorem term_at (a0 : IVec S3x8x160 1) (a : Fin 24) (j : Fin 5) (t : Fin 32) :
   (select (shapeCast S24x5x32 a0 shapeCasts_S3x8x160_S24x5x32)
          (broadcastInDim S24x5x32 ![2] bcast_S32_S24x5x32_2
            (Host.shli (broadcastInDim S32 ![] bcast_S_S32 (constantI S_ 32 1#32)) (iotaInDim S32 32 0)))
          (broadcastInDim S24x5x32 ![] bcast_S_S24x5x32 (constantI S_ 32 0#32)) : IVec S24x5x32 32) (ix3 a j t)
    = Scalar.select (a0 (ix3 ⟨a.val / 8, by omega⟩ ⟨a.val % 8, by omega⟩ ⟨j.val * 32 + t.val, by omega⟩)) (IntOp.shli ArithUnit.host (1#32) (BitVec.ofNat 32 t.val)) 0#32 := by
  pointwise

/-- Bit `t` of word `j` is slash flag `32 j + t`. -/
theorem packed_bit (a0 : IVec S3x8x160 1) (a : Fin 24) (j : Fin 5) (t : Fin 32) :
    BitVec.ofBool ((packed a0 (ix2 a j)).getLsbD t.val) = a0 (ix3 ⟨a.val / 8, by omega⟩ ⟨a.val % 8, by omega⟩ ⟨j.val * 32 + t.val, by omega⟩) := by
  classical
  let f : ℕ → Bool := fun i => if h : i < 32 then (a0 (ix3 ⟨a.val / 8, by omega⟩ ⟨a.val % 8, by omega⟩ ⟨j.val * 32 + i, by omega⟩)).getLsbD 0 else false
  have hb : ∀ b : BitVec 1, BitVec.ofBool (b.getLsbD 0) = b := by decide
  have hs : ∀ (b : BitVec 1) (i : Fin 32), (Scalar.select b (IntOp.shli ArithUnit.host (1#32) (BitVec.ofNat 32 i.val)) 0#32 : BitVec 32).toNat = if b.getLsbD 0 then 2 ^ i.val else 0 := by
    decide +kernel
  have key : (packed a0 (ix2 a j)).toNat = ∑ i ∈ Finset.range 32, if f i then 2 ^ i else 0 := by
    unfold packed
    rw [Host.reduce_eq_fold]
    have h := reducesTo_S24x5x32_S24x5_d2
    have hdrop : ∀ i : S24x5x32.Idx, h.drop i = ix2 a j ↔ (i 0 = a ∧ i 1 = j) := by
      intro i
      have h0 : (h.drop i 0 : Nat) = i 0 := Shape.ReducesTo.drop_apply_val h i 0
      have h1 : (h.drop i 1 : Nat) = i 1 := Shape.ReducesTo.drop_apply_val h i 1
      constructor
      · intro e
        rw [e] at h0 h1
        exact ⟨Fin.ext h0.symm, Fin.ext h1.symm⟩
      · rintro ⟨e0, e1⟩
        funext b
        fin_cases b
        · exact Fin.ext (h0.trans (congrArg Fin.val e0))
        · exact Fin.ext (h1.trans (congrArg Fin.val e1))
    have hback : ∀ i : S24x5x32.Idx, h.drop i = ix2 a j → i = ix3 a j (i 2) := by
      intro i hi
      obtain ⟨e0, e1⟩ := (hdrop i).1 hi
      funext b
      fin_cases b
      · exact e0
      · exact e1
      · rfl
    have hsum : ∀ g : S24x5x32.Idx → ℕ, ∑ i ∈ Finset.univ.filter (fun i : S24x5x32.Idx => h.drop i = ix2 a j), g i = ∑ q : Fin 32, g (ix3 a j q) := by
      intro g
      refine Finset.sum_bij' (fun i _ => i 2) (fun q _ => ix3 a j q) (fun _ _ => Finset.mem_univ _)
        (fun q _ => Finset.mem_filter.2 ⟨Finset.mem_univ _, (hdrop _).2 ⟨rfl, rfl⟩⟩)
        (fun i hi => (hback i (Finset.mem_filter.1 hi).2).symm) (fun _ _ => rfl) ?_
      intro i hi
      exact congrArg g (hback i (Finset.mem_filter.1 hi).2)
    have hterm : ∀ q : Fin 32, ((select (shapeCast S24x5x32 a0 shapeCasts_S3x8x160_S24x5x32)
          (broadcastInDim S24x5x32 ![2] bcast_S32_S24x5x32_2
            (Host.shli (broadcastInDim S32 ![] bcast_S_S32 (constantI S_ 32 1#32)) (iotaInDim S32 32 0)))
          (broadcastInDim S24x5x32 ![] bcast_S_S24x5x32 (constantI S_ 32 0#32)) : IVec S24x5x32 32) (ix3 a j q)).toNat = if f q.val then 2 ^ q.val else 0 := by
      intro q
      rw [term_at, hs]
      have : f q.val = (a0 (ix3 ⟨a.val / 8, by omega⟩ ⟨a.val % 8, by omega⟩ ⟨j.val * 32 + q.val, by omega⟩)).getLsbD 0 := dif_pos q.isLt
      rw [this]
    have hS : ∑ i ∈ Finset.univ.filter (fun i : S24x5x32.Idx => h.drop i = ix2 a j), ((select (shapeCast S24x5x32 a0 shapeCasts_S3x8x160_S24x5x32)
          (broadcastInDim S24x5x32 ![2] bcast_S32_S24x5x32_2
            (Host.shli (broadcastInDim S32 ![] bcast_S_S32 (constantI S_ 32 1#32)) (iotaInDim S32 32 0)))
          (broadcastInDim S24x5x32 ![] bcast_S_S24x5x32 (constantI S_ 32 0#32)) : IVec S24x5x32 32) i).toNat = ∑ i ∈ Finset.range 32, if f i then 2 ^ i else 0 := by
      rw [hsum, Finset.sum_congr rfl fun q _ => hterm q, ← Fin.sum_univ_eq_sum_range (fun i => if f i then 2 ^ i else 0) 32]
    refine (Idealize.ShloMosaic.StableHlo.Predicate.toNat_fold_addi _ _ ?_).trans hS
    rw [hS]
    exact (sum_bits f 32).2
  have ht : (packed a0 (ix2 a j)).getLsbD t.val = f t.val := by
    show (packed a0 (ix2 a j)).toNat.testBit t.val = _
    rw [key, (sum_bits f 32).1, decide_eq_true t.isLt]; rfl
  have hf : f t.val = (a0 (ix3 ⟨a.val / 8, by omega⟩ ⟨a.val % 8, by omega⟩ ⟨j.val * 32 + t.val, by omega⟩)).getLsbD 0 := dif_pos t.isLt
  rw [ht, hf, hb]

variable (m : (ℓ : Loc nD τ sig) → Buf (Elt Ideal) ℓ)
theorem v6_eq (c : Dev nD) : (V m c main_v6 : IVec S24x5 32) = packed (m (c, Proc.tc.devRef main_arg0)) := by
  unfold V
  simp only [List.flatten_cons, List.flatten_nil, List.append_nil, StableHlo.after_append]
  after_reads_simp
  rfl
theorem v7_at (c : Dev nD) (a : Fin 3) (b : Fin 8) (j : Fin 10240) : (V m c main_v7 : IVec S3x8x10240 32) (ix3 a b j) = BitVec.setWidth 32 (m (c, Proc.tc.devRef main_arg1) (ix3 a b j)) := by
  unfold V
  simp only [List.flatten_cons, List.flatten_nil, List.append_nil, StableHlo.after_append]
  after_reads_at
end Cert.KernelIdeal.RefValue
-- ==== Proof.Attend.Ideal.Blocks.lean ====
module
public import proofs.«01_k».proof.Proof.Attend.Ideal.Value
public import proofs.«01_k».proof.Proof.Attend.Ideal.Packed
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
open Cert.Attend
namespace Cert.KernelIdeal.RefValue
open Cert.KernelIdeal Cert.KernelIdeal.Gen
variable (m : (ℓ : Loc nD τ sig) → Buf (Elt Ideal) ℓ)
/-- Window 0: the block of grid point `i`. -/
theorem tr0 : ∀ i : grid0.Coords, cc0_transform_0 i = ![(i 0).val / 2, (i 0).val % 2, (i 1).val, 0] := by decide +kernel
theorem e0 (hO : Ok m) (t : Fin (cfgM m hO).N) (y : S1x4x64x128.Idx) (a : Fin 4) :
    ((((cfgM m hO).win 0).blk t).view.emb y a).val = cc0_transform_0 (grid0.coords t) a * (S1x4x64x128.size a) + 1 * (y a).val := rfl
/-- … so its block at that point holds these elements of the array. -/
theorem b0 (hO : Ok m) (c : Dev nD) (t : Fin (cfgM m hO).N) (y0 : Fin 1) (y1 : Fin 4) (y2 : Fin 64) (y3 : Fin 128) (z0 : Fin 3) (z1 : Fin 8) (z2 : Fin 640) (z3 : Fin 128)
    (h0 : z0.val = ((grid0.coords t) 0).val / 2 * 1 + y0.val) (h1 : z1.val = ((grid0.coords t) 0).val % 2 * 4 + y1.val) (h2 : z2.val = ((grid0.coords t) 1).val * 64 + y2.val) (h3 : z3.val = 0 * 128 + y3.val) :
    (iblk m hO c 0 t : Vec Ideal S1x4x64x128 .fp8e4m3) (ix4 y0 y1 y2 y3) = (m (c, Proc.tc.devRef main_arg2) : Vec Ideal S3x8x640x128 .fp8e4m3) (ix4 z0 z1 z2 z3) := by
  refine (congrFun (V_main_arg2 m c) _).trans (congrArg (m (c, Proc.tc.devRef main_arg2) : Vec Ideal S3x8x640x128 .fp8e4m3) (funext fun a => Fin.ext ?_))
  refine (e0 m hO t _ a).trans ?_
  rw [tr0]
  fin_cases a
  · show ((grid0.coords t) 0).val / 2 * 1 + 1 * y0.val = z0.val
    omega
  · show ((grid0.coords t) 0).val % 2 * 4 + 1 * y1.val = z1.val
    omega
  · show ((grid0.coords t) 1).val * 64 + 1 * y2.val = z2.val
    omega
  · show 0 * 128 + 1 * y3.val = z3.val
    omega
/-- Window 1: the block of grid point `i`. -/
theorem tr1 : ∀ i : grid0.Coords, cc0_transform_1 i = ![(i 0).val / 2, (i 1).val, 0] := by decide +kernel
theorem e1 (hO : Ok m) (t : Fin (cfgM m hO).N) (y : S1x64x8.Idx) (a : Fin 3) :
    ((((cfgM m hO).win 1).blk t).view.emb y a).val = cc0_transform_1 (grid0.coords t) a * (S1x64x8.size a) + 1 * (y a).val := rfl
/-- … so its block at that point holds these elements of the array. -/
theorem b1 (hO : Ok m) (c : Dev nD) (t : Fin (cfgM m hO).N) (y0 : Fin 1) (y1 : Fin 64) (y2 : Fin 8) (z0 : Fin 3) (z1 : Fin 640) (z2 : Fin 8)
    (h0 : z0.val = ((grid0.coords t) 0).val / 2 * 1 + y0.val) (h1 : z1.val = ((grid0.coords t) 1).val * 64 + y1.val) (h2 : z2.val = 0 * 8 + y2.val) :
    (iblk m hO c 1 t : Vec Ideal S1x64x8 .f32) (ix3 y0 y1 y2) = (m (c, Proc.tc.devRef main_arg3) : Vec Ideal S3x640x8 .f32) (ix3 z0 z1 z2) := by
  refine (congrFun (V_main_arg3 m c) _).trans (congrArg (m (c, Proc.tc.devRef main_arg3) : Vec Ideal S3x640x8 .f32) (funext fun a => Fin.ext ?_))
  refine (e1 m hO t _ a).trans ?_
  rw [tr1]
  fin_cases a
  · show ((grid0.coords t) 0).val / 2 * 1 + 1 * y0.val = z0.val
    omega
  · show ((grid0.coords t) 1).val * 64 + 1 * y1.val = z1.val
    omega
  · show 0 * 8 + 1 * y2.val = z2.val
    omega
/-- Window 2: the block of grid point `i`. -/
theorem tr2 : ∀ i : grid0.Coords, cc0_transform_2 i = ![(i 0).val, 0, 0] := by decide +kernel
theorem e2 (hO : Ok m) (t : Fin (cfgM m hO).N) (y : S1x9600x128.Idx) (a : Fin 3) :
    ((((cfgM m hO).win 2).blk t).view.emb y a).val = cc0_transform_2 (grid0.coords t) a * (S1x9600x128.size a) + 1 * (y a).val := rfl
/-- … so its block at that point holds these elements of the array. -/
theorem b2 (hO : Ok m) (c : Dev nD) (t : Fin (cfgM m hO).N) (y0 : Fin 1) (y1 : Fin 9600) (y2 : Fin 128) (z0 : Fin 6) (z1 : Fin 9600) (z2 : Fin 128)
    (h0 : z0.val = ((grid0.coords t) 0).val * 1 + y0.val) (h1 : z1.val = 0 * 9600 + y1.val) (h2 : z2.val = 0 * 128 + y2.val) :
    (iblk m hO c 2 t : Vec Ideal S1x9600x128 .fp8e4m3) (ix3 y0 y1 y2) = (m (c, Proc.tc.devRef main_arg4) : Vec Ideal S6x9600x128 .fp8e4m3) (ix3 z0 z1 z2) := by
  refine (congrFun (V_main_arg4 m c) _).trans (congrArg (m (c, Proc.tc.devRef main_arg4) : Vec Ideal S6x9600x128 .fp8e4m3) (funext fun a => Fin.ext ?_))
  refine (e2 m hO t _ a).trans ?_
  rw [tr2]
  fin_cases a
  · show ((grid0.coords t) 0).val * 1 + 1 * y0.val = z0.val
    omega
  · show 0 * 9600 + 1 * y1.val = z1.val
    omega
  · show 0 * 128 + 1 * y2.val = z2.val
    omega
/-- Window 3: the block of grid point `i`. -/
theorem tr3 : ∀ i : grid0.Coords, cc0_transform_3 i = ![(i 0).val / 2, 0, 0] := by decide +kernel
theorem e3 (hO : Ok m) (t : Fin (cfgM m hO).N) (y : S1x2x9600.Idx) (a : Fin 3) :
    ((((cfgM m hO).win 3).blk t).view.emb y a).val = cc0_transform_3 (grid0.coords t) a * (S1x2x9600.size a) + 1 * (y a).val := rfl
/-- … so its block at that point holds these elements of the array. -/
theorem b3 (hO : Ok m) (c : Dev nD) (t : Fin (cfgM m hO).N) (y0 : Fin 1) (y1 : Fin 2) (y2 : Fin 9600) (z0 : Fin 3) (z1 : Fin 2) (z2 : Fin 9600)
    (h0 : z0.val = ((grid0.coords t) 0).val / 2 * 1 + y0.val) (h1 : z1.val = 0 * 2 + y1.val) (h2 : z2.val = 0 * 9600 + y2.val) :
    (iblk m hO c 3 t : Vec Ideal S1x2x9600 .f32) (ix3 y0 y1 y2) = (m (c, Proc.tc.devRef main_arg5) : Vec Ideal S3x2x9600 .f32) (ix3 z0 z1 z2) := by
  refine (congrFun (V_main_arg5 m c) _).trans (congrArg (m (c, Proc.tc.devRef main_arg5) : Vec Ideal S3x2x9600 .f32) (funext fun a => Fin.ext ?_))
  refine (e3 m hO t _ a).trans ?_
  rw [tr3]
  fin_cases a
  · show ((grid0.coords t) 0).val / 2 * 1 + 1 * y0.val = z0.val
    omega
  · show 0 * 2 + 1 * y1.val = z1.val
    omega
  · show 0 * 9600 + 1 * y2.val = z2.val
    omega
/-- Window 4: the block of grid point `i`. -/
theorem tr4 : ∀ i : grid0.Coords, cc0_transform_4 i = ![(i 0).val, 0, 0] := by decide +kernel
theorem e4 (hO : Ok m) (t : Fin (cfgM m hO).N) (y : S1x9600x128.Idx) (a : Fin 3) :
    ((((cfgM m hO).win 4).blk t).view.emb y a).val = cc0_transform_4 (grid0.coords t) a * (S1x9600x128.size a) + 1 * (y a).val := rfl
/-- … so its block at that point holds these elements of the array. -/
theorem b4 (hO : Ok m) (c : Dev nD) (t : Fin (cfgM m hO).N) (y0 : Fin 1) (y1 : Fin 9600) (y2 : Fin 128) (z0 : Fin 6) (z1 : Fin 9600) (z2 : Fin 128)
    (h0 : z0.val = ((grid0.coords t) 0).val * 1 + y0.val) (h1 : z1.val = 0 * 9600 + y1.val) (h2 : z2.val = 0 * 128 + y2.val) :
    (iblk m hO c 4 t : Vec Ideal S1x9600x128 .fp8e4m3) (ix3 y0 y1 y2) = (m (c, Proc.tc.devRef main_arg6) : Vec Ideal S6x9600x128 .fp8e4m3) (ix3 z0 z1 z2) := by
  refine (congrFun (V_main_arg6 m c) _).trans (congrArg (m (c, Proc.tc.devRef main_arg6) : Vec Ideal S6x9600x128 .fp8e4m3) (funext fun a => Fin.ext ?_))
  refine (e4 m hO t _ a).trans ?_
  rw [tr4]
  fin_cases a
  · show ((grid0.coords t) 0).val * 1 + 1 * y0.val = z0.val
    omega
  · show 0 * 9600 + 1 * y1.val = z1.val
    omega
  · show 0 * 128 + 1 * y2.val = z2.val
    omega
/-- Window 5: the block of grid point `i`. -/
theorem tr5 : ∀ i : grid0.Coords, cc0_transform_5 i = ![(i 0).val / 2, 0, 0] := by decide +kernel
theorem e5 (hO : Ok m) (t : Fin (cfgM m hO).N) (y : S1x2x128.Idx) (a : Fin 3) :
    ((((cfgM m hO).win 5).blk t).view.emb y a).val = cc0_transform_5 (grid0.coords t) a * (S1x2x128.size a) + 1 * (y a).val := rfl
/-- … so its block at that point holds these elements of the array. -/
theorem b5 (hO : Ok m) (c : Dev nD) (t : Fin (cfgM m hO).N) (y0 : Fin 1) (y1 : Fin 2) (y2 : Fin 128) (z0 : Fin 3) (z1 : Fin 2) (z2 : Fin 128)
    (h0 : z0.val = ((grid0.coords t) 0).val / 2 * 1 + y0.val) (h1 : z1.val = 0 * 2 + y1.val) (h2 : z2.val = 0 * 128 + y2.val) :
    (iblk m hO c 5 t : Vec Ideal S1x2x128 .f32) (ix3 y0 y1 y2) = (m (c, Proc.tc.devRef main_arg7) : Vec Ideal S3x2x128 .f32) (ix3 z0 z1 z2) := by
  refine (congrFun (V_main_arg7 m c) _).trans (congrArg (m (c, Proc.tc.devRef main_arg7) : Vec Ideal S3x2x128 .f32) (funext fun a => Fin.ext ?_))
  refine (e5 m hO t _ a).trans ?_
  rw [tr5]
  fin_cases a
  · show ((grid0.coords t) 0).val / 2 * 1 + 1 * y0.val = z0.val
    omega
  · show 0 * 2 + 1 * y1.val = z1.val
    omega
  · show 0 * 128 + 1 * y2.val = z2.val
    omega
/-- Window 6: the block of grid point `i`. -/
theorem tr6 : ∀ i : grid0.Coords, cc0_transform_6 i = ![(i 0).val, 0, 0] := by decide +kernel
theorem e6 (hO : Ok m) (t : Fin (cfgM m hO).N) (y : S1x640x128.Idx) (a : Fin 3) :
    ((((cfgM m hO).win 6).blk t).view.emb y a).val = cc0_transform_6 (grid0.coords t) a * (S1x640x128.size a) + 1 * (y a).val := rfl
/-- … so its block at that point holds these elements of the array. -/
theorem b6 (hO : Ok m) (c : Dev nD) (t : Fin (cfgM m hO).N) (y0 : Fin 1) (y1 : Fin 640) (y2 : Fin 128) (z0 : Fin 6) (z1 : Fin 640) (z2 : Fin 128)
    (h0 : z0.val = ((grid0.coords t) 0).val * 1 + y0.val) (h1 : z1.val = 0 * 640 + y1.val) (h2 : z2.val = 0 * 128 + y2.val) :
    (iblk m hO c 6 t : Vec Ideal S1x640x128 .fp8e4m3) (ix3 y0 y1 y2) = (m (c, Proc.tc.devRef main_arg8) : Vec Ideal S6x640x128 .fp8e4m3) (ix3 z0 z1 z2) := by
  refine (congrFun (V_main_arg8 m c) _).trans (congrArg (m (c, Proc.tc.devRef main_arg8) : Vec Ideal S6x640x128 .fp8e4m3) (funext fun a => Fin.ext ?_))
  refine (e6 m hO t _ a).trans ?_
  rw [tr6]
  fin_cases a
  · show ((grid0.coords t) 0).val * 1 + 1 * y0.val = z0.val
    omega
  · show 0 * 640 + 1 * y1.val = z1.val
    omega
  · show 0 * 128 + 1 * y2.val = z2.val
    omega
/-- Window 7: the block of grid point `i`. -/
theorem tr7 : ∀ i : grid0.Coords, cc0_transform_7 i = ![(i 0).val / 2, 0, 0] := by decide +kernel
theorem e7 (hO : Ok m) (t : Fin (cfgM m hO).N) (y : S1x2x640.Idx) (a : Fin 3) :
    ((((cfgM m hO).win 7).blk t).view.emb y a).val = cc0_transform_7 (grid0.coords t) a * (S1x2x640.size a) + 1 * (y a).val := rfl
/-- … so its block at that point holds these elements of the array. -/
theorem b7 (hO : Ok m) (c : Dev nD) (t : Fin (cfgM m hO).N) (y0 : Fin 1) (y1 : Fin 2) (y2 : Fin 640) (z0 : Fin 3) (z1 : Fin 2) (z2 : Fin 640)
    (h0 : z0.val = ((grid0.coords t) 0).val / 2 * 1 + y0.val) (h1 : z1.val = 0 * 2 + y1.val) (h2 : z2.val = 0 * 640 + y2.val) :
    (iblk m hO c 7 t : Vec Ideal S1x2x640 .f32) (ix3 y0 y1 y2) = (m (c, Proc.tc.devRef main_arg9) : Vec Ideal S3x2x640 .f32) (ix3 z0 z1 z2) := by
  refine (congrFun (V_main_arg9 m c) _).trans (congrArg (m (c, Proc.tc.devRef main_arg9) : Vec Ideal S3x2x640 .f32) (funext fun a => Fin.ext ?_))
  refine (e7 m hO t _ a).trans ?_
  rw [tr7]
  fin_cases a
  · show ((grid0.coords t) 0).val / 2 * 1 + 1 * y0.val = z0.val
    omega
  · show 0 * 2 + 1 * y1.val = z1.val
    omega
  · show 0 * 640 + 1 * y2.val = z2.val
    omega
/-- Window 8: the block of grid point `i`. -/
theorem tr8 : ∀ i : grid0.Coords, cc0_transform_8 i = ![(i 0).val, 0, 0] := by decide +kernel
theorem e8 (hO : Ok m) (t : Fin (cfgM m hO).N) (y : S1x640x128.Idx) (a : Fin 3) :
    ((((cfgM m hO).win 8).blk t).view.emb y a).val = cc0_transform_8 (grid0.coords t) a * (S1x640x128.size a) + 1 * (y a).val := rfl
/-- … so its block at that point holds these elements of the array. -/
theorem b8 (hO : Ok m) (c : Dev nD) (t : Fin (cfgM m hO).N) (y0 : Fin 1) (y1 : Fin 640) (y2 : Fin 128) (z0 : Fin 6) (z1 : Fin 640) (z2 : Fin 128)
    (h0 : z0.val = ((grid0.coords t) 0).val * 1 + y0.val) (h1 : z1.val = 0 * 640 + y1.val) (h2 : z2.val = 0 * 128 + y2.val) :
    (iblk m hO c 8 t : Vec Ideal S1x640x128 .fp8e4m3) (ix3 y0 y1 y2) = (m (c, Proc.tc.devRef main_arg10) : Vec Ideal S6x640x128 .fp8e4m3) (ix3 z0 z1 z2) := by
  refine (congrFun (V_main_arg10 m c) _).trans (congrArg (m (c, Proc.tc.devRef main_arg10) : Vec Ideal S6x640x128 .fp8e4m3) (funext fun a => Fin.ext ?_))
  refine (e8 m hO t _ a).trans ?_
  rw [tr8]
  fin_cases a
  · show ((grid0.coords t) 0).val * 1 + 1 * y0.val = z0.val
    omega
  · show 0 * 640 + 1 * y1.val = z1.val
    omega
  · show 0 * 128 + 1 * y2.val = z2.val
    omega
/-- Window 9: the block of grid point `i`. -/
theorem tr9 : ∀ i : grid0.Coords, cc0_transform_9 i = ![(i 0).val / 2, 0, 0] := by decide +kernel
theorem e9 (hO : Ok m) (t : Fin (cfgM m hO).N) (y : S1x2x128.Idx) (a : Fin 3) :
    ((((cfgM m hO).win 9).blk t).view.emb y a).val = cc0_transform_9 (grid0.coords t) a * (S1x2x128.size a) + 1 * (y a).val := rfl
/-- … so its block at that point holds these elements of the array. -/
theorem b9 (hO : Ok m) (c : Dev nD) (t : Fin (cfgM m hO).N) (y0 : Fin 1) (y1 : Fin 2) (y2 : Fin 128) (z0 : Fin 3) (z1 : Fin 2) (z2 : Fin 128)
    (h0 : z0.val = ((grid0.coords t) 0).val / 2 * 1 + y0.val) (h1 : z1.val = 0 * 2 + y1.val) (h2 : z2.val = 0 * 128 + y2.val) :
    (iblk m hO c 9 t : Vec Ideal S1x2x128 .f32) (ix3 y0 y1 y2) = (m (c, Proc.tc.devRef main_arg11) : Vec Ideal S3x2x128 .f32) (ix3 z0 z1 z2) := by
  refine (congrFun (V_main_arg11 m c) _).trans (congrArg (m (c, Proc.tc.devRef main_arg11) : Vec Ideal S3x2x128 .f32) (funext fun a => Fin.ext ?_))
  refine (e9 m hO t _ a).trans ?_
  rw [tr9]
  fin_cases a
  · show ((grid0.coords t) 0).val / 2 * 1 + 1 * y0.val = z0.val
    omega
  · show 0 * 2 + 1 * y1.val = z1.val
    omega
  · show 0 * 128 + 1 * y2.val = z2.val
    omega
/-- Window 10: the block of grid point `i`. -/
theorem tr10 : ∀ i : grid0.Coords, cc0_transform_10 i = ![(i 0).val / 2, 0, 0] := by decide +kernel
theorem e10 (hO : Ok m) (t : Fin (cfgM m hO).N) (y : S1x8x10240.Idx) (a : Fin 3) :
    ((((cfgM m hO).win 10).blk t).view.emb y a).val = cc0_transform_10 (grid0.coords t) a * (S1x8x10240.size a) + 1 * (y a).val := rfl
/-- … so its block at that point holds these elements of the array. -/
theorem b10 (hO : Ok m) (c : Dev nD) (t : Fin (cfgM m hO).N) (y0 : Fin 1) (y1 : Fin 8) (y2 : Fin 10240) (z0 : Fin 3) (z1 : Fin 8) (z2 : Fin 10240)
    (h0 : z0.val = ((grid0.coords t) 0).val / 2 * 1 + y0.val) (h1 : z1.val = 0 * 8 + y1.val) (h2 : z2.val = 0 * 10240 + y2.val) :
    (iblk m hO c 10 t : Vec Ideal S1x8x10240 (.i32)) (ix3 y0 y1 y2) = (V m c main_v7 : Vec Ideal S3x8x10240 (.i32)) (ix3 z0 z1 z2) := by
  refine congrArg (V m c main_v7 : Vec Ideal S3x8x10240 (.i32)) (funext fun a => Fin.ext ?_)
  refine (e10 m hO t _ a).trans ?_
  rw [tr10]
  fin_cases a
  · show ((grid0.coords t) 0).val / 2 * 1 + 1 * y0.val = z0.val
    omega
  · show 0 * 8 + 1 * y1.val = z1.val
    omega
  · show 0 * 10240 + 1 * y2.val = z2.val
    omega
/-- Window 11: the block of grid point `i`. -/
theorem tr11 : ∀ i : grid0.Coords, cc0_transform_11 i = ![(i 0).val / 2, (i 1).val, (i 0).val % 2] := by decide +kernel
theorem e11 (hO : Ok m) (t : Fin (cfgM m hO).N) (y : S1x64x512.Idx) (a : Fin 3) :
    ((((cfgM m hO).win 11).blk t).view.emb y a).val = cc0_transform_11 (grid0.coords t) a * (S1x64x512.size a) + 1 * (y a).val := rfl
theorem flush_all : ∀ t : Fin grid0.N, Pipeline.Window.flushOf grid0 true cc0_transform_11 t = true := by decide +kernel
theorem onto : ∀ (b0 : Fin 3) (b1 : Fin 10) (b2 : Fin 2), ∃ t : Fin grid0.N, cc0_transform_11 (grid0.coords t) = ![b0.val, b1.val, b2.val] := by decide +kernel
/-- The blocks of the output window fill the output array. -/
theorem covers11 (hO : Ok m) : ((cfgM m hO).win 11).Covers := by
  refine ⟨fun a => ?_, fun β => ?_⟩
  · exact (by decide : ∀ a : Fin 3, 0 < S1x64x512.size a) a
  · obtain ⟨t, ht⟩ := onto ⟨(β (0 : Fin 3)).val, (β (0 : Fin 3)).isLt.trans_eq (by exact (by decide : (3 + 1 - 1) / 1 = 3))⟩ ⟨(β (1 : Fin 3)).val, (β (1 : Fin 3)).isLt.trans_eq (by exact (by decide : (640 + 64 - 1) / 64 = 10))⟩ ⟨(β (2 : Fin 3)).val, (β (2 : Fin 3)).isLt.trans_eq (by exact (by decide : (1024 + 512 - 1) / 512 = 2))⟩
    refine ⟨t, flush_all t, fun a => ⟨?_, Or.inl rfl⟩⟩
    change cc0_transform_11 (grid0.coords t) a = _
    rw [ht]
    fin_cases a <;> rfl

end Cert.KernelIdeal.RefValue
-- ==== Proof.Attend.Ideal.Fold.lean ====
module
public import proofs.«01_k».proof.Proof.Attend.Ideal.Template
public import Idealize.ShloMosaic.Lib.WritesUnit
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.RefValue
open Cert.KernelIdeal Cert.KernelIdeal.Gen
variable {F : FTy → Type} [FloatOps F]

/-- Four blocks of 64 rows. -/
def blocks (g : Fin 4 → Vec F S64x128 .f32) : List (View.Piece (Elt F) S256x128 .f32) :=
  [⟨rowR 3, g 3⟩, ⟨rowR 2, g 2⟩, ⟨rowR 1, g 1⟩, ⟨rowR 0, g 0⟩]

theorem ld_blocks {κ : Kind} {sp : Space} (v : View sig κ sp S256x128 .f32) (f : v.ty.Contents (Elt F)) (g : Fin 4 → Vec F S64x128 .f32) (r : Fin 4) :
    View.ld (v.read (Elt F) (v.writes (Elt F) f (blocks g))) (rowR r) = g r := by
  funext x
  have h0 : (x (0 : Fin 2)).val < 64 := (x (0 : Fin 2)).isLt
  have e0 : ∀ r : Fin 4, (((rowR r).idx x) (0 : Fin 2)).val = 64 * r.val + (x (0 : Fin 2)).val := fun r => by
    show 64 * r.val + 1 * (x (0 : Fin 2)).val = _
    omega
  have e1 : ∀ r : Fin 4, (((rowR r).idx x) (1 : Fin 2)).val = (x (1 : Fin 2)).val := fun r => by
    show 0 + 1 * (x (1 : Fin 2)).val = _
    omega
  have nm : ∀ (r q : Fin 4) (L : List (View.Piece (Elt F) S256x128 .f32)) (w : Vec F S64x128 .f32), r ≠ q →
      v.read (Elt F) (v.writes (Elt F) f ((⟨rowR q, w⟩ : View.Piece (Elt F) S256x128 .f32) :: L)) ((rowR r).idx x)
        = v.read (Elt F) (v.writes (Elt F) f L) ((rowR r).idx x) := fun r q L w h =>
    View.read_writes_cons_rows_of_not_mem (o := 64 * q.val) (W := 64) v f (inb_row q) w L ((rowR r).idx x) rfl rfl (by
      rw [e0 r]; have := fun h' => h (Fin.ext h'); omega)
  have mm : ∀ (r : Fin 4) (L : List (View.Piece (Elt F) S256x128 .f32)) (w : Vec F S64x128 .f32),
      v.read (Elt F) (v.writes (Elt F) f ((⟨rowR r, w⟩ : View.Piece (Elt F) S256x128 .f32) :: L)) ((rowR r).idx x) = w x := fun r L w =>
    View.read_writes_cons_rows_of_mem (o := 64 * r.val) v f (inb_row r) w L ((rowR r).idx x) x rfl (e0 r) (e1 r)
  show v.read (Elt F) (v.writes (Elt F) f (blocks g)) ((rowR r).idx x) = g r x
  unfold blocks
  fin_cases r
  · exact ((nm 0 3 _ _ (by decide)).trans ((nm 0 2 _ _ (by decide)).trans ((nm 0 1 _ _ (by decide)).trans (mm 0 _ _))))
  · exact ((nm 1 3 _ _ (by decide)).trans ((nm 1 2 _ _ (by decide)).trans (mm 1 _ _)))
  · exact ((nm 2 3 _ _ (by decide)).trans (mm 2 _ _))
  · exact mm 3 _ _

/-- The running maximum after `n` tiles. -/
def maxRec (s : ℕ → FVec F S64x640 .f32) (e : FVec F S64x128 .f32) : ℕ → FVec F S64x128 .f32
  | 0 => e
  | n + 1 => maximumf (maxRec s e n) (max5 (s n))
/-- The running sum after `n` tiles. -/
def addRec (s : ℕ → FVec F S64x128 .f32) (e : FVec F S64x128 .f32) : ℕ → FVec F S64x128 .f32
  | 0 => e
  | n + 1 => addf (addRec s e n) (s n)

theorem trips1 : k0_t1_loop.trips = 15 := by decide +kernel
theorem trips2 : k0_t2_loop.trips = 15 := by decide +kernel
/-- Tile `n` as a trip of the loop. -/
def tile (n : ℕ) : Fin k0_t1_loop.trips := ⟨n % 15, trips1.symm ▸ Nat.mod_lt n (by decide)⟩
theorem tile_eq (n : ℕ) (h : n < k0_t1_loop.trips) : tile n = ⟨n, h⟩ := Fin.ext (Nat.mod_eq_of_lt (trips1 ▸ h))

theorem fold1 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (v26 : BitVec 32) (v52 : IVec S64x640 32) (v53 : IVec S64x640 32) (v391 : FVec F S64x640 .f32) (v446 : IVec S1x640 1) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg13 : BufTy.Contents (Elt F) arg13.view.ty) (G : BufTy.Contents (Elt F) arg15.view.ty) (r : Fin 4) : ∀ n : ℕ, n ≤ k0_t1_loop.trips →
    View.ld (arg15.view.read (Elt F) (arg15.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) v26 laneBlk v52 v53 v391 v446 X_arg2 X_arg3 X_arg4 X_arg5 X_arg6 X_arg13 G n))) (rowR r)
      = maxRec (fun n => (cached i (arg2.view.read (Elt F) X_arg2) (arg3.view.read (Elt F) X_arg3) (arg4.view.read (Elt F) X_arg4) (arg5.view.read (Elt F) X_arg5) (arg6.view.read (Elt F) X_arg6) (arg13.view.read (Elt F) X_arg13) (tile n) r)) (View.ld (arg15.view.read (Elt F) G) (rowR r)) n
  | 0, _ => rfl
  | n + 1, h => by
    have ih := fun r => fold1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v26 v52 v53 v391 v446 X_arg2 X_arg3 X_arg4 X_arg5 X_arg6 X_arg13 G r n (Nat.le_of_succ_le h)
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) v26 laneBlk v52 v53 v391 v446 X_arg2 X_arg3 X_arg4 X_arg5 X_arg6 X_arg13 G ⟨n, h⟩, View.writes_append]
    unfold tripL_k0_t1
    rw [trip1_eq]
    refine (ld_blocks arg15.view _ (fun r => shapeCast S64x128 (maximumf (View.ld (arg15.view.read (Elt F) (arg15.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) v26 laneBlk v52 v53 v391 v446 X_arg2 X_arg3 X_arg4 X_arg5 X_arg6 X_arg13 G n))) (rowR r) : FVec F S64x128 .f32)
      (max5 (cached i (arg2.view.read (Elt F) X_arg2) (arg3.view.read (Elt F) X_arg3) (arg4.view.read (Elt F) X_arg4) (arg5.view.read (Elt F) X_arg5) (arg6.view.read (Elt F) X_arg6) (arg13.view.read (Elt F) X_arg13) ⟨n, h⟩ r))) shapeCasts_S64x128_S64x128) r).trans ?_
    refine (shapeCast_self _ _).trans ?_
    show _ = maximumf _ (max5 _)
    beta_reduce
    rw [tile_eq n h]
    exact congrArg (fun z => maximumf (F := F) z (max5 _)) (ih r)

theorem fold2 (𝒱 : Variants) (c : Dev nD) (bd : Option 𝒱.V) (i : grid0.Coords) (arg2 : Memref sig .tc .smem S24x5 .i32) (harg2 : arg2.IsWhole) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole) (v26 : BitVec 32) (v968 : FVec F S64x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (G17 : BufTy.Contents (Elt F) arg17.view.ty) (G18 : BufTy.Contents (Elt F) arg18.view.ty) (r : Fin 4) : ∀ n : ℕ, n ≤ k0_t2_loop.trips →
    View.ld (arg17.view.read (Elt F) (arg17.view.writes (Elt F) G17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) v26 laneBlk v968 X_arg2 X_arg3 X_arg4 X_arg5 X_arg6 X_arg7 X_arg13 X_arg16 G17 G18 n).1)) (rowR r)
      = addRec (fun n => sum5 (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) (tile n) r) (View.ld (arg16.view.read (Elt F) X_arg16) (rowM r)))) (View.ld (arg17.view.read (Elt F) G17) (rowR r)) n
    ∧ View.ld (arg18.view.read (Elt F) (arg18.view.writes (Elt F) G18 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) v26 laneBlk v968 X_arg2 X_arg3 X_arg4 X_arg5 X_arg6 X_arg7 X_arg13 X_arg16 G17 G18 n).2)) (rowR r)
      = addRec (fun n => pvV (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) (tile n) r) (View.ld (arg16.view.read (Elt F) X_arg16) (rowM r))) (View.ld (arg7.view.read (Elt F) X_arg7) (Rect.unit (s := S1x9600x128) (k0_off8 (tile n)) S1x640x128.size (k0_off8_inb (tile n))))) (View.ld (arg18.view.read (Elt F) G18) (rowR r)) n
  | 0, _ => ⟨rfl, rfl⟩
  | n + 1, h => by
    have ih := fun r => fold2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v26 v968 X_arg2 X_arg3 X_arg4 X_arg5 X_arg6 X_arg7 X_arg13 X_arg16 G17 G18 r n (Nat.le_of_succ_le h)
    rw [pb_k0_t2_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) v26 laneBlk v968 X_arg2 X_arg3 X_arg4 X_arg5 X_arg6 X_arg7 X_arg13 X_arg16 G17 G18 ⟨n, h⟩]
    dsimp only
    rw [View.writes_append, View.writes_append]
    rw [(trip2_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v26 v968 X_arg2 X_arg3 X_arg4 X_arg5 X_arg6 X_arg7 X_arg13 X_arg16 ⟨n, h⟩ _ _).1, (trip2_eq 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v26 v968 X_arg2 X_arg3 X_arg4 X_arg5 X_arg6 X_arg7 X_arg13 X_arg16 ⟨n, h⟩ _ _).2]
    constructor
    · refine (ld_blocks arg17.view _ (fun r => shapeCast S64x128 (addf (View.ld (arg17.view.read (Elt F) (arg17.view.writes (Elt F) G17 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) v26 laneBlk v968 X_arg2 X_arg3 X_arg4 X_arg5 X_arg6 X_arg7 X_arg13 X_arg16 G17 G18 n).1)) (rowR r) : FVec F S64x128 .f32)
        (sum5 (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) ⟨n, h⟩ r) (View.ld (arg16.view.read (Elt F) X_arg16) (rowM r))))) shapeCasts_S64x128_S64x128) r).trans ?_
      refine (shapeCast_self _ _).trans ?_
      show _ = addf _ (sum5 _)
      beta_reduce
      rw [tile_eq n h]
      exact congrArg (fun z => addf (F := F) z (sum5 _)) (ih r).1
    · refine (ld_blocks arg18.view _ (fun r => shapeCast S64x128 (addf (View.ld (arg18.view.read (Elt F) (arg18.view.writes (Elt F) G18 (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) v26 laneBlk v968 X_arg2 X_arg3 X_arg4 X_arg5 X_arg6 X_arg7 X_arg13 X_arg16 G17 G18 n).2)) (rowR r) : FVec F S64x128 .f32)
        (pvV (expV (cached i (arg2.view.read (Elt F) X_arg2) (arg3.view.read (Elt F) X_arg3) (arg4.view.read (Elt F) X_arg4) (arg5.view.read (Elt F) X_arg5) (arg6.view.read (Elt F) X_arg6) (arg13.view.read (Elt F) X_arg13) ⟨n, h⟩ r) (View.ld (arg16.view.read (Elt F) X_arg16) (rowM r))) (View.ld (arg7.view.read (Elt F) X_arg7) (Rect.unit (s := S1x9600x128) (k0_off8 ⟨n, h⟩) S1x640x128.size (k0_off8_inb ⟨n, h⟩))))) shapeCasts_S64x128_S64x128) r).trans ?_
      refine (shapeCast_self _ _).trans ?_
      show _ = addf _ (pvV _ _)
      beta_reduce
      rw [tile_eq n h]
      exact congrArg (fun z => addf (F := F) z (pvV _ _)) (ih r).2
end Cert.KernelIdeal.RefValue
-- ==== Proof.Attend.Ideal.Scores.lean ====
module
public import proofs.«01_k».proof.Proof.Attend.Ideal.Keep
public import proofs.«01_k».proof.Proof.Attend.Ideal.Fold
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Cert.Attend
namespace Cert.KernelIdeal.RefValue
open Cert.KernelIdeal Cert.KernelIdeal.Gen

theorem ld_at {S : Shape} {e : EltTy} (x : Vec Ideal S e) (off size : Fin S.rank → ℕ) (inb : ∀ a, off a + size a ≤ S.size a)
    (j : (Rect.unit (s := S) off size inb).shape.Idx) (idx : S.Idx) (o : Fin S.rank → ℕ) (ho : off = o) (h : ∀ a, o a + 1 * (j a).val = (idx a).val) :
    View.ld (Val := Elt Ideal) (e' := e) x (Rect.unit (s := S) off size inb) j = x idx :=
  congrArg x (funext fun a => Fin.ext (by rw [← h a, ← ho]; rfl))

theorem off1 : ∀ i : grid0.Coords, k0_off1 i = ![0, (i 0).val % 2, 0] := by decide +kernel
theorem off7 : ∀ (i : grid0.Coords) (r : Fin 4), k0_off7 i (BitVec.ofNat 32 r.val) = ![0, (i 0).val % 2 * 4 + r.val, 9600] := by decide +kernel
theorem off9 : ∀ (i : grid0.Coords) (k : Fin k0_t1_loop.trips), k0_off9 i k = ![0, (i 0).val % 2, 640 * k.val] := by decide +kernel
theorem off10 : ∀ (i : grid0.Coords) (r : Fin 4), k0_off10 i (BitVec.ofNat 32 r.val) = ![(i 0).val / 2 * 8 + (i 0).val % 2 * 4 + r.val, 0] := by decide +kernel
theorem off11 : ∀ (i : grid0.Coords) (r : Fin 4), k0_off11 i (BitVec.ofNat 32 r.val) = ![(i 0).val / 2 * 8 + (i 0).val % 2 * 4 + r.val, 1] := by decide +kernel
theorem off12 : ∀ (i : grid0.Coords) (r : Fin 4), k0_off12 i (BitVec.ofNat 32 r.val) = ![(i 0).val / 2 * 8 + (i 0).val % 2 * 4 + r.val, 2] := by decide +kernel
theorem off13 : ∀ (i : grid0.Coords) (r : Fin 4), k0_off13 i (BitVec.ofNat 32 r.val) = ![(i 0).val / 2 * 8 + (i 0).val % 2 * 4 + r.val, 3] := by decide +kernel
theorem off14 : ∀ (i : grid0.Coords) (r : Fin 4), k0_off14 i (BitVec.ofNat 32 r.val) = ![(i 0).val / 2 * 8 + (i 0).val % 2 * 4 + r.val, 4] := by decide +kernel
theorem off15 : ∀ (i : grid0.Coords) (k : Fin k0_t1_loop.trips) (r : Fin 4), k0_off15 i k (BitVec.ofNat 32 r.val) = ![0, (i 0).val % 2 * 4 + r.val, 640 * k.val] := by decide +kernel
theorem off24 : ∀ i : grid0.Coords, k0_off24 i = ![0, (i 0).val % 2, 0] := by decide +kernel

theorem i0_lt (i : grid0.Coords) : (i 0).val < 6 := (i 0).isLt
theorem i1_lt (i : grid0.Coords) : (i 1).val < 10 := (i 1).isLt

/-- Row of the packed words for head `r` of point `i`. -/
def rowOf (i : grid0.Coords) (r : Fin 4) : Fin 24 := ⟨(i 0).val / 2 * 8 + (i 0).val % 2 * 4 + r.val, by have := i0_lt i; omega⟩
/-- Head `r` of point `i` within its batch entry. -/
def hdOf (i : grid0.Coords) (r : Fin 4) : Fin 8 := ⟨(i 0).val % 2 * 4 + r.val, by omega⟩
def gpOf (i : grid0.Coords) : Fin 2 := ⟨(i 0).val % 2, by omega⟩

theorem words_eq (i : grid0.Coords) (wt : Vec Ideal S24x5 .i32) (r : Fin 4) : words i wt r = fun j => wt (ix2 (rowOf i r) j) := by
  funext j
  fin_cases j
  · exact ld_at (e := .i32) wt _ _ _ _ (ix2 (rowOf i r) 0) _ (off10 i r) (by intro a; fin_cases a <;> rfl)
  · exact ld_at (e := .i32) wt _ _ _ _ (ix2 (rowOf i r) 1) _ (off11 i r) (by intro a; fin_cases a <;> rfl)
  · exact ld_at (e := .i32) wt _ _ _ _ (ix2 (rowOf i r) 2) _ (off12 i r) (by intro a; fin_cases a <;> rfl)
  · exact ld_at (e := .i32) wt _ _ _ _ (ix2 (rowOf i r) 3) _ (off13 i r) (by intro a; fin_cases a <;> rfl)
  · exact ld_at (e := .i32) wt _ _ _ _ (ix2 (rowOf i r) 4) _ (off14 i r) (by intro a; fin_cases a <;> rfl)

theorem sel_grp (i : grid0.Coords) (r : Fin 4) (f : Fin 8 → EReal) :
    Scalar.select (Scalar.cmpi .eq (grp i) 0#32) (f ⟨r.val, by omega⟩) (f ⟨4 + r.val, by omega⟩) = f (hdOf i r) := by
  rw [grp_eq]
  rcases Nat.mod_two_eq_zero_or_one (i 0).val with h | h
  · have e : hdOf i r = ⟨r.val, by omega⟩ := Fin.ext (by show (i 0).val % 2 * 4 + r.val = r.val; omega)
    rw [h, e]; rfl
  · have e : hdOf i r = ⟨4 + r.val, by omega⟩ := Fin.ext (by show (i 0).val % 2 * 4 + r.val = 4 + r.val; omega)
    rw [h, e]; rfl

theorem qHead_at (x0 : Vec Ideal S1x4x64x128 .fp8e4m3) (r : Fin 4) (h : Fin 64) (x : Fin 128) :
    qHead x0 r (ix4 0 0 h x) = x0 (ix4 0 r h x) :=
  ld_at (e := .fp8e4m3) x0 _ _ _ _ (ix4 0 r h x) _ rfl (by
    intro a; fin_cases a
    · rfl
    · show r.val + 1 * 0 = r.val; omega
    · show 0 + 1 * h.val = h.val; omega
    · show 0 + 1 * x.val = x.val; omega)

/-- A masked score against a cached key. -/
theorem cached_at (i : grid0.Coords) (wt : Vec Ideal S24x5 .i32) (x0 : Vec Ideal S1x4x64x128 .fp8e4m3) (x1 : Vec Ideal S1x64x8 .f32) (x2 : Vec Ideal S1x9600x128 .fp8e4m3)
    (x3 : Vec Ideal S1x2x9600 .f32) (x10 : Vec Ideal S1x8x10240 .i32) (r : Fin 4) (h : Fin 64) (k : Fin 9600) (v : BitVec 1)
    (hv : x10 (ix3 0 (hdOf i r) ⟨k.val, by omega⟩) = BitVec.setWidth 32 v) :
    cached i wt x0 x1 x2 x3 x10 (tile (k.val / 640)) r (ix2 h ⟨k.val % 640, Nat.mod_lt _ (by decide)⟩)
      = score (∑ x : Fin 128, x0 (ix4 0 r h x) * x2 (ix3 0 k x)) (x1 (ix3 0 h (hdOf i r))) (x3 (ix3 0 (gpOf i) k))
          (keep (bitOf fun j => wt (ix2 (rowOf i r) j)) (150 + (i 1).val) (k.val / 64) v) := by
  have ht : (tile (k.val / 640)).val = k.val / 640 := by show k.val / 640 % 15 = _; omega
  have hk (x : Fin 128) : View.ld (Val := Elt Ideal) (e' := .fp8e4m3) x2 (Rect.unit (s := S1x9600x128) (k0_off8 (tile (k.val / 640))) S1x640x128.size (k0_off8_inb (tile (k.val / 640)))) (ix3 0 ⟨k.val % 640, Nat.mod_lt _ (by decide)⟩ x) = x2 (ix3 0 k x) :=
    ld_at (e := .fp8e4m3) x2 _ _ _ _ (ix3 0 k x) _ (k0_off8_eq _) (by
      intro a; fin_cases a
      · rfl
      · show 640 * (tile (k.val / 640)).val + 1 * (k.val % 640) = k.val; rw [ht]; omega
      · show 0 + 1 * x.val = x.val; omega)
  have hq (y : Fin 8) : View.ld (Val := Elt Ideal) (e' := .f32) x1 (Rect.unit (s := S1x64x8) ![0, 0, 0] S1x64x8.size inb_S1x64x8_S1x64x8_0_0_0) (ix3 0 h y) = x1 (ix3 0 h y) :=
    ld_at (e := .f32) x1 _ _ _ _ (ix3 0 h y) _ rfl (by
      intro a; fin_cases a
      · rfl
      · show 0 + 1 * h.val = h.val; omega
      · show 0 + 1 * y.val = y.val; omega)
  have hs : View.ld (Val := Elt Ideal) (e' := .f32) x3 (Rect.unit (s := S1x2x9600) (k0_off9 i (tile (k.val / 640))) S1x1x640.size (k0_off9_inb i (tile (k.val / 640)))) (ix3 0 0 ⟨k.val % 640, Nat.mod_lt _ (by decide)⟩) = x3 (ix3 0 (gpOf i) k) :=
    ld_at (e := .f32) x3 _ _ _ _ (ix3 0 (gpOf i) k) _ (off9 i _) (by
      intro a; fin_cases a
      · rfl
      · show (i 0).val % 2 + 1 * 0 = (i 0).val % 2; omega
      · show 640 * (tile (k.val / 640)).val + 1 * (k.val % 640) = k.val; rw [ht]; omega)
  have hx : View.ld (Val := Elt Ideal) (e' := .i32) x10 (Rect.unit (s := S1x8x10240) (k0_off15 i (tile (k.val / 640)) (BitVec.ofNat 32 r.val)) S1x1x640.size (k0_off15_inb i (tile (k.val / 640)) r)) (ix3 0 0 ⟨k.val % 640, Nat.mod_lt _ (by decide)⟩) = x10 (ix3 0 (hdOf i r) ⟨k.val, by omega⟩) :=
    ld_at (e := .i32) x10 _ _ _ _ (ix3 0 (hdOf i r) ⟨k.val, by omega⟩) _ (off15 i _ r) (by
      intro a; fin_cases a
      · rfl
      · show (i 0).val % 2 * 4 + r.val + 1 * 0 = (i 0).val % 2 * 4 + r.val; omega
      · show 640 * (tile (k.val / 640)).val + 1 * (k.val % 640) = k.val; rw [ht]; omega)
  have hn : 10 * (k.val / 640) + k.val % 640 / 64 = k.val / 64 := by omega
  have i1 := i1_lt i
  unfold cached score
  rw [maskV_at, dotScale_at, keepV_at, words_eq, dist_old ⟨(i 1).val, i1⟩, hs, hx, hv, ht]
  rw [hn, keepV_eq _ _ _ (by omega) (by omega)]
  simp only [hk, hq, qHead_at]
  rw [sel_grp i r fun y => x1 (ix3 0 h y)]

/-- A masked score against a new key. -/
theorem fresh_at (i : grid0.Coords) (wt : Vec Ideal S24x5 .i32) (x0 : Vec Ideal S1x4x64x128 .fp8e4m3) (x1 : Vec Ideal S1x64x8 .f32) (x6 : Vec Ideal S1x640x128 .fp8e4m3)
    (x7 : Vec Ideal S1x2x640 .f32) (x10 : Vec Ideal S1x8x10240 .i32) (r : Fin 4) (h : Fin 64) (k : Fin 640) (v : BitVec 1)
    (hv : x10 (ix3 0 (hdOf i r) ⟨9600 + k.val, by omega⟩) = BitVec.setWidth 32 v) :
    fresh i wt x0 x1 x6 x7 x10 r (ix2 h k)
      = if k.val ≤ 64 * (i 1).val + h.val then
        score (∑ x : Fin 128, x0 (ix4 0 r h x) * x6 (ix3 0 k x)) (x1 (ix3 0 h (hdOf i r))) (x7 (ix3 0 (gpOf i) k))
          (keep (bitOf fun j => wt (ix2 (rowOf i r) j)) (150 + (i 1).val) (150 + k.val / 64) v)
        else Ideal.ofBits .f32 4286578688#32 := by
  have hs : View.ld (Val := Elt Ideal) (e' := .f32) x7 (Rect.unit (s := S1x2x640) (k0_off1 i) S1x1x640.size (k0_off1_inb i)) (ix3 0 0 k) = x7 (ix3 0 (gpOf i) k) :=
    ld_at (e := .f32) x7 _ _ _ _ (ix3 0 (gpOf i) k) _ (off1 i) (by
      intro a; fin_cases a
      · rfl
      · show (i 0).val % 2 + 1 * 0 = (i 0).val % 2; omega
      · show 0 + 1 * k.val = k.val; omega)
  have hx : View.ld (Val := Elt Ideal) (e' := .i32) x10 (Rect.unit (s := S1x8x10240) (k0_off7 i (BitVec.ofNat 32 r.val)) S1x1x640.size (k0_off7_inb i r)) (ix3 0 0 k) = x10 (ix3 0 (hdOf i r) ⟨9600 + k.val, by omega⟩) :=
    ld_at (e := .i32) x10 _ _ _ _ (ix3 0 (hdOf i r) ⟨9600 + k.val, by omega⟩) _ (off7 i r) (by
      intro a; fin_cases a
      · rfl
      · show (i 0).val % 2 * 4 + r.val + 1 * 0 = (i 0).val % 2 * 4 + r.val; omega
      · show 9600 + 1 * k.val = 9600 + k.val; omega)
  have i1 := i1_lt i
  unfold fresh score
  rw [causalV_at ⟨(i 1).val, i1⟩, maskV_at, dotScale_at, keepV_at, words_eq, dist_new ⟨(i 1).val, i1⟩, hs, hx, hv]
  rw [keepV_eq _ _ _ (by omega) (by omega)]
  simp only [qHead_at]
  rw [sel_grp i r fun y => x1 (ix3 0 h y)]
end Cert.KernelIdeal.RefValue
-- ==== Proof.Attend.Ideal.Spec.lean ====
module
public import proofs.«01_k».proof.Proof.Attend.Ideal.Scores
public import proofs.«01_k».proof.Proof.Attend.Ideal.Packed
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Cert.Attend
namespace Cert.KernelIdeal.RefValue
open Cert.KernelIdeal Cert.KernelIdeal.Gen

/-- The packed words of a head hold its slash flags. -/
theorem bits (a0 : IVec S3x8x160 1) (i : grid0.Coords) (r : Fin 4) (b : Fin 3) (hb : b.val = (i 0).val / 2) :
    (bitOf fun j => packed a0 (ix2 (rowOf i r) j)) = flag a0 b (hdOf i r) := by
  funext t
  unfold bitOf flag
  by_cases h : t < 160
  · rw [dif_pos (by omega : t / 32 < 5), dif_pos h]
    refine (packed_bit a0 (rowOf i r) ⟨t / 32, by omega⟩ ⟨t % 32, by omega⟩).trans (congrArg a0 ?_)
    have hi := i0_lt i
    have e0 : (⟨(rowOf i r).val / 8, by have := (rowOf i r).isLt; omega⟩ : Fin 3) = b := Fin.ext (by
      show ((i 0).val / 2 * 8 + (i 0).val % 2 * 4 + r.val) / 8 = b.val
      omega)
    have e1 : (⟨(rowOf i r).val % 8, by omega⟩ : Fin 8) = hdOf i r := Fin.ext (by
      show ((i 0).val / 2 * 8 + (i 0).val % 2 * 4 + r.val) % 8 = (i 0).val % 2 * 4 + r.val
      omega)
    have e2 : (⟨t / 32 * 32 + t % 32, by omega⟩ : Fin 160) = ⟨t, h⟩ := Fin.ext (by
      show t / 32 * 32 + t % 32 = t
      omega)
    exact (congrArg (fun z => ix3 z _ _) e0).trans ((congrArg (fun z => ix3 _ z _) e1).trans (congrArg (fun z => ix3 _ _ z) e2))
  · rw [dif_neg (by omega : ¬ t / 32 < 5), dif_neg h]

/-- One number of an output block, from blocks that hold the right elements of the arguments. -/
theorem attn_spec (i : grid0.Coords) (x0 : Vec Ideal S1x4x64x128 .fp8e4m3) (x1 : Vec Ideal S1x64x8 .f32) (x2 : Vec Ideal S1x9600x128 .fp8e4m3) (x3 : Vec Ideal S1x2x9600 .f32)
    (x4 : Vec Ideal S1x9600x128 .fp8e4m3) (x5 : Vec Ideal S1x2x128 .f32) (x6 : Vec Ideal S1x640x128 .fp8e4m3) (x7 : Vec Ideal S1x2x640 .f32) (x8 : Vec Ideal S1x640x128 .fp8e4m3)
    (x9 : Vec Ideal S1x2x128 .f32) (x10 : Vec Ideal S1x8x10240 .i32)
    (a0 : IVec S3x8x160 1) (a1 : IVec S3x8x10240 1) (a2 : Vec Ideal S3x8x640x128 .fp8e4m3) (a3 : Vec Ideal S3x640x8 .f32) (a4 : Vec Ideal S6x9600x128 .fp8e4m3)
    (a5 : Vec Ideal S3x2x9600 .f32) (a6 : Vec Ideal S6x9600x128 .fp8e4m3) (a7 : Vec Ideal S3x2x128 .f32) (a8 : Vec Ideal S6x640x128 .fp8e4m3) (a9 : Vec Ideal S3x2x640 .f32)
    (a10 : Vec Ideal S6x640x128 .fp8e4m3) (a11 : Vec Ideal S3x2x128 .f32)
    (b : Fin 3) (s : Fin 640) (h : Fin 64) (r : Fin 4) (l : Fin 128) (hb : b.val = (i 0).val / 2) (hs : s.val = 64 * (i 1).val + h.val)
    (h0 : ∀ x : Fin 128, x0 (ix4 0 r h x) = a2 (ix4 b (hdOf i r) s x)) (h1 : x1 (ix3 0 h (hdOf i r)) = a3 (ix3 b s (hdOf i r)))
    (h2 : ∀ (k : Fin 9600) (x : Fin 128), x2 (ix3 0 k x) = a4 (ix3 (nOf b (hdOf i r)) k x))
    (h3 : ∀ k : Fin 9600, x3 (ix3 0 (gpOf i) k) = a5 (ix3 b (gOf (hdOf i r)) k))
    (h4 : ∀ k : Fin 9600, x4 (ix3 0 k l) = a6 (ix3 (nOf b (hdOf i r)) k l))
    (h5 : x5 (ix3 0 (gpOf i) l) = a7 (ix3 b (gOf (hdOf i r)) l))
    (h6 : ∀ (k : Fin 640) (x : Fin 128), x6 (ix3 0 k x) = a8 (ix3 (nOf b (hdOf i r)) k x))
    (h7 : ∀ k : Fin 640, x7 (ix3 0 (gpOf i) k) = a9 (ix3 b (gOf (hdOf i r)) k))
    (h8 : ∀ k : Fin 640, x8 (ix3 0 k l) = a10 (ix3 (nOf b (hdOf i r)) k l))
    (h9 : x9 (ix3 0 (gpOf i) l) = a11 (ix3 b (gOf (hdOf i r)) l))
    (h10 : ∀ k : Fin 10240, x10 (ix3 0 (hdOf i r) k) = BitVec.setWidth 32 (a1 (ix3 b (hdOf i r) k))) :
    attn (fun k => cached i (packed a0) x0 x1 x2 x3 x10 (tile (k.val / 640)) r (ix2 h ⟨k.val % 640, Nat.mod_lt _ (by decide)⟩))
      (fun k => fresh i (packed a0) x0 x1 x6 x7 x10 r (ix2 h k)) (fun k => x4 (ix3 0 k l)) (fun k => x8 (ix3 0 k l))
      (View.ld x5 (Rect.unit (s := S1x2x128) (k0_off24 i) S1x1x128.size (k0_off24_inb i)) (ix3 0 0 l)) (View.ld x9 (Rect.unit (s := S1x2x128) (k0_off24 i) S1x1x128.size (k0_off24_inb i)) (ix3 0 0 l))
      = spec a0 a1 a2 a3 a4 a5 a6 a7 a8 a9 a10 a11 b (hdOf i r) s l := by
  have hi1 := i1_lt i
  have hs64 : s.val / 64 = (i 1).val := by omega
  have hB := bits a0 i r b hb
  have A : (fun k => cached i (packed a0) x0 x1 x2 x3 x10 (tile (k.val / 640)) r (ix2 h ⟨k.val % 640, Nat.mod_lt _ (by decide)⟩)) = scoreOld a0 a1 a2 a3 a4 a5 b (hdOf i r) s := by
    funext k
    refine (cached_at i (packed a0) x0 x1 x2 x3 x10 r h k _ (h10 _)).trans ?_
    unfold scoreOld
    rw [hB, h1, h3, hs64]
    exact congrArg (fun z => score z _ _ _) (Finset.sum_congr rfl fun x _ => congrArg₂ (· * ·) (h0 x) (h2 k x))
  have B : (fun k => fresh i (packed a0) x0 x1 x6 x7 x10 r (ix2 h k)) = scoreNew a0 a1 a2 a3 a8 a9 b (hdOf i r) s := by
    funext k
    refine (fresh_at i (packed a0) x0 x1 x6 x7 x10 r h k _ (h10 _)).trans ?_
    unfold scoreNew
    rw [hB, h1, h7, hs64, hs]
    refine congrArg (fun z => if k.val ≤ 64 * (i 1).val + h.val then score z _ _ _ else Ideal.ofBits .f32 4286578688#32) (Finset.sum_congr rfl fun x _ => congrArg₂ (· * ·) (h0 x) (h6 k x))
  have C : View.ld (Val := Elt Ideal) (e' := .f32) x5 (Rect.unit (s := S1x2x128) (k0_off24 i) S1x1x128.size (k0_off24_inb i)) (ix3 0 0 l) = x5 (ix3 0 (gpOf i) l) :=
    ld_at (e := .f32) x5 _ _ _ _ (ix3 0 (gpOf i) l) _ (off24 i) (by
      intro a; fin_cases a
      · rfl
      · exact Nat.add_zero _
      · show 0 + 1 * l.val = l.val; omega)
  have D : View.ld (Val := Elt Ideal) (e' := .f32) x9 (Rect.unit (s := S1x2x128) (k0_off24 i) S1x1x128.size (k0_off24_inb i)) (ix3 0 0 l) = x9 (ix3 0 (gpOf i) l) :=
    ld_at (e := .f32) x9 _ _ _ _ (ix3 0 (gpOf i) l) _ (off24 i) (by
      intro a; fin_cases a
      · rfl
      · exact Nat.add_zero _
      · show 0 + 1 * l.val = l.val; omega)
  have E : (fun k : Fin 9600 => x4 (ix3 0 k l)) = fun k => a6 (ix3 (nOf b (hdOf i r)) k l) := funext h4
  have F : (fun k : Fin 640 => x8 (ix3 0 k l)) = fun k => a10 (ix3 (nOf b (hdOf i r)) k l) := funext h8
  unfold spec
  exact congr (congr (congr (congr (congr (congrArg attn A) B) E) F) (C.trans h5)) (D.trans h9)
end Cert.KernelIdeal.RefValue
-- ==== Proof.Attend.Ideal.Out.lean ====
module
public import proofs.«01_k».proof.Proof.Attend.Ideal.Value
public import proofs.«01_k».proof.Proof.Attend.Ideal.Template
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
namespace Cert.KernelIdeal.RefValue
open Cert.KernelIdeal Cert.KernelIdeal.Gen
variable {F : FTy → Type} [FloatOps F]

set_option maxHeartbeats 4000000 in
theorem out_eq (c : Dev nD) (i : grid0.Coords) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)  (x0 : Vec F S1x4x64x128 .fp8e4m3) (x1 : Vec F S1x64x8 .f32) (x2 : Vec F S1x9600x128 .fp8e4m3) (x3 : Vec F S1x2x9600 .f32) (x4 : Vec F S1x9600x128 .fp8e4m3) (x5 : Vec F S1x2x128 .f32) (x6 : Vec F S1x640x128 .fp8e4m3) (x7 : Vec F S1x2x640 .f32) (x8 : Vec F S1x640x128 .fp8e4m3) (x9 : Vec F S1x2x128 .f32) (x10 : Vec F S1x8x10240 .i32) (xt0 : TbBuf0 (F := F) c tbM0_0) (y : S1x64x512.Idx) (v : F .f32)
    (E15 M16 E17 E19 L17 L18 : List (View.Piece (Elt F) S256x128 .f32))
    (hE15 : E15 = ent15 i (tbM0_0.view.read (Elt F) xt0) x0 x1 x6 x7 x10)
    (hM16 : M16 = [⟨Rect.unit (s := S256x128) ![0, 0] S256x128.size inb_S256x128_S256x128_0_0, k0_pay100 (View.canon ((pb_k0_t1 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) (bat i) laneBlk rowId laneId (dotScale (grp i) (qHead x0 3) x6 x1 (View.ld x7 (Rect.unit (s := S1x2x640) (k0_off1 i) S1x1x640.size (k0_off1_inb i))) 3) (slashV (distV (BitVec.ofNat 32 (i 1).val) 150#32) (words i (tbM0_0.view.read (Elt F) xt0) 3)) xt0 (harg3.unread x0) (harg4.unread x1) (harg5.unread x2) (harg6.unread x3) (harg13.unread x10) (arg15.view.writes (Elt F) arg15.view.junk E15) k0_t1_loop.trips) ++ E15))⟩])
    (hE17 : E17 = ent17 i (tbM0_0.view.read (Elt F) xt0) x0 x1 x6 x7 x10 (View.canon M16))
    (hE19 : E19 = ent19 i (tbM0_0.view.read (Elt F) xt0) x0 x1 x6 x7 x8 x10 (View.canon M16))
    (hL17 : L17 = (pb_k0_t2 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) (bat i) laneBlk (pvV (expV (fresh i (tbM0_0.view.read (Elt F) xt0) x0 x1 x6 x7 x10 3) (View.ld (View.canon M16) (rowM 3))) x8) xt0 (harg3.unread x0) (harg4.unread x1) (harg5.unread x2) (harg6.unread x3) (harg7.unread x4) (harg13.unread x10) (arg16.view.writes (Elt F) arg16.view.junk M16) (arg17.view.writes (Elt F) arg17.view.junk E17) (arg18.view.writes (Elt F) arg18.view.junk ent18) k0_t2_loop.trips).1 ++ E17) (hL18 : L18 = (pb_k0_t2 (F := F) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) (bat i) laneBlk (pvV (expV (fresh i (tbM0_0.view.read (Elt F) xt0) x0 x1 x6 x7 x10 3) (View.ld (View.canon M16) (rowM 3))) x8) xt0 (harg3.unread x0) (harg4.unread x1) (harg5.unread x2) (harg6.unread x3) (harg7.unread x4) (harg13.unread x10) (arg16.view.writes (Elt F) arg16.view.junk M16) (arg17.view.writes (Elt F) arg17.view.junk E17) (arg18.view.writes (Elt F) arg18.view.junk ent18) k0_t2_loop.trips).2 ++ ent18)
    (h : View.canon [(⟨colO 3, outV (View.ld (View.canon L18) (rowR 3)) (View.ld (View.canon E19) (rowR 3)) (View.ld (View.canon L17) (rowR 3)) (View.ld x5 (Rect.unit (s := S1x2x128) (k0_off24 i) S1x1x128.size (k0_off24_inb i))) (View.ld x9 (Rect.unit (s := S1x2x128) (k0_off24 i) S1x1x128.size (k0_off24_inb i)))⟩ : View.Piece (Elt F) S1x64x512 .f32), (⟨colO 2, outV (View.ld (View.canon L18) (rowR 2)) (View.ld (View.canon E19) (rowR 2)) (View.ld (View.canon L17) (rowR 2)) (View.ld x5 (Rect.unit (s := S1x2x128) (k0_off24 i) S1x1x128.size (k0_off24_inb i))) (View.ld x9 (Rect.unit (s := S1x2x128) (k0_off24 i) S1x1x128.size (k0_off24_inb i)))⟩ : View.Piece (Elt F) S1x64x512 .f32), (⟨colO 1, outV (View.ld (View.canon L18) (rowR 1)) (View.ld (View.canon E19) (rowR 1)) (View.ld (View.canon L17) (rowR 1)) (View.ld x5 (Rect.unit (s := S1x2x128) (k0_off24 i) S1x1x128.size (k0_off24_inb i))) (View.ld x9 (Rect.unit (s := S1x2x128) (k0_off24 i) S1x1x128.size (k0_off24_inb i)))⟩ : View.Piece (Elt F) S1x64x512 .f32), (⟨colO 0, outV (View.ld (View.canon L18) (rowR 0)) (View.ld (View.canon E19) (rowR 0)) (View.ld (View.canon L17) (rowR 0)) (View.ld x5 (Rect.unit (s := S1x2x128) (k0_off24 i) S1x1x128.size (k0_off24_inb i))) (View.ld x9 (Rect.unit (s := S1x2x128) (k0_off24 i) S1x1x128.size (k0_off24_inb i)))⟩ : View.Piece (Elt F) S1x64x512 .f32)] y = v) :
    out0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 xt0 y = v := by
  subst hL17 hL18 hE19 hE17 hM16 hE15
  unfold out0_A_11
  frame_out
  simp only [View.readCov_eq_canon']
  exact h
end Cert.KernelIdeal.RefValue
-- ==== Proof.Attend.Ideal.Reblock.lean ====
module
public import proofs.«01_k».proof.Proof.Attend.Ideal.Fold
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.KernelIdeal.RefValue
open Cert.KernelIdeal Cert.KernelIdeal.Gen

theorem negInf : Ideal.ofBits FTy.f32 4286578688#32 = ⊥ := by
  simp [Ideal.ofBits, Ideal.ieee]
theorem two : Ideal.ofBits FTy.f32 1073741824#32 = ((2 : ℝ) : EReal) := by
  simp [Ideal.ofBits, Ideal.ieee, -EReal.coe_mul]; norm_num
theorem pow_two (x : EReal) : Ideal.pow ((2 : ℝ) : EReal) x = Ideal.exp2 x := by
  induction x with
  | bot =>
    show (if (2 : ℝ) < 0 then (⊥ : EReal) else if (1 : ℝ) < 2 then 0 else if (2 : ℝ) = 1 then 1 else ⊤) = 0
    norm_num
  | top =>
    show (if (2 : ℝ) < 0 then (⊥ : EReal) else if (1 : ℝ) < 2 then ⊤ else if (2 : ℝ) = 1 then 1 else 0) = ⊤
    norm_num
  | coe r => rfl

theorem sum5_at (s : FVec Ideal S64x640 .f32) (h : Fin 64) (l : Fin 128) :
    sum5 s (ix2 h l) = ∑ c : Fin 5, s (ix2 h ⟨c.val * 128 + l.val, by omega⟩) := by
  pointwise [sum5]
  rw [Fin.sum_univ_five]
  simp
theorem max5_le (s : FVec Ideal S64x640 .f32) (h : Fin 64) (l : Fin 128) (z : EReal) :
    (max5 s (ix2 h l) : EReal) ≤ z ↔ ∀ c : Fin 5, (s (ix2 h ⟨c.val * 128 + l.val, by omega⟩) : EReal) ≤ z := by
  have e : (max5 s (ix2 h l) : EReal) = max
      (max (max (max (s (ix2 h ⟨l.val, by omega⟩)) (s (ix2 h ⟨128 + l.val, by omega⟩))) (s (ix2 h ⟨256 + l.val, by omega⟩)))
        (s (ix2 h ⟨384 + l.val, by omega⟩)))
      (s (ix2 h ⟨512 + l.val, by omega⟩)) := by
    pointwise [max5]
  rw [e]
  simp only [max_le_iff]
  constructor
  · rintro ⟨⟨⟨⟨a, b⟩, c⟩, d⟩, f⟩ q
    fin_cases q
    · simpa using a
    · simpa using b
    · simpa using c
    · simpa using d
    · simpa using f
  · intro H
    refine ⟨⟨⟨⟨?_, H 1⟩, H 2⟩, H 3⟩, H 4⟩
    have := H 0
    convert this using 4
    simp

theorem addRec_at (s : ℕ → FVec Ideal S64x128 .f32) (e : FVec Ideal S64x128 .f32) (x : S64x128.Idx) : ∀ n,
    (addRec s e n x : EReal) = e x + ∑ j ∈ Finset.range n, (s j x : EReal)
  | 0 => by simp [addRec]
  | n + 1 => by
    rw [Finset.sum_range_succ, ← add_assoc, ← addRec_at s e x n]
    rfl
theorem maxRec_le (s : ℕ → FVec Ideal S64x640 .f32) (e : FVec Ideal S64x128 .f32) (x : S64x128.Idx) (z : EReal) : ∀ n,
    (maxRec s e n x : EReal) ≤ z ↔ (e x : EReal) ≤ z ∧ ∀ j < n, (max5 (s j) x : EReal) ≤ z
  | 0 => by simp [maxRec]
  | n + 1 => by
    have : (maxRec s e (n + 1) x : EReal) = max (maxRec s e n x) (max5 (s n) x) := rfl
    rw [this, max_le_iff, maxRec_le s e x z n]
    constructor
    · rintro ⟨⟨a, b⟩, c⟩
      refine ⟨a, fun j hj => ?_⟩
      rcases Nat.lt_succ_iff_lt_or_eq.1 hj with h | rfl
      · exact b j h
      · exact c
    · rintro ⟨a, b⟩
      exact ⟨⟨a, fun j hj => b j (by omega)⟩, b n (by omega)⟩

/-- A maximum over 128 lanes of the running lane maxima is the maximum over all keys. -/
theorem max_all (s : ℕ → FVec Ideal S64x640 .f32) (e : FVec Ideal S64x640 .f32) (h : Fin 64) :
    Finset.fold max (⊥ : EReal) (fun l : Fin 128 => (maxRec s (max5 e) 15 (ix2 h l) : EReal)) Finset.univ
      = max (Finset.fold max (⊥ : EReal) (fun k : Fin 9600 => (s (k.val / 640) (ix2 h ⟨k.val % 640, Nat.mod_lt _ (by decide)⟩) : EReal)) Finset.univ)
          (Finset.fold max (⊥ : EReal) (fun k : Fin 640 => (e (ix2 h k) : EReal)) Finset.univ) := by
  refine eq_of_forall_ge_iff fun z => ?_
  rw [max_le_iff, Finset.fold_max_le, Finset.fold_max_le, Finset.fold_max_le]
  simp only [bot_le, true_and, Finset.mem_univ, forall_const, maxRec_le, max5_le]
  constructor
  · intro H
    refine ⟨fun k => ?_, fun k => ?_⟩
    · have := (H ⟨k.val % 640 % 128, Nat.mod_lt _ (by decide)⟩).2 (k.val / 640) (by omega) ⟨k.val % 640 / 128, by omega⟩
      convert this using 4
      simp only []
      omega
    · have := (H ⟨k.val % 128, Nat.mod_lt _ (by decide)⟩).1 ⟨k.val / 128, by omega⟩
      convert this using 3
      refine Fin.ext ?_
      simp only []
      omega
  · rintro ⟨A, B⟩ l
    refine ⟨fun c => B _, fun j hj c => ?_⟩
    have := A ⟨j * 640 + (c.val * 128 + l.val), by omega⟩
    convert this using 3
    · show j = (j * 640 + (c.val * 128 + l.val)) / 640
      omega
    · refine Fin.ext ?_
      show c.val * 128 + l.val = (j * 640 + (c.val * 128 + l.val)) % 640
      omega

theorem sum_tiles (f : ℕ → Fin 640 → EReal) : ∑ j ∈ Finset.range 15, ∑ k : Fin 640, f j k
    = ∑ k : Fin 9600, f (k.val / 640) ⟨k.val % 640, Nat.mod_lt _ (by decide)⟩ := by
  rw [Finset.sum_range]
  exact (Fin.sum_divmod_fin (N := 9600) (A := 15) 640 (fun a k => f a.val k)).symm

theorem sum_lanes (f : Fin 640 → EReal) : ∑ l : Fin 128, ∑ c : Fin 5, f ⟨c.val * 128 + l.val, by omega⟩ = ∑ k : Fin 640, f k := by
  rw [Finset.sum_comm]
  exact Fin.sum_mul_add_fin (L := 640) 5 128 f

/-- A sum over 128 lanes of the running lane sums is the sum over all keys. -/
theorem sum_all (s : ℕ → FVec Ideal S64x640 .f32) (e : FVec Ideal S64x640 .f32) (h : Fin 64) :
    ∑ l : Fin 128, (addRec (fun n => sum5 (s n)) (sum5 e) 15 (ix2 h l) : EReal)
      = (∑ k : Fin 9600, (s (k.val / 640) (ix2 h ⟨k.val % 640, Nat.mod_lt _ (by decide)⟩) : EReal))
          + ∑ k : Fin 640, (e (ix2 h k) : EReal) := by
  simp only [addRec_at]
  rw [Finset.sum_add_distrib, Finset.sum_comm, add_comm]
  simp only [sum5_at]
  rw [sum_lanes (fun k => (e (ix2 h k) : EReal)), ← sum_tiles (fun n k => (s n (ix2 h k) : EReal))]
  congr 1
  exact Finset.sum_congr rfl fun j _ => sum_lanes (fun k => (s j (ix2 h k) : EReal))
end Cert.KernelIdeal.RefValue
-- ==== Proof.Attend.Ideal.Block.lean ====
module
public import proofs.«01_k».proof.Proof.Attend.Ideal.Out
public import proofs.«01_k».proof.Proof.Attend.Ideal.Reblock
public import proofs.«01_k».proof.Proof.Attend.Attn
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
open Idealize.ShloMosaic.Pipeline (Dat)
open Cert.Attend (attn)
namespace Cert.KernelIdeal.RefValue
open Cert.KernelIdeal Cert.KernelIdeal.Gen

theorem canon_app (v : View sig .tc .vmem S256x128 .f32) (L E : List (View.Piece (Elt Ideal) S256x128 .f32)) :
    View.canon (L ++ E) = v.read (Elt Ideal) (v.writes (Elt Ideal) (v.writes (Elt Ideal) v.junk E) L) := by
  rw [← View.writes_append, View.read_writes_junk_eq_canon]

/-- The output block holds the four heads side by side. -/
theorem out_canon (P : Fin 4 → Vec Ideal S1x64x128 .f32) (z : Fin 1) (h : Fin 64) (r : Fin 4) (l : Fin 128) :
    View.canon [(⟨colO 3, P 3⟩ : View.Piece (Elt Ideal) S1x64x512 .f32), ⟨colO 2, P 2⟩, ⟨colO 1, P 1⟩, ⟨colO 0, P 0⟩]
      (ix3 z h ⟨128 * r.val + l.val, by omega⟩) = P r (ix3 z h l) := by
  have A : ∀ (q : Fin 4) (x : (colO q).shape.Idx), (colO q).emb x = ix3 z h ⟨128 * r.val + l.val, by omega⟩ → P q x = P r (ix3 z h l) := by
    intro q x hx
    have h2 : 128 * q.val + 1 * (x (2 : Fin 3)).val = 128 * r.val + l.val := congrArg (fun i : S1x64x512.Idx => (i (2 : Fin 3)).val) hx
    have h1 : 0 + 1 * (x (1 : Fin 3)).val = h.val := congrArg (fun i : S1x64x512.Idx => (i (1 : Fin 3)).val) hx
    have h0 : 0 + 1 * (x (0 : Fin 3)).val = z.val := congrArg (fun i : S1x64x512.Idx => (i (0 : Fin 3)).val) hx
    have b2 : (x (2 : Fin 3)).val < 128 := (x (2 : Fin 3)).isLt
    have eq : q = r := Fin.ext (by omega)
    subst eq
    congr 1
    funext a
    refine Fin.ext ?_
    fin_cases a
    · show (x (0 : Fin 3)).val = z.val; omega
    · show (x (1 : Fin 3)).val = h.val; omega
    · show (x (2 : Fin 3)).val = l.val; omega
  refine View.canon_eq_of_allAt _ _ _ ?_ ?_
  · have m : (ix3 z h ⟨128 * r.val + l.val, by omega⟩ : S1x64x512.Idx) ∈ (colO r).set := by
      rw [Rect.mem_set_unit]
      intro a
      fin_cases a
      · exact ⟨Nat.zero_le _, by show z.val < 0 + 1; omega⟩
      · exact ⟨Nat.zero_le _, by show h.val < 0 + 64; omega⟩
      · exact ⟨by show 128 * r.val ≤ 128 * r.val + l.val; omega, by show 128 * r.val + l.val < 128 * r.val + 128; omega⟩
    fin_cases r
    · exact ⟨⟨colO 0, P 0⟩, by simp, m⟩
    · exact ⟨⟨colO 1, P 1⟩, by simp, m⟩
    · exact ⟨⟨colO 2, P 2⟩, by simp, m⟩
    · exact ⟨⟨colO 3, P 3⟩, by simp, m⟩
  · intro p hp
    simp only [List.mem_cons, List.mem_nil_iff, or_false] at hp
    rcases hp with rfl | rfl | rfl | rfl
    · exact A 3
    · exact A 2
    · exact A 1
    · exact A 0

/-- The row maxima, rounded up. -/
def mcol (C : FVec Ideal S64x128 .f32) : FVec Ideal S64x1 .f32 := fun x =>
  Ideal.liftRound Int.ceil (Finset.fold max (⊥ : EReal) (fun l : Fin 128 => (C (ix2 (x 0) l) : EReal)) Finset.univ)

theorem ld_pay100 (w : Vec Ideal S256x128 .f32) (r : Fin 4) : View.ld (Val := Elt Ideal) (e' := .f32) (k0_pay100 w) (rowM r) = mcol (View.ld (Val := Elt Ideal) (e' := .f32) w (rowR r)) := by
  have e : ∀ (h : Fin 256) (l : Fin 128), k0_pay100 w (ix2 h l) = Ideal.liftRound Int.ceil (Finset.fold max (⊥ : EReal) (fun x : Fin 128 => (w (ix2 h x) : EReal)) Finset.univ) := by
    intro h l
    rw [← negInf]
    pointwise [k0_pay100]
  funext x
  have hb : (x (0 : Fin 2)).val < 64 := (x (0 : Fin 2)).isLt
  have hx : (rowM r).idx x = ix2 ⟨64 * r.val + (x (0 : Fin 2)).val, by omega⟩ 0 := by
    funext a
    refine Fin.ext ?_
    fin_cases a
    · show 64 * r.val + 1 * (x (0 : Fin 2)).val = _
      simp
    · have : (x (1 : Fin 2)).val < 1 := (x (1 : Fin 2)).isLt
      show 0 + 1 * (x (1 : Fin 2)).val = 0
      omega
  show k0_pay100 w ((rowM r).idx x) = _
  rw [hx, e]
  unfold mcol
  congr 2
  funext l
  show w _ = w ((rowR r).idx _)
  congr 1
  funext a
  refine Fin.ext ?_
  fin_cases a
  · show 64 * r.val + (x (0 : Fin 2)).val = 64 * r.val + 1 * (x (0 : Fin 2)).val
    omega
  · show l.val = 0 + 1 * l.val
    omega

theorem att_eq (A : ℕ → FVec Ideal S64x640 .f32) (B : FVec Ideal S64x640 .f32) (W : ℕ → Vec Ideal S1x640x128 .fp8e4m3) (x4 : Vec Ideal S1x9600x128 .fp8e4m3) (x8 : Vec Ideal S1x640x128 .fp8e4m3)
    (hW : ∀ (n : ℕ) (k : Fin 640) (l : Fin 128) (hn : n < 15), W n (ix3 0 k l) = x4 (ix3 0 ⟨n * 640 + k.val, by omega⟩ l))
    (cs ns : Vec Ideal S1x1x128 .f32) (z : Fin 1) (h : Fin 64) (l : Fin 128) (M : FVec Ideal S64x1 .f32) (hM : M = mcol (maxRec A (max5 B) 15)) (e : FVec Ideal S64x128 .f32) (he : ∀ x, (e x : EReal) = 0) :
    outV (addRec (fun n => pvV (expV (A n) M) (W n)) e 15) (pvV (expV B M) x8) (addRec (fun n => sum5 (expV (A n) M)) (sum5 (expV B M)) 15) cs ns (ix3 z h l)
      = attn (fun k => A (k.val / 640) (ix2 h ⟨k.val % 640, Nat.mod_lt _ (by decide)⟩)) (fun k => B (ix2 h k)) (fun k => x4 (ix3 0 k l)) (fun k => x8 (ix3 0 k l)) (cs (ix3 0 0 l)) (ns (ix3 0 0 l)) := by
  have o : ∀ (oc on den : Vec Ideal S64x128 .f32), outV oc on den cs ns (ix3 z h l)
      = Ideal.div (oc (ix2 h l) * cs (ix3 0 0 l) + on (ix2 h l) * ns (ix3 0 0 l)) (∑ x : Fin 128, (den (ix2 h x) : EReal)) := by
    intro oc on den
    pointwise [outV]
  have p : ∀ (p : FVec Ideal S64x640 .f32) (w : Vec Ideal S1x640x128 .fp8e4m3), (pvV p w (ix2 h l) : EReal) = ∑ k : Fin 640, (p (ix2 h k) : EReal) * w (ix3 0 k l) := by
    intro p w
    pointwise [pvV]
  have x : ∀ (s : FVec Ideal S64x640 .f32) (k : Fin 640), (expV s M (ix2 h k) : EReal) = Ideal.exp2 (s (ix2 h k) - M (ix2 h 0)) := by
    intro s k
    pointwise [expV]
    rfl
  have m : (M (ix2 h 0) : EReal) = Ideal.liftRound Int.ceil (max (Finset.fold max (⊥ : EReal) (fun k : Fin 9600 => (A (k.val / 640) (ix2 h ⟨k.val % 640, Nat.mod_lt _ (by decide)⟩) : EReal)) Finset.univ)
          (Finset.fold max (⊥ : EReal) (fun k : Fin 640 => (B (ix2 h k) : EReal)) Finset.univ)) := by
    rw [← max_all, hM]
    rfl
  rw [o, sum_all (fun n => expV (A n) M) (expV B M) h, p, addRec_at, he, zero_add]
  have c : ∑ j ∈ Finset.range 15, (pvV (expV (A j) M) (W j) (ix2 h l) : EReal)
      = ∑ k : Fin 9600, Ideal.exp2 (A (k.val / 640) (ix2 h ⟨k.val % 640, Nat.mod_lt _ (by decide)⟩) - M (ix2 h 0)) * x4 (ix3 0 k l) := by
    have : ∀ j ∈ Finset.range 15, (pvV (expV (A j) M) (W j) (ix2 h l) : EReal)
        = ∑ k : Fin 640, Ideal.exp2 (A j (ix2 h k) - M (ix2 h 0)) * (if hj : j < 15 then x4 (ix3 0 ⟨j * 640 + k.val, by omega⟩ l) else 0) := by
      intro j hj
      rw [p]
      refine Finset.sum_congr rfl fun k _ => ?_
      rw [x, dif_pos (Finset.mem_range.1 hj), hW j k l (Finset.mem_range.1 hj)]
    rw [Finset.sum_congr rfl this, sum_tiles (fun j k => Ideal.exp2 (A j (ix2 h k) - M (ix2 h 0)) * (if hj : j < 15 then x4 (ix3 0 ⟨j * 640 + k.val, by omega⟩ l) else 0))]
    refine Finset.sum_congr rfl fun k _ => ?_
    have hk := k.isLt
    rw [dif_pos (show k.val / 640 < 15 by omega)]
    congr 3
    refine Fin.ext ?_
    show k.val / 640 * 640 + k.val % 640 = k.val
    omega
  rw [c]
  simp only [x]
  rw [m]
  rfl

set_option maxHeartbeats 4000000 in
theorem block_of (c : Dev nD) (i : grid0.Coords) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)  (x0 : Vec Ideal S1x4x64x128 .fp8e4m3) (x1 : Vec Ideal S1x64x8 .f32) (x2 : Vec Ideal S1x9600x128 .fp8e4m3) (x3 : Vec Ideal S1x2x9600 .f32) (x4 : Vec Ideal S1x9600x128 .fp8e4m3) (x5 : Vec Ideal S1x2x128 .f32) (x6 : Vec Ideal S1x640x128 .fp8e4m3) (x7 : Vec Ideal S1x2x640 .f32) (x8 : Vec Ideal S1x640x128 .fp8e4m3) (x9 : Vec Ideal S1x2x128 .f32) (x10 : Vec Ideal S1x8x10240 .i32) (xt0 : TbBuf0 (F := Ideal) c tbM0_0)
(z : Fin 1) (h : Fin 64) (r : Fin 4) (l : Fin 128)
    (E15 M16 E17 E19 L17 L18 : List (View.Piece (Elt Ideal) S256x128 .f32))
    (hE15 : E15 = ent15 i (tbM0_0.view.read (Elt Ideal) xt0) x0 x1 x6 x7 x10)
    (hM16 : M16 = [⟨Rect.unit (s := S256x128) ![0, 0] S256x128.size inb_S256x128_S256x128_0_0, k0_pay100 (View.canon ((pb_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) (bat i) laneBlk rowId laneId (dotScale (grp i) (qHead x0 3) x6 x1 (View.ld x7 (Rect.unit (s := S1x2x640) (k0_off1 i) S1x1x640.size (k0_off1_inb i))) 3) (slashV (distV (BitVec.ofNat 32 (i 1).val) 150#32) (words i (tbM0_0.view.read (Elt Ideal) xt0) 3)) xt0 (harg3.unread x0) (harg4.unread x1) (harg5.unread x2) (harg6.unread x3) (harg13.unread x10) (arg15.view.writes (Elt Ideal) arg15.view.junk E15) k0_t1_loop.trips) ++ E15))⟩])
    (hE17 : E17 = ent17 i (tbM0_0.view.read (Elt Ideal) xt0) x0 x1 x6 x7 x10 (View.canon M16))
    (hE19 : E19 = ent19 i (tbM0_0.view.read (Elt Ideal) xt0) x0 x1 x6 x7 x8 x10 (View.canon M16))
    (hL17 : L17 = (pb_k0_t2 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) (bat i) laneBlk (pvV (expV (fresh i (tbM0_0.view.read (Elt Ideal) xt0) x0 x1 x6 x7 x10 3) (View.ld (View.canon M16) (rowM 3))) x8) xt0 (harg3.unread x0) (harg4.unread x1) (harg5.unread x2) (harg6.unread x3) (harg7.unread x4) (harg13.unread x10) (arg16.view.writes (Elt Ideal) arg16.view.junk M16) (arg17.view.writes (Elt Ideal) arg17.view.junk E17) (arg18.view.writes (Elt Ideal) arg18.view.junk ent18) k0_t2_loop.trips).1 ++ E17) (hL18 : L18 = (pb_k0_t2 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) (bat i) laneBlk (pvV (expV (fresh i (tbM0_0.view.read (Elt Ideal) xt0) x0 x1 x6 x7 x10 3) (View.ld (View.canon M16) (rowM 3))) x8) xt0 (harg3.unread x0) (harg4.unread x1) (harg5.unread x2) (harg6.unread x3) (harg7.unread x4) (harg13.unread x10) (arg16.view.writes (Elt Ideal) arg16.view.junk M16) (arg17.view.writes (Elt Ideal) arg17.view.junk E17) (arg18.view.writes (Elt Ideal) arg18.view.junk ent18) k0_t2_loop.trips).2 ++ ent18)
    :
    View.canon [(⟨colO 3, outV (View.ld (View.canon L18) (rowR 3)) (View.ld (View.canon E19) (rowR 3)) (View.ld (View.canon L17) (rowR 3)) (View.ld x5 (Rect.unit (s := S1x2x128) (k0_off24 i) S1x1x128.size (k0_off24_inb i))) (View.ld x9 (Rect.unit (s := S1x2x128) (k0_off24 i) S1x1x128.size (k0_off24_inb i)))⟩ : View.Piece (Elt Ideal) S1x64x512 .f32), (⟨colO 2, outV (View.ld (View.canon L18) (rowR 2)) (View.ld (View.canon E19) (rowR 2)) (View.ld (View.canon L17) (rowR 2)) (View.ld x5 (Rect.unit (s := S1x2x128) (k0_off24 i) S1x1x128.size (k0_off24_inb i))) (View.ld x9 (Rect.unit (s := S1x2x128) (k0_off24 i) S1x1x128.size (k0_off24_inb i)))⟩ : View.Piece (Elt Ideal) S1x64x512 .f32), (⟨colO 1, outV (View.ld (View.canon L18) (rowR 1)) (View.ld (View.canon E19) (rowR 1)) (View.ld (View.canon L17) (rowR 1)) (View.ld x5 (Rect.unit (s := S1x2x128) (k0_off24 i) S1x1x128.size (k0_off24_inb i))) (View.ld x9 (Rect.unit (s := S1x2x128) (k0_off24 i) S1x1x128.size (k0_off24_inb i)))⟩ : View.Piece (Elt Ideal) S1x64x512 .f32), (⟨colO 0, outV (View.ld (View.canon L18) (rowR 0)) (View.ld (View.canon E19) (rowR 0)) (View.ld (View.canon L17) (rowR 0)) (View.ld x5 (Rect.unit (s := S1x2x128) (k0_off24 i) S1x1x128.size (k0_off24_inb i))) (View.ld x9 (Rect.unit (s := S1x2x128) (k0_off24 i) S1x1x128.size (k0_off24_inb i)))⟩ : View.Piece (Elt Ideal) S1x64x512 .f32)] (ix3 z h ⟨128 * r.val + l.val, by omega⟩)
      = attn (fun k => cached i (tbM0_0.view.read (Elt Ideal) xt0) x0 x1 x2 x3 x10 (tile (k.val / 640)) r (ix2 h ⟨k.val % 640, Nat.mod_lt _ (by decide)⟩))
      (fun k => fresh i (tbM0_0.view.read (Elt Ideal) xt0) x0 x1 x6 x7 x10 r (ix2 h k)) (fun k => x4 (ix3 0 k l)) (fun k => x8 (ix3 0 k l))
      (View.ld x5 (Rect.unit (s := S1x2x128) (k0_off24 i) S1x1x128.size (k0_off24_inb i)) (ix3 0 0 l)) (View.ld x9 (Rect.unit (s := S1x2x128) (k0_off24 i) S1x1x128.size (k0_off24_inb i)) (ix3 0 0 l)) := by
  refine (out_canon (fun r => outV (View.ld (View.canon L18) (rowR r)) (View.ld (View.canon E19) (rowR r)) (View.ld (View.canon L17) (rowR r)) (View.ld x5 (Rect.unit (s := S1x2x128) (k0_off24 i) S1x1x128.size (k0_off24_inb i))) (View.ld x9 (Rect.unit (s := S1x2x128) (k0_off24 i) S1x1x128.size (k0_off24_inb i)))) z h r l).trans ?_
  show outV (View.ld (View.canon L18) (rowR r)) (View.ld (View.canon E19) (rowR r)) (View.ld (View.canon L17) (rowR r)) _ _ _ = _
  have hC : View.ld (View.canon (pb_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 1).val) (grp i) (bat i) laneBlk rowId laneId (dotScale (grp i) (qHead x0 3) x6 x1 (View.ld x7 (Rect.unit (s := S1x2x640) (k0_off1 i) S1x1x640.size (k0_off1_inb i))) 3) (slashV (distV (BitVec.ofNat 32 (i 1).val) 150#32) (words i (tbM0_0.view.read (Elt Ideal) xt0) 3)) xt0 (harg3.unread x0) (harg4.unread x1) (harg5.unread x2) (harg6.unread x3) (harg13.unread x10) (arg15.view.writes (Elt Ideal) arg15.view.junk E15) k0_t1_loop.trips ++ E15)) (rowR r) = maxRec (fun n => (cached i (tbM0_0.view.read (Elt Ideal) xt0) x0 x1 x2 x3 x10 (tile n) r)) (max5 (fresh i (tbM0_0.view.read (Elt Ideal) xt0) x0 x1 x6 x7 x10 r)) 15 := by
    rw [canon_app arg15.view]
    refine (fold1 Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ _ _ _ _ _ _ _ _ r _ le_rfl).trans ?_
    refine (congrArg (maxRec _ _) trips1).trans ?_
    have e : View.ld (arg15.view.read (Elt Ideal) (arg15.view.writes (Elt Ideal) arg15.view.junk E15)) (rowR r) = max5 (fresh i (tbM0_0.view.read (Elt Ideal) xt0) x0 x1 x6 x7 x10 r) := by
      rw [hE15]
      refine (ld_blocks arg15.view _ (fun r => shapeCast S64x128 (max5 (fresh i (tbM0_0.view.read (Elt Ideal) xt0) x0 x1 x6 x7 x10 r)) shapeCasts_S64x128_S64x128) r).trans ?_
      exact shapeCast_self _ _
    rw [e]
    simp only [Memref.IsWhole.read_unread]
  have hM : View.ld (View.canon M16) (rowM r) = mcol (maxRec (fun n => (cached i (tbM0_0.view.read (Elt Ideal) xt0) x0 x1 x2 x3 x10 (tile n) r)) (max5 (fresh i (tbM0_0.view.read (Elt Ideal) xt0) x0 x1 x6 x7 x10 r)) 15) := by
    rw [← hC, hM16]
    rw [View.canon_cons_unit_lit _ _ _ (by decide)]
    exact ld_pay100 _ r
  have hM' : View.ld (arg16.view.read (Elt Ideal) (arg16.view.writes (Elt Ideal) arg16.view.junk M16)) (rowM r) = mcol (maxRec (fun n => (cached i (tbM0_0.view.read (Elt Ideal) xt0) x0 x1 x2 x3 x10 (tile n) r)) (max5 (fresh i (tbM0_0.view.read (Elt Ideal) xt0) x0 x1 x6 x7 x10 r)) 15) := by
    rw [View.read_writes_junk_eq_canon]
    exact hM
  have h19 : View.ld (View.canon E19) (rowR r) = pvV (expV (fresh i (tbM0_0.view.read (Elt Ideal) xt0) x0 x1 x6 x7 x10 r) (View.ld (View.canon M16) (rowM r))) x8 := by
    rw [hE19, ← View.read_writes_junk_eq_canon arg19.view]
    refine (ld_blocks arg19.view _ (fun r => shapeCast S64x128 (pvV (expV (fresh i (tbM0_0.view.read (Elt Ideal) xt0) x0 x1 x6 x7 x10 r) (View.ld (View.canon M16) (rowM r))) x8) shapeCasts_S64x128_S64x128) r).trans ?_
    exact shapeCast_self _ _
  have e17 : View.ld (arg17.view.read (Elt Ideal) (arg17.view.writes (Elt Ideal) arg17.view.junk E17)) (rowR r) = sum5 (expV (fresh i (tbM0_0.view.read (Elt Ideal) xt0) x0 x1 x6 x7 x10 r) (View.ld (View.canon M16) (rowM r))) := by
    rw [hE17]
    refine (ld_blocks arg17.view _ (fun r => shapeCast S64x128 (sum5 (expV (fresh i (tbM0_0.view.read (Elt Ideal) xt0) x0 x1 x6 x7 x10 r) (View.ld (View.canon M16) (rowM r)))) shapeCasts_S64x128_S64x128) r).trans ?_
    exact shapeCast_self _ _
  have e18 : View.ld (arg18.view.read (Elt Ideal) (arg18.view.writes (Elt Ideal) arg18.view.junk (ent18 (F := Ideal)))) (rowR r) = (broadcast S64x128 (Scalar.ofBits .f32 0x00000000#32) : FVec Ideal S64x128 .f32) := by
    refine (ld_blocks (F := Ideal) arg18.view _ (fun r => shapeCast S64x128 (broadcast S64x128 (Scalar.ofBits .f32 0x00000000#32) : FVec Ideal S64x128 .f32) shapeCasts_S64x128_S64x128) r).trans ?_
    exact shapeCast_self _ _
  have f := fold2 Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (bat i) (pvV (expV (fresh i (tbM0_0.view.read (Elt Ideal) xt0) x0 x1 x6 x7 x10 3) (View.ld (View.canon M16) (rowM 3))) x8) xt0 (harg3.unread x0) (harg4.unread x1) (harg5.unread x2) (harg6.unread x3) (harg7.unread x4) (harg13.unread x10) (arg16.view.writes (Elt Ideal) arg16.view.junk M16) (arg17.view.writes (Elt Ideal) arg17.view.junk E17) (arg18.view.writes (Elt Ideal) arg18.view.junk ent18) r k0_t2_loop.trips le_rfl
  have h17 : View.ld (View.canon L17) (rowR r) = addRec (fun n => sum5 (expV (cached i (tbM0_0.view.read (Elt Ideal) xt0) x0 x1 x2 x3 x10 (tile n) r) (View.ld (View.canon M16) (rowM r)))) (sum5 (expV (fresh i (tbM0_0.view.read (Elt Ideal) xt0) x0 x1 x6 x7 x10 r) (View.ld (View.canon M16) (rowM r)))) 15 := by
    rw [hL17, canon_app arg17.view]
    refine f.1.trans ((congrArg (addRec _ _) trips2).trans ?_)
    rw [e17, View.read_writes_junk_eq_canon]
    simp only [Memref.IsWhole.read_unread]
  have h18 : View.ld (View.canon L18) (rowR r) = addRec (fun n => pvV (expV (cached i (tbM0_0.view.read (Elt Ideal) xt0) x0 x1 x2 x3 x10 (tile n) r) (View.ld (View.canon M16) (rowM r))) (View.ld x4 (Rect.unit (s := S1x9600x128) (k0_off8 (tile n)) S1x640x128.size (k0_off8_inb (tile n))))) (broadcast S64x128 (Scalar.ofBits .f32 0x00000000#32) : FVec Ideal S64x128 .f32) 15 := by
    rw [hL18, canon_app arg18.view]
    refine f.2.trans ((congrArg (addRec _ _) trips2).trans ?_)
    rw [e18, View.read_writes_junk_eq_canon]
    simp only [Memref.IsWhole.read_unread]
  rw [h17, h18, h19]
  refine att_eq (fun n => (cached i (tbM0_0.view.read (Elt Ideal) xt0) x0 x1 x2 x3 x10 (tile n) r)) (fresh i (tbM0_0.view.read (Elt Ideal) xt0) x0 x1 x6 x7 x10 r) (fun n => View.ld x4 (Rect.unit (s := S1x9600x128) (k0_off8 (tile n)) S1x640x128.size (k0_off8_inb (tile n)))) x4 x8 ?_ _ _ z h l _ hM _ ?_
  · intro n k l hn
    show x4 ((Rect.unit (s := S1x9600x128) (k0_off8 (tile n)) S1x640x128.size (k0_off8_inb (tile n))).idx (ix3 0 k l)) = _
    congr 1
    have e8 := k0_off8_eq (tile n)
    have hn' : (tile n).val = n := Nat.mod_eq_of_lt hn
    funext a
    refine Fin.ext ?_
    fin_cases a
    · show k0_off8 (tile n) 0 + 1 * 0 = 0
      rw [e8]; rfl
    · show k0_off8 (tile n) 1 + 1 * k.val = n * 640 + k.val
      rw [e8]
      show 640 * (tile n).val + 1 * k.val = n * 640 + k.val
      rw [hn']; omega
    · show k0_off8 (tile n) 2 + 1 * l.val = l.val
      rw [e8]
      show 0 + 1 * l.val = l.val
      omega
  · intro x
    exact Ideal.ofBits_zero_f32

set_option maxHeartbeats 4000000 in
theorem block (c : Dev nD) (i : grid0.Coords) (arg3 : Memref sig .tc .vmem S1x4x64x128 .fp8e4m3) (harg3 : arg3.IsWhole) (arg4 : Memref sig .tc .vmem S1x64x8 .f32) (harg4 : arg4.IsWhole) (arg5 : Memref sig .tc .vmem S1x9600x128 .fp8e4m3) (harg5 : arg5.IsWhole) (arg6 : Memref sig .tc .vmem S1x2x9600 .f32) (harg6 : arg6.IsWhole) (arg7 : Memref sig .tc .vmem S1x9600x128 .fp8e4m3) (harg7 : arg7.IsWhole) (arg8 : Memref sig .tc .vmem S1x2x128 .f32) (harg8 : arg8.IsWhole) (arg9 : Memref sig .tc .vmem S1x640x128 .fp8e4m3) (harg9 : arg9.IsWhole) (arg10 : Memref sig .tc .vmem S1x2x640 .f32) (harg10 : arg10.IsWhole) (arg11 : Memref sig .tc .vmem S1x640x128 .fp8e4m3) (harg11 : arg11.IsWhole) (arg12 : Memref sig .tc .vmem S1x2x128 .f32) (harg12 : arg12.IsWhole) (arg13 : Memref sig .tc .vmem S1x8x10240 .i32) (harg13 : arg13.IsWhole) (arg14 : Memref sig .tc .vmem S1x64x512 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .f32) (harg17 : arg17.IsWhole) (arg18 : Memref sig .tc .vmem S256x128 .f32) (harg18 : arg18.IsWhole) (arg19 : Memref sig .tc .vmem S256x128 .f32) (harg19 : arg19.IsWhole)  (x0 : Vec Ideal S1x4x64x128 .fp8e4m3) (x1 : Vec Ideal S1x64x8 .f32) (x2 : Vec Ideal S1x9600x128 .fp8e4m3) (x3 : Vec Ideal S1x2x9600 .f32) (x4 : Vec Ideal S1x9600x128 .fp8e4m3) (x5 : Vec Ideal S1x2x128 .f32) (x6 : Vec Ideal S1x640x128 .fp8e4m3) (x7 : Vec Ideal S1x2x640 .f32) (x8 : Vec Ideal S1x640x128 .fp8e4m3) (x9 : Vec Ideal S1x2x128 .f32) (x10 : Vec Ideal S1x8x10240 .i32) (xt0 : TbBuf0 (F := Ideal) c tbM0_0)
(z : Fin 1) (h : Fin 64) (r : Fin 4) (l : Fin 128) :
    out0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 xt0 (ix3 z h ⟨128 * r.val + l.val, by omega⟩)
      = attn (fun k => cached i (tbM0_0.view.read (Elt Ideal) xt0) x0 x1 x2 x3 x10 (tile (k.val / 640)) r (ix2 h ⟨k.val % 640, Nat.mod_lt _ (by decide)⟩))
      (fun k => fresh i (tbM0_0.view.read (Elt Ideal) xt0) x0 x1 x6 x7 x10 r (ix2 h k)) (fun k => x4 (ix3 0 k l)) (fun k => x8 (ix3 0 k l))
      (View.ld x5 (Rect.unit (s := S1x2x128) (k0_off24 i) S1x1x128.size (k0_off24_inb i)) (ix3 0 0 l)) (View.ld x9 (Rect.unit (s := S1x2x128) (k0_off24 i) S1x1x128.size (k0_off24_inb i)) (ix3 0 0 l)) :=
  out_eq c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 xt0 _ _ _ _ _ _ _ _ rfl rfl rfl rfl rfl rfl
    (block_of c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 xt0 z h r l _ _ _ _ _ _ rfl rfl rfl rfl rfl rfl)
end Cert.KernelIdeal.RefValue
-- ==== Proof.Attend.Ideal.Point.lean ====
module
public import proofs.«01_k».proof.Proof.Attend.Ideal.Blocks
public import proofs.«01_k».proof.Proof.Attend.Ideal.Spec
public import proofs.«01_k».proof.Proof.Attend.Ideal.Block
@[expose] public section
set_option maxRecDepth 16384
noncomputable section
open Idealize.ShloMosaic Idealize.ShloMosaic.TcCoe Idealize.SL.Sem
open Idealize.ShloMosaic.Pipeline (Dat)
open Cert.Attend
namespace Cert.KernelIdeal.RefValue
open Cert.KernelIdeal Cert.KernelIdeal.Gen
variable (m : (ℓ : Loc nD τ sig) → Buf (Elt Ideal) ℓ)

/-- The attention output of the launched arguments. -/
def whole (c : Dev nD) : Vec Ideal S3x640x1024 .f32 := fun idx =>
  spec (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (m (c, Proc.tc.devRef main_arg10)) (m (c, Proc.tc.devRef main_arg11))
    (idx 0) ⟨(idx 2).val / 128, Nat.div_lt_of_lt_mul (idx 2).isLt⟩ (idx 1) ⟨(idx 2).val % 128, Nat.mod_lt _ (by decide)⟩

theorem words_tbl (c : Dev nD) : (tbM0_0.view.read (Elt Ideal) (tbl m 0) : IVec S24x5 32) = packed (m (c, Proc.tc.devRef main_arg0)) := by
  obtain rfl : c = 0 := Subsingleton.elim _ _
  exact v6_eq m 0

theorem block_at (hO : Ok m) (c : Dev nD) (t : Fin (cfgM m hO).N) (z : Fin 1) (h : Fin 64) (r : Fin 4) (l : Fin 128)
    (b : Fin 3) (s : Fin 640) (hb : b.val = ((grid0.coords t) 0).val / 2) (hs : s.val = 64 * ((grid0.coords t) 1).val + h.val) :
    (outsAt0 m hO c t : Vec Ideal S1x64x512 .f32) (ix3 z h ⟨128 * r.val + l.val, by omega⟩)
      = spec (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (m (c, Proc.tc.devRef main_arg10)) (m (c, Proc.tc.devRef main_arg11))
    b (hdOf (grid0.coords t) r) s l := by
  have hi := i0_lt (grid0.coords t)
  have hg : (gOf (hdOf (grid0.coords t) r)) = gpOf (grid0.coords t) := Fin.ext (by
    show (((grid0.coords t) 0).val % 2 * 4 + r.val) / 4 = ((grid0.coords t) 0).val % 2
    omega)
  have hn : (nOf b (hdOf (grid0.coords t) r)).val = ((grid0.coords t) 0).val := by
    show b.val * 2 + (((grid0.coords t) 0).val % 2 * 4 + r.val) / 4 = _
    omega
  have hd0 : (hdOf (grid0.coords t) r).val = ((grid0.coords t) 0).val % 2 * 4 + r.val := rfl
  have hb0 : b.val = ((grid0.coords t) 0).val / 2 * 1 + (0 : Fin 1).val := by
    show b.val = ((grid0.coords t) 0).val / 2 * 1 + 0
    omega
  refine (block c (grid0.coords t) _ (hs0_0 m hO t) _ (hs0_1 m hO t) _ (hs0_2 m hO t) _ (hs0_3 m hO t) _ (hs0_4 m hO t) _ (hs0_5 m hO t) _ (hs0_6 m hO t) _ (hs0_7 m hO t) _ (hs0_8 m hO t) _ (hs0_9 m hO t) _ (hs0_10 m hO t) _ (hs0_11 m hO t) scM0_0 (Memref.isWhole_whole _) scM0_1 (Memref.isWhole_whole _) scM0_2 (Memref.isWhole_whole _) scM0_3 (Memref.isWhole_whole _) scM0_4 (Memref.isWhole_whole _)
    (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (tbl m 0) z h r l).trans ?_
  rw [words_tbl m c]
  refine attn_spec (grid0.coords t) _ _ _ _ _ _ _ _ _ _ _ _ _ _ _ _ _ _ _ _ _ _ _ b s h r l hb hs ?_ ?_ ?_ ?_ ?_ ?_ ?_ ?_ ?_ ?_ ?_
  · intro x
    exact b0 m hO c t _ _ _ _ _ _ _ _ hb0 rfl (by rw [hs]; omega) (by omega)
  · exact b1 m hO c t _ _ _ _ _ _ hb0 (by rw [hs]; omega) (by omega)
  · intro k x
    exact b2 m hO c t _ _ _ _ _ _ (by rw [hn]; omega) (by omega) (by omega)
  · intro k
    rw [hg]
    exact b3 m hO c t _ _ _ _ _ _ hb0 (by omega) (by omega)
  · intro k
    exact b4 m hO c t _ _ _ _ _ _ (by rw [hn]; omega) (by omega) (by omega)
  · rw [hg]
    exact b5 m hO c t _ _ _ _ _ _ hb0 (by omega) (by omega)
  · intro k x
    exact b6 m hO c t _ _ _ _ _ _ (by rw [hn]; omega) (by omega) (by omega)
  · intro k
    rw [hg]
    exact b7 m hO c t _ _ _ _ _ _ hb0 (by omega) (by omega)
  · intro k
    exact b8 m hO c t _ _ _ _ _ _ (by rw [hn]; omega) (by omega) (by omega)
  · rw [hg]
    exact b9 m hO c t _ _ _ _ _ _ hb0 (by omega) (by omega)
  · intro k
    exact (b10 m hO c t _ _ _ _ _ _ hb0 (by omega) (by omega)).trans (v7_at m c _ _ _)

end Cert.KernelIdeal.RefValue
-- ==== Proof.Attend.Ideal.Final.lean ====
module
public import proofs.«01_k».proof.Proof.Attend.Ideal.Point
@[expose] public section
set_option maxRecDepth 16384
noncomputable section
open Idealize.ShloMosaic Idealize.ShloMosaic.TcCoe Idealize.SL.Sem
open Idealize.ShloMosaic.Pipeline (Dat)
open Cert.Attend
namespace Cert.KernelIdeal.RefValue
open Cert.KernelIdeal Cert.KernelIdeal.Gen
variable (m : (ℓ : Loc nD τ sig) → Buf (Elt Ideal) ℓ)

/-- The block of a point holds the elements of the output it is placed at. -/
theorem block_whole (hO : Ok m) (c : Dev nD) (t : Fin (cfgM m hO).N) (y : S1x64x512.Idx) (e : S3x640x1024.Idx) (he : e = (((cfgM m hO).win 11).blk t).view.emb y) :
    (outsAt0 m hO c t : Vec Ideal S1x64x512 .f32) y = whole m c e := by
  have hi := i0_lt (grid0.coords t)
  have hi1 := i1_lt (grid0.coords t)
  have hq : (y (2 : Fin 3)).val < 512 := (y (2 : Fin 3)).isLt
  have hh : (y (1 : Fin 3)).val < 64 := (y (1 : Fin 3)).isLt
  have hz : (y (0 : Fin 3)).val < 1 := (y (0 : Fin 3)).isLt
  have hy : y = ix3 (⟨(y (0 : Fin 3)).val, hz⟩ : Fin 1) (⟨(y (1 : Fin 3)).val, hh⟩ : Fin 64) (⟨128 * ((y (2 : Fin 3)).val / 128) + (y (2 : Fin 3)).val % 128, by omega⟩ : Fin 512) := by
    funext a
    apply Fin.ext
    fin_cases a
    · rfl
    · rfl
    · show (y (2 : Fin 3)).val = 128 * ((y (2 : Fin 3)).val / 128) + (y (2 : Fin 3)).val % 128
      omega
  have z0 : (e (0 : Fin 3)).val = ((grid0.coords t) 0).val / 2 * 1 + 1 * (y (0 : Fin 3)).val := by
    refine (congrArg (fun q : S3x640x1024.Idx => (q (0 : Fin 3)).val) he).trans ((e11 m hO t y 0).trans ?_)
    rw [tr11]; rfl
  have z1 : (e (1 : Fin 3)).val = ((grid0.coords t) 1).val * 64 + 1 * (y (1 : Fin 3)).val := by
    refine (congrArg (fun q : S3x640x1024.Idx => (q (1 : Fin 3)).val) he).trans ((e11 m hO t y 1).trans ?_)
    rw [tr11]; rfl
  have z2 : (e (2 : Fin 3)).val = ((grid0.coords t) 0).val % 2 * 512 + 1 * (y (2 : Fin 3)).val := by
    refine (congrArg (fun q : S3x640x1024.Idx => (q (2 : Fin 3)).val) he).trans ((e11 m hO t y 2).trans ?_)
    rw [tr11]; rfl
  refine (congrArg (outsAt0 m hO c t : Vec Ideal S1x64x512 .f32) hy).trans ?_
  refine (block_at m hO c t _ _ ⟨(y (2 : Fin 3)).val / 128, by omega⟩ ⟨(y (2 : Fin 3)).val % 128, Nat.mod_lt _ (by decide)⟩ (e (0 : Fin 3)) (e (1 : Fin 3)) (z0.trans (by omega)) (z1.trans (by show _ = 64 * _ + (y (1 : Fin 3)).val; omega))).trans ?_
  unfold whole
  refine congrArg₂ (fun p q => spec _ _ _ _ _ _ _ _ _ _ _ _ _ p _ q) (Fin.ext ?_) (Fin.ext ?_)
  · show ((grid0.coords t) 0).val % 2 * 4 + (y (2 : Fin 3)).val / 128 = (e (2 : Fin 3)).val / 128
    rw [z2]; omega
  · show (y (2 : Fin 3)).val % 128 = (e (2 : Fin 3)).val % 128
    rw [z2]; omega

/-- The output array after the run. -/
theorem array11 (hO : Ok m) (c : Dev nD) : (dats m hO 0 c).arrAt 11 (cfgM m hO).N = whole m c := by
  refine (dats m hO 0 c).arrAt_eq_of_covers 11 (whole m c) (covers11 m hO) fun t hf y => ?_
  blk_simp
  exact (congrFun (after0_11 m hO c t) y).trans (block_whole m hO c t y _ rfl)
end Cert.KernelIdeal.RefValue
-- ==== Proof.Attend.Ref.lean ====
module
public import proofs.«01_k».proof.Proof.Gen.ReferenceIdeal.Frame
public import Idealize.ShloMosaic.Lib.StableHlo.ReadAt
public import Idealize.ShloMosaic.Lib.Pointwise
@[expose] public section
set_option maxRecDepth 16384
noncomputable section
open Idealize.ShloMosaic Idealize.ShloMosaic.TcCoe Idealize.SL.Sem
namespace Cert.ReferenceIdeal.RefValue
open Cert.ReferenceIdeal Cert.ReferenceIdeal.Gen
variable {F : FTy → Type} [FloatOps F]

def rQS (a3 : FVec F S3x640x8 .f32) : FVec F S6x4x640 .f32 :=
  shapeCast S6x4x640 (mulf (transpose S3x8x640 [0, 2, 1] a3 transposes_S3x640x8_S3x8x640_0_2_1)
    (broadcastInDim S3x8x640 ![] bcast_S_S3x8x640 (constant S_ .f32 0x3E0293EE#32))) shapeCasts_S3x8x640_S6x4x640
/-- The flags of the 159 distances past zero, then the flag of distance zero, then the later keys. -/
def rLine3 (x : IVec S3x8x159 1) (y : IVec S3x8x1 1) (z : IVec S3x8x160 1) : IVec S3x8x320 1 :=
  concatenate S3x8x320 2 [⟨S3x8x159, x⟩, ⟨S3x8x1, y⟩, ⟨S3x8x160, z⟩] concatenates_S3x8x159_S3x8x1_S3x8x160_S3x8x320_d2
def rLine (a0 : IVec S3x8x160 1) : IVec S3x8x320 1 :=
  rLine3 (Host.reverse [2] (extractStridedSlice S3x8x159 ![0, 0, 1] a0 slices_S3x8x160_S3x8x159_0_0_1))
    (broadcastInDim S3x8x1 ![] bcast_S_S3x8x1 (constantI S_ 1 1#1)) (broadcastInDim S3x8x160 ![] bcast_S_S3x8x160 (constantI S_ 1 0#1))
def rRep (a : IVec S3x8x320 1) : IVec S3x8x20480 1 :=
  shapeCast S3x8x20480 (broadcastInDim S3x8x320x64 ![0, 1, 2] bcast_S3x8x320_S3x8x320x64_0_1_2 a) shapeCasts_S3x8x320x64_S3x8x20480
def rDiag10 (a0 a1 a2 a3 a4 a5 a6 a7 a8 a9 : IVec S3x8x1x10240 1) : IVec S3x8x10x10240 1 :=
  concatenate S3x8x10x10240 2 [⟨S3x8x1x10240, a0⟩, ⟨S3x8x1x10240, a1⟩, ⟨S3x8x1x10240, a2⟩, ⟨S3x8x1x10240, a3⟩, ⟨S3x8x1x10240, a4⟩, ⟨S3x8x1x10240, a5⟩, ⟨S3x8x1x10240, a6⟩, ⟨S3x8x1x10240, a7⟩, ⟨S3x8x1x10240, a8⟩, ⟨S3x8x1x10240, a9⟩]
    concatenates_S3x8x1x10240_S3x8x1x10240_S3x8x1x10240_S3x8x1x10240_S3x8x1x10240_S3x8x1x10240_S3x8x1x10240_S3x8x1x10240_S3x8x1x10240_S3x8x1x10240_S3x8x10x10240_d2
def rDiag (a : IVec S3x8x20480 1) : IVec S3x8x10x10240 1 :=
  rDiag10
    (broadcastInDim S3x8x1x10240 ![0, 1, 3] bcast_S3x8x10240_S3x8x1x10240_0_1_3 (extractStridedSlice S3x8x10240 ![0, 0, 576] a slices_S3x8x20480_S3x8x10240_0_0_576))
    (broadcastInDim S3x8x1x10240 ![0, 1, 3] bcast_S3x8x10240_S3x8x1x10240_0_1_3 (extractStridedSlice S3x8x10240 ![0, 0, 512] a slices_S3x8x20480_S3x8x10240_0_0_512))
    (broadcastInDim S3x8x1x10240 ![0, 1, 3] bcast_S3x8x10240_S3x8x1x10240_0_1_3 (extractStridedSlice S3x8x10240 ![0, 0, 448] a slices_S3x8x20480_S3x8x10240_0_0_448))
    (broadcastInDim S3x8x1x10240 ![0, 1, 3] bcast_S3x8x10240_S3x8x1x10240_0_1_3 (extractStridedSlice S3x8x10240 ![0, 0, 384] a slices_S3x8x20480_S3x8x10240_0_0_384))
    (broadcastInDim S3x8x1x10240 ![0, 1, 3] bcast_S3x8x10240_S3x8x1x10240_0_1_3 (extractStridedSlice S3x8x10240 ![0, 0, 320] a slices_S3x8x20480_S3x8x10240_0_0_320))
    (broadcastInDim S3x8x1x10240 ![0, 1, 3] bcast_S3x8x10240_S3x8x1x10240_0_1_3 (extractStridedSlice S3x8x10240 ![0, 0, 256] a slices_S3x8x20480_S3x8x10240_0_0_256))
    (broadcastInDim S3x8x1x10240 ![0, 1, 3] bcast_S3x8x10240_S3x8x1x10240_0_1_3 (extractStridedSlice S3x8x10240 ![0, 0, 192] a slices_S3x8x20480_S3x8x10240_0_0_192))
    (broadcastInDim S3x8x1x10240 ![0, 1, 3] bcast_S3x8x10240_S3x8x1x10240_0_1_3 (extractStridedSlice S3x8x10240 ![0, 0, 128] a slices_S3x8x20480_S3x8x10240_0_0_128))
    (broadcastInDim S3x8x1x10240 ![0, 1, 3] bcast_S3x8x10240_S3x8x1x10240_0_1_3 (extractStridedSlice S3x8x10240 ![0, 0, 64] a slices_S3x8x20480_S3x8x10240_0_0_64))
    (broadcastInDim S3x8x1x10240 ![0, 1, 3] bcast_S3x8x10240_S3x8x1x10240_0_1_3 (extractStridedSlice S3x8x10240 ![0, 0, 0] a slices_S3x8x20480_S3x8x10240_0_0_0))
def rKeep (a0 : IVec S3x8x160 1) (a1 : IVec S3x8x10240 1) : IVec S3x8x10x10240 1 :=
  ori (rDiag (rRep (rLine a0))) (broadcastInDim S3x8x10x10240 ![0, 1, 2, 3] bcast_S3x8x1x10240_S3x8x10x10240_0_1_2_3
    (broadcastInDim S3x8x1x10240 ![0, 1, 3] bcast_S3x8x10240_S3x8x1x10240_0_1_3 a1))
def rSel (k : IVec S3x8x10x10240 1) (a b : FVec F S_ .f32) : FVec F S3x8x10x10240 .f32 :=
  select k (broadcastInDim S3x8x10x10240 ![] bcast_S_S3x8x10x10240 a) (broadcastInDim S3x8x10x10240 ![] bcast_S_S3x8x10x10240 b)
def rBias (s : FVec F S3x8x10x10240 .f32) : FVec F S6x4x640x10240 .f32 :=
  shapeCast S6x4x640x10240 (broadcastInDim S6x4x10x64x10240 ![0, 1, 2, 4] bcast_S6x4x10x10240_S6x4x10x64x10240_0_1_2_4
    (shapeCast S6x4x10x10240 s shapeCasts_S3x8x10x10240_S6x4x10x10240)) shapeCasts_S6x4x10x64x10240_S6x4x640x10240
def rSc (q : FVec F S6x4x640x128 .f32) (k : FVec F S6x9600x128 .f32) (qs : FVec F S6x4x640 .f32) (ks : FVec F S3x2x9600 .f32) (bias : FVec F S6x4x640x10240 .f32) :
    FVec F S6x4x640x9600 .f32 :=
  addf (mulf (mulf (Host.dotGeneral dot_S6x4x640x128_S6x9600x128_S6x4x640x9600_3_2_12_1_0_0 none q k)
    (broadcastInDim S6x4x640x9600 ![0, 1, 2, 3] bcast_S6x4x640x1_S6x4x640x9600_0_1_2_3 (broadcastInDim S6x4x640x1 ![0, 1, 2] bcast_S6x4x640_S6x4x640x1_0_1_2 qs)))
    (broadcastInDim S6x4x640x9600 ![0, 1, 2, 3] bcast_S6x1x1x9600_S6x4x640x9600_0_1_2_3 (shapeCast S6x1x1x9600 ks shapeCasts_S3x2x9600_S6x1x1x9600)))
    (extractStridedSlice S6x4x640x9600 ![0, 0, 0, 0] bias slices_S6x4x640x10240_S6x4x640x9600_0_0_0_0)
def rSn (q : FVec F S6x4x640x128 .f32) (k : FVec F S6x640x128 .f32) (qs : FVec F S6x4x640 .f32) (ks : FVec F S3x2x640 .f32) (bias : FVec F S6x4x640x10240 .f32) :
    FVec F S6x4x640x640 .f32 :=
  addf (mulf (mulf (Host.dotGeneral dot_S6x4x640x128_S6x640x128_S6x4x640x640_3_2_12_1_0_0 none q k)
    (broadcastInDim S6x4x640x640 ![0, 1, 2, 3] bcast_S6x4x640x1_S6x4x640x640_0_1_2_3 (broadcastInDim S6x4x640x1 ![0, 1, 2] bcast_S6x4x640_S6x4x640x1_0_1_2 qs)))
    (broadcastInDim S6x4x640x640 ![0, 1, 2, 3] bcast_S6x1x1x640_S6x4x640x640_0_1_2_3 (shapeCast S6x1x1x640 ks shapeCasts_S3x2x640_S6x1x1x640)))
    (extractStridedSlice S6x4x640x640 ![0, 0, 0, 9600] bias slices_S6x4x640x10240_S6x4x640x640_0_0_0_9600)
def rLater : IVec S640x640 1 :=
  cmpi .sle (broadcastInDim S640x640 ![0, 1] bcast_S1x640_S640x640_0_1 (broadcastInDim S1x640 ![1] bcast_S640_S1x640_1 (iotaInDim S640 32 0)))
    (broadcastInDim S640x640 ![0, 1] bcast_S640x1_S640x640_0_1 (broadcastInDim S640x1 ![0] bcast_S640_S640x1_0 (iotaInDim S640 32 0)))
def rCaus (k : IVec S640x640 1) (s : FVec F S6x4x640x640 .f32) (a : FVec F S_ .f32) : FVec F S6x4x640x640 .f32 :=
  select (broadcastInDim S6x4x640x640 ![2, 3] bcast_S640x640_S6x4x640x640_2_3 k) s (broadcastInDim S6x4x640x640 ![] bcast_S_S6x4x640x640 a)

section
variable (V : Valuation τ sig (Elt F))
theorem a_v1 : StableHlo.after (hostOps1 (F := F)) V (Proc.devRef .tc main_v1)
    = (shapeCast S6x4x640x128 (V (Proc.devRef .tc main_v0_0) : FVec F S3x8x640x128 .f32) shapeCasts_S3x8x640x128_S6x4x640x128 : FVec F S6x4x640x128 .f32) := by
  after_reads_simp
  rfl
theorem a_v5 : StableHlo.after (hostOps1 (F := F)) V (Proc.devRef .tc main_v5) = rQS (V (Proc.devRef .tc main_arg3)) := by
  after_reads_simp
  rfl

theorem a_line : rLine3 (StableHlo.upto hostOps1 V 13 (Proc.devRef .tc main_v7) : IVec S3x8x159 1) (StableHlo.upto hostOps1 V 13 (Proc.devRef .tc main_v9) : IVec S3x8x1 1) (StableHlo.upto hostOps1 V 13 (Proc.devRef .tc main_v10) : IVec S3x8x160 1) = rLine (V (Proc.devRef .tc main_arg0)) := by
  after_reads_simp
  rfl
theorem a_d0 : (StableHlo.upto hostOps1 V 36 (Proc.devRef .tc main_v24) : IVec S3x8x1x10240 1) = broadcastInDim S3x8x1x10240 ![0, 1, 3] bcast_S3x8x10240_S3x8x1x10240_0_1_3 (extractStridedSlice S3x8x10240 ![0, 0, 576] (rRep (rLine (V (Proc.devRef .tc main_arg0)))) slices_S3x8x20480_S3x8x10240_0_0_576) := by
  rw [← a_line]
  after_reads_simp
  rfl
theorem a_d1 : (StableHlo.upto hostOps1 V 36 (Proc.devRef .tc main_v25) : IVec S3x8x1x10240 1) = broadcastInDim S3x8x1x10240 ![0, 1, 3] bcast_S3x8x10240_S3x8x1x10240_0_1_3 (extractStridedSlice S3x8x10240 ![0, 0, 512] (rRep (rLine (V (Proc.devRef .tc main_arg0)))) slices_S3x8x20480_S3x8x10240_0_0_512) := by
  rw [← a_line]
  after_reads_simp
  rfl
theorem a_d2 : (StableHlo.upto hostOps1 V 36 (Proc.devRef .tc main_v26) : IVec S3x8x1x10240 1) = broadcastInDim S3x8x1x10240 ![0, 1, 3] bcast_S3x8x10240_S3x8x1x10240_0_1_3 (extractStridedSlice S3x8x10240 ![0, 0, 448] (rRep (rLine (V (Proc.devRef .tc main_arg0)))) slices_S3x8x20480_S3x8x10240_0_0_448) := by
  rw [← a_line]
  after_reads_simp
  rfl
theorem a_d3 : (StableHlo.upto hostOps1 V 36 (Proc.devRef .tc main_v27) : IVec S3x8x1x10240 1) = broadcastInDim S3x8x1x10240 ![0, 1, 3] bcast_S3x8x10240_S3x8x1x10240_0_1_3 (extractStridedSlice S3x8x10240 ![0, 0, 384] (rRep (rLine (V (Proc.devRef .tc main_arg0)))) slices_S3x8x20480_S3x8x10240_0_0_384) := by
  rw [← a_line]
  after_reads_simp
  rfl
theorem a_d4 : (StableHlo.upto hostOps1 V 36 (Proc.devRef .tc main_v28) : IVec S3x8x1x10240 1) = broadcastInDim S3x8x1x10240 ![0, 1, 3] bcast_S3x8x10240_S3x8x1x10240_0_1_3 (extractStridedSlice S3x8x10240 ![0, 0, 320] (rRep (rLine (V (Proc.devRef .tc main_arg0)))) slices_S3x8x20480_S3x8x10240_0_0_320) := by
  rw [← a_line]
  after_reads_simp
  rfl
theorem a_d5 : (StableHlo.upto hostOps1 V 36 (Proc.devRef .tc main_v29) : IVec S3x8x1x10240 1) = broadcastInDim S3x8x1x10240 ![0, 1, 3] bcast_S3x8x10240_S3x8x1x10240_0_1_3 (extractStridedSlice S3x8x10240 ![0, 0, 256] (rRep (rLine (V (Proc.devRef .tc main_arg0)))) slices_S3x8x20480_S3x8x10240_0_0_256) := by
  rw [← a_line]
  after_reads_simp
  rfl
theorem a_d6 : (StableHlo.upto hostOps1 V 36 (Proc.devRef .tc main_v30) : IVec S3x8x1x10240 1) = broadcastInDim S3x8x1x10240 ![0, 1, 3] bcast_S3x8x10240_S3x8x1x10240_0_1_3 (extractStridedSlice S3x8x10240 ![0, 0, 192] (rRep (rLine (V (Proc.devRef .tc main_arg0)))) slices_S3x8x20480_S3x8x10240_0_0_192) := by
  rw [← a_line]
  after_reads_simp
  rfl
theorem a_d7 : (StableHlo.upto hostOps1 V 36 (Proc.devRef .tc main_v31) : IVec S3x8x1x10240 1) = broadcastInDim S3x8x1x10240 ![0, 1, 3] bcast_S3x8x10240_S3x8x1x10240_0_1_3 (extractStridedSlice S3x8x10240 ![0, 0, 128] (rRep (rLine (V (Proc.devRef .tc main_arg0)))) slices_S3x8x20480_S3x8x10240_0_0_128) := by
  rw [← a_line]
  after_reads_simp
  rfl
theorem a_d8 : (StableHlo.upto hostOps1 V 36 (Proc.devRef .tc main_v32) : IVec S3x8x1x10240 1) = broadcastInDim S3x8x1x10240 ![0, 1, 3] bcast_S3x8x10240_S3x8x1x10240_0_1_3 (extractStridedSlice S3x8x10240 ![0, 0, 64] (rRep (rLine (V (Proc.devRef .tc main_arg0)))) slices_S3x8x20480_S3x8x10240_0_0_64) := by
  rw [← a_line]
  after_reads_simp
  rfl
theorem a_d9 : (StableHlo.upto hostOps1 V 36 (Proc.devRef .tc main_v33) : IVec S3x8x1x10240 1) = broadcastInDim S3x8x1x10240 ![0, 1, 3] bcast_S3x8x10240_S3x8x1x10240_0_1_3 (extractStridedSlice S3x8x10240 ![0, 0, 0] (rRep (rLine (V (Proc.devRef .tc main_arg0)))) slices_S3x8x20480_S3x8x10240_0_0_0) := by
  rw [← a_line]
  after_reads_simp
  rfl
theorem a_v37 : StableHlo.after (hostOps1 (F := F)) V (Proc.devRef .tc main_v37) = rKeep (V (Proc.devRef .tc main_arg0)) (V (Proc.devRef .tc main_arg1)) := by
  after_reads_simp
  change ori (rDiag10 (StableHlo.upto hostOps1 V 36 (Proc.devRef .tc main_v24) : IVec S3x8x1x10240 1) (StableHlo.upto hostOps1 V 36 (Proc.devRef .tc main_v25) : IVec S3x8x1x10240 1) (StableHlo.upto hostOps1 V 36 (Proc.devRef .tc main_v26) : IVec S3x8x1x10240 1) (StableHlo.upto hostOps1 V 36 (Proc.devRef .tc main_v27) : IVec S3x8x1x10240 1) (StableHlo.upto hostOps1 V 36 (Proc.devRef .tc main_v28) : IVec S3x8x1x10240 1) (StableHlo.upto hostOps1 V 36 (Proc.devRef .tc main_v29) : IVec S3x8x1x10240 1) (StableHlo.upto hostOps1 V 36 (Proc.devRef .tc main_v30) : IVec S3x8x1x10240 1) (StableHlo.upto hostOps1 V 36 (Proc.devRef .tc main_v31) : IVec S3x8x1x10240 1) (StableHlo.upto hostOps1 V 36 (Proc.devRef .tc main_v32) : IVec S3x8x1x10240 1) (StableHlo.upto hostOps1 V 36 (Proc.devRef .tc main_v33) : IVec S3x8x1x10240 1)) _ = _
  rw [a_d0, a_d1, a_d2, a_d3, a_d4, a_d5, a_d6, a_d7, a_d8, a_d9]
  rfl
theorem a_c1 : StableHlo.after (hostOps1 (F := F)) V (Proc.devRef .tc main_cst_1) = (constant S_ .f32 0x00000000#32 : FVec F S_ .f32) := by
  after_reads_simp
theorem a_c2 : StableHlo.after (hostOps1 (F := F)) V (Proc.devRef .tc main_cst_2) = (constant S_ .f32 0xFF800000#32 : FVec F S_ .f32) := by
  after_reads_simp
theorem b_v38 : StableHlo.after (hostOps1_1 (F := F)) V (Proc.devRef .tc main_v38) = rSel (V (Proc.devRef .tc main_v37)) (V (Proc.devRef .tc main_cst_1)) (V (Proc.devRef .tc main_cst_2)) := by
  after_reads_simp
  rfl
theorem c_v58 : StableHlo.after (hostOps1_2 (F := F)) V (Proc.devRef .tc main_v58)
    = rSc (V (Proc.devRef .tc main_v1)) (V (Proc.devRef .tc main_v0_1)) (V (Proc.devRef .tc main_v5)) (V (Proc.devRef .tc main_arg5)) (rBias (V (Proc.devRef .tc main_v38))) := by
  after_reads_simp
  rfl
theorem c_v67 : StableHlo.after (hostOps1_2 (F := F)) V (Proc.devRef .tc main_v67)
    = rSn (V (Proc.devRef .tc main_v1)) (V (Proc.devRef .tc main_v0_3)) (V (Proc.devRef .tc main_v5)) (V (Proc.devRef .tc main_arg9)) (rBias (V (Proc.devRef .tc main_v38))) := by
  after_reads_simp
  rfl
theorem c_v49 : StableHlo.after (hostOps1_2 (F := F)) V (Proc.devRef .tc main_v49) = rLater := by
  after_reads_simp
  rfl
theorem c_c3 : StableHlo.after (hostOps1_2 (F := F)) V (Proc.devRef .tc main_cst_3) = (constant S_ .f32 0xFF800000#32 : FVec F S_ .f32) := by
  after_reads_simp
theorem d_v68 : StableHlo.after (hostOps1_3 (F := F)) V (Proc.devRef .tc main_v68) = rCaus (V (Proc.devRef .tc main_v49)) (V (Proc.devRef .tc main_v67)) (V (Proc.devRef .tc main_cst_3)) := by
  after_reads_simp
  rfl
end

/-- The whole reference, as one function of the widened codes and of the arguments. -/
theorem tail (V : Valuation τ sig (Elt F)) :
    StableHlo.after (hostOps1_3 (F := F)) (StableHlo.after (hostOps1_2 (F := F)) (StableHlo.after (hostOps1_1 (F := F)) (StableHlo.after (hostOps1 (F := F)) V))) (Proc.devRef .tc main_v58)
      = rSc (shapeCast S6x4x640x128 (V (Proc.devRef .tc main_v0_0) : FVec F S3x8x640x128 .f32) shapeCasts_S3x8x640x128_S6x4x640x128)
        (V (Proc.devRef .tc main_v0_1)) (rQS (V (Proc.devRef .tc main_arg3))) (V (Proc.devRef .tc main_arg5))
        (rBias (rSel (rKeep (V (Proc.devRef .tc main_arg0)) (V (Proc.devRef .tc main_arg1))) (constant S_ .f32 0x00000000#32) (constant S_ .f32 0xFF800000#32)))
    ∧ StableHlo.after (hostOps1_3 (F := F)) (StableHlo.after (hostOps1_2 (F := F)) (StableHlo.after (hostOps1_1 (F := F)) (StableHlo.after (hostOps1 (F := F)) V))) (Proc.devRef .tc main_v68)
      = rCaus rLater (rSn (shapeCast S6x4x640x128 (V (Proc.devRef .tc main_v0_0) : FVec F S3x8x640x128 .f32) shapeCasts_S3x8x640x128_S6x4x640x128)
        (V (Proc.devRef .tc main_v0_3)) (rQS (V (Proc.devRef .tc main_arg3))) (V (Proc.devRef .tc main_arg9))
        (rBias (rSel (rKeep (V (Proc.devRef .tc main_arg0)) (V (Proc.devRef .tc main_arg1))) (constant S_ .f32 0x00000000#32) (constant S_ .f32 0xFF800000#32))))
          (constant S_ .f32 0xFF800000#32) := by
  have k (W : Valuation τ sig (Elt F)) : StableHlo.after (hostOps1_3 (F := F)) W (Proc.devRef .tc main_v58) = W (Proc.devRef .tc main_v58) := by after_reads_simp
  have k1 (W : Valuation τ sig (Elt F)) : StableHlo.after (hostOps1_1 (F := F)) W (Proc.devRef .tc main_v1) = W (Proc.devRef .tc main_v1) := by after_reads_simp
  have k2 (W : Valuation τ sig (Elt F)) : StableHlo.after (hostOps1_1 (F := F)) W (Proc.devRef .tc main_v0_1) = W (Proc.devRef .tc main_v0_1) := by after_reads_simp
  have k3 (W : Valuation τ sig (Elt F)) : StableHlo.after (hostOps1_1 (F := F)) W (Proc.devRef .tc main_v0_3) = W (Proc.devRef .tc main_v0_3) := by after_reads_simp
  have k4 (W : Valuation τ sig (Elt F)) : StableHlo.after (hostOps1_1 (F := F)) W (Proc.devRef .tc main_v5) = W (Proc.devRef .tc main_v5) := by after_reads_simp
  have k5 (W : Valuation τ sig (Elt F)) : StableHlo.after (hostOps1_1 (F := F)) W (Proc.devRef .tc main_arg5) = W (Proc.devRef .tc main_arg5) := by after_reads_simp
  have k6 (W : Valuation τ sig (Elt F)) : StableHlo.after (hostOps1_1 (F := F)) W (Proc.devRef .tc main_arg9) = W (Proc.devRef .tc main_arg9) := by after_reads_simp
  have j2 : StableHlo.after (hostOps1 (F := F)) V (Proc.devRef .tc main_v0_1) = V (Proc.devRef .tc main_v0_1) := by after_reads_simp
  have j3 : StableHlo.after (hostOps1 (F := F)) V (Proc.devRef .tc main_v0_3) = V (Proc.devRef .tc main_v0_3) := by after_reads_simp
  have j5 : StableHlo.after (hostOps1 (F := F)) V (Proc.devRef .tc main_arg5) = V (Proc.devRef .tc main_arg5) := by after_reads_simp
  have j6 : StableHlo.after (hostOps1 (F := F)) V (Proc.devRef .tc main_arg9) = V (Proc.devRef .tc main_arg9) := by after_reads_simp
  rw [k, d_v68, c_v58, c_v67, c_v49, c_c3, k1, k2, k3, k4, k5, k6, b_v38, a_v37, a_c1, a_c2, a_v1, a_v5, j2, j3, j5, j6]
  exact ⟨rfl, rfl⟩
def rMax (sc : FVec F S6x4x640x9600 .f32) (sn : FVec F S6x4x640x640 .f32) : FVec F S6x4x640x1 .f32 :=
  broadcastInDim S6x4x640x1 ![0, 1, 2] bcast_S6x4x640_S6x4x640x1_0_1_2 (Host.ceil (maximumf
    (Host.reduce FloatOps.maximumf sc (constant S_ .f32 0xFF800000#32) reducesTo_S6x4x640x9600_S6x4x640_d3 h_S_)
    (Host.reduce FloatOps.maximumf sn (constant S_ .f32 0xFF800000#32) reducesTo_S6x4x640x640_S6x4x640_d3 h_S_)))
def rPc (sc : FVec F S6x4x640x9600 .f32) (m : FVec F S6x4x640x1 .f32) : FVec F S6x4x640x9600 .f32 :=
  Host.powf (broadcastInDim S6x4x640x9600 ![] bcast_S_S6x4x640x9600 (constant S_ .f32 0x40000000#32))
    (subf sc (broadcastInDim S6x4x640x9600 ![0, 1, 2, 3] bcast_S6x4x640x1_S6x4x640x9600_0_1_2_3 m))
def rPn (sn : FVec F S6x4x640x640 .f32) (m : FVec F S6x4x640x1 .f32) : FVec F S6x4x640x640 .f32 :=
  Host.powf (broadcastInDim S6x4x640x640 ![] bcast_S_S6x4x640x640 (constant S_ .f32 0x40000000#32))
    (subf sn (broadcastInDim S6x4x640x640 ![0, 1, 2, 3] bcast_S6x4x640x1_S6x4x640x640_0_1_2_3 m))
def rDen (pc : FVec F S6x4x640x9600 .f32) (pn : FVec F S6x4x640x640 .f32) : FVec F S6x4x640 .f32 :=
  addf (Host.reduceAdd pc (constant S_ .f32 0x00000000#32) reducesTo_S6x4x640x9600_S6x4x640_d3 h_S_)
    (Host.reduceAdd pn (constant S_ .f32 0x00000000#32) reducesTo_S6x4x640x640_S6x4x640_d3 h_S_)
def rNum (pc : FVec F S6x4x640x9600 .f32) (pn : FVec F S6x4x640x640 .f32) (vc : FVec F S6x9600x128 .bf16) (vn : FVec F S6x640x128 .bf16)
    (cs ns : FVec F S3x2x128 .f32) : FVec F S6x4x640x128 .f32 :=
  addf (mulf (Host.dotGeneral dot_S6x4x640x9600_S6x9600x128_S6x4x640x128_3_1_12_2_0_0 none (truncf .bf16 pc bitsLt_bf16_f32) vc)
      (broadcastInDim S6x4x640x128 ![0, 1, 2, 3] bcast_S6x1x1x128_S6x4x640x128_0_1_2_3 (shapeCast S6x1x1x128 cs shapeCasts_S3x2x128_S6x1x1x128)))
    (mulf (Host.dotGeneral dot_S6x4x640x640_S6x640x128_S6x4x640x128_3_1_12_2_0_0 none (truncf .bf16 pn bitsLt_bf16_f32) vn)
      (broadcastInDim S6x4x640x128 ![0, 1, 2, 3] bcast_S6x1x1x128_S6x4x640x128_0_1_2_3 (shapeCast S6x1x1x128 ns shapeCasts_S3x2x128_S6x1x1x128)))
def rOut (num : FVec F S6x4x640x128 .f32) (den : FVec F S6x4x640 .f32) : FVec F S3x640x1024 .f32 :=
  shapeCast S3x640x1024 (transpose S3x640x8x128 [0, 2, 1, 3] (shapeCast S3x8x640x128 (Host.divf num
    (broadcastInDim S6x4x640x128 ![0, 1, 2, 3] bcast_S6x4x640x1_S6x4x640x128_0_1_2_3 (broadcastInDim S6x4x640x1 ![0, 1, 2] bcast_S6x4x640_S6x4x640x1_0_1_2 den)))
    shapeCasts_S6x4x640x128_S3x8x640x128) transposes_S3x8x640x128_S3x640x8x128_0_2_1_3) shapeCasts_S3x640x8x128_S3x640x1024
def rAll (sc : FVec F S6x4x640x9600 .f32) (sn : FVec F S6x4x640x640 .f32) (vc : FVec F S6x9600x128 .bf16) (vn : FVec F S6x640x128 .bf16)
    (cs ns : FVec F S3x2x128 .f32) : FVec F S3x640x1024 .f32 :=
  rOut (rNum (rPc sc (rMax sc sn)) (rPn sn (rMax sc sn)) vc vn cs ns) (rDen (rPc sc (rMax sc sn)) (rPn sn (rMax sc sn)))

theorem r4 (V : Valuation τ sig (Elt F)) :
    StableHlo.after (hostOps1_4 (F := F)) V (Proc.devRef .tc main_v101)
      = rAll (V (Proc.devRef .tc main_v58)) (V (Proc.devRef .tc main_v68)) (V (Proc.devRef .tc main_v0_2)) (V (Proc.devRef .tc main_v0_4))
        (V (Proc.devRef .tc main_arg7)) (V (Proc.devRef .tc main_arg11)) := by
  after_reads_simp
  rfl

end Cert.ReferenceIdeal.RefValue
-- ==== Proof.Attend.RefAt.lean ====
module
public import proofs.«01_k».proof.Proof.Attend.Ref
public import proofs.«01_k».proof.Proof.Attend.Attn
public import proofs.«01_k».proof.Proof.Attend.Ideal.Reblock
public import Idealize.ShloMosaic.Lib.StableHlo.Predicate
public import Idealize.ShloMosaic.Lib.Pointwise
@[expose] public section
set_option maxRecDepth 16384
noncomputable section
open Idealize.ShloMosaic Idealize.ShloMosaic.TcCoe Idealize.SL.Sem
open Cert.Attend
namespace Cert.ReferenceIdeal.RefValue
open Cert.ReferenceIdeal Cert.ReferenceIdeal.Gen

theorem rLine_at (a0 : IVec S3x8x160 1) (b : Fin 3) (hd : Fin 8) (p : Fin 320) : rLine a0 (ix3 b hd p)
    = if p.val < 159 then flag a0 b hd (159 - p.val) else if p.val = 159 then 1#1 else 0#1 := by
  have e : rLine a0 (ix3 b hd p) = if h : p.val < 159 then a0 (ix3 b hd ⟨159 - p.val, by omega⟩) else if p.val < 160 then 1#1 else 0#1 := by
    pointwise [rLine, rLine3]
    by_cases h : p.val < 159
    · rw [dif_pos h, dif_pos h]
      congr 1
      funext a
      fin_cases a
      · rfl
      · rfl
      · refine Fin.ext ?_
        show 1 + (Fin.rev (⟨p.val, h⟩ : Fin 159)).val = 159 - p.val
        rw [Fin.val_rev]
        show 1 + (159 - (p.val + 1)) = 159 - p.val
        omega
    · rw [dif_neg h, dif_neg h]
      by_cases g : p.val < 160
      · rw [dif_pos (by omega), if_pos g]
      · rw [dif_neg (by omega), if_neg g]
  rw [e]
  by_cases h : p.val < 159
  · rw [dif_pos h, if_pos h, flag, dif_pos (by omega)]
  · rw [dif_neg h, if_neg h]
    by_cases g : p.val = 159
    · rw [if_pos g, if_pos (by omega)]
    · rw [if_neg g, if_neg (by omega)]
theorem rRep_at (a0 : IVec S3x8x320 1) (b : Fin 3) (hd : Fin 8) (p : Fin 20480) : rRep a0 (ix3 b hd p) = a0 (ix3 b hd ⟨p.val / 64, by omega⟩) := by
  pointwise [rRep]
theorem rDiag_at (a : IVec S3x8x20480 1) (b : Fin 3) (hd : Fin 8) (i : Fin 10) (k : Fin 10240) : rDiag a (ix4 b hd i k) = a (ix3 b hd ⟨(9 - i.val) * 64 + k.val, by omega⟩) := by
  fin_cases i
  all_goals pointwise [rDiag, rDiag10]
theorem rKeep_at (a0 : IVec S3x8x160 1) (a1 : IVec S3x8x10240 1) (b : Fin 3) (hd : Fin 8) (i : Fin 10) (k : Fin 10240) :
    rKeep a0 a1 (ix4 b hd i k) = keep (flag a0 b hd) (150 + i.val) (k.val / 64) (a1 (ix3 b hd k)) := by
  have e : rKeep a0 a1 (ix4 b hd i k) = IntOp.ori (rDiag (rRep (rLine a0)) (ix4 b hd i k)) (a1 (ix3 b hd k)) := by
    pointwise [rKeep]
  rw [e, rDiag_at, rRep_at, rLine_at, keep]
  congr 1
  have hv : ((9 - i.val) * 64 + k.val) / 64 = 9 - i.val + k.val / 64 := by omega
  simp only [hv]
  rcases Nat.lt_trichotomy (k.val / 64) (150 + i.val) with h | h | h
  · rw [if_pos (by omega), if_pos h]; congr 1; omega
  · rw [if_neg (by omega), if_pos (by omega), if_neg (by omega), if_pos h]
  · rw [if_neg (by omega), if_neg (by omega), if_neg (by omega), if_neg (by omega)]
theorem rBias_at (s : FVec Ideal S3x8x10x10240 .f32) (n : Fin 6) (r : Fin 4) (t : Fin 640) (p : Fin 10240) : rBias s (ix4 n r t p)
    = s (ix4 ⟨n.val / 2, by omega⟩ ⟨n.val % 2 * 4 + r.val, by omega⟩ ⟨t.val / 64, by omega⟩ p) := by
  pointwise [rBias]
theorem rSel_at (k : IVec S3x8x10x10240 1) (b : Fin 3) (hd : Fin 8) (i : Fin 10) (p : Fin 10240) :
    rSel k (constant S_ .f32 0x00000000#32 : FVec Ideal S_ .f32) (constant S_ .f32 0xFF800000#32) (ix4 b hd i p)
      = Scalar.select (k (ix4 b hd i p)) (0 : EReal) (Ideal.ofBits .f32 4286578688#32) := by
  pointwise [rSel]
theorem rQS_at (s : FVec Ideal S3x640x8 .f32) (n : Fin 6) (r : Fin 4) (t : Fin 640) : rQS s (ix3 n r t)
    = s (ix3 ⟨n.val / 2, by omega⟩ t ⟨n.val % 2 * 4 + r.val, by omega⟩) * Ideal.ofBits .f32 1040356334#32 := by
  pointwise [rQS]
theorem rQ_at (s : FVec Ideal S3x8x640x128 .f32) (n : Fin 6) (r : Fin 4) (t : Fin 640) (x : Fin 128) :
    (shapeCast S6x4x640x128 s shapeCasts_S3x8x640x128_S6x4x640x128 : FVec Ideal S6x4x640x128 .f32) (ix4 n r t x)
    = s (ix4 ⟨n.val / 2, by omega⟩ ⟨n.val % 2 * 4 + r.val, by omega⟩ t x) := by
  pointwise
theorem rSc_at (q : FVec Ideal S6x4x640x128 .f32) (k : FVec Ideal S6x9600x128 .f32) (qs : FVec Ideal S6x4x640 .f32) (ks : FVec Ideal S3x2x9600 .f32) (bias : FVec Ideal S6x4x640x10240 .f32)
   (n : Fin 6) (r : Fin 4) (t : Fin 640) (p : Fin 9600) : rSc q k qs ks bias (ix4 n r t p)
    = (∑ x, q (ix4 n r t x) * k (ix3 n p x)) * qs (ix3 n r t) * ks (ix3 ⟨n.val / 2, by omega⟩ ⟨n.val % 2, by omega⟩ p)
      + bias (ix4 n r t ⟨p.val, by omega⟩) := by
  pointwise [rSc]
theorem rSn_at (q : FVec Ideal S6x4x640x128 .f32) (k : FVec Ideal S6x640x128 .f32) (qs : FVec Ideal S6x4x640 .f32) (ks : FVec Ideal S3x2x640 .f32) (bias : FVec Ideal S6x4x640x10240 .f32)
   (n : Fin 6) (r : Fin 4) (t : Fin 640) (p : Fin 640) : rSn q k qs ks bias (ix4 n r t p)
    = (∑ x, q (ix4 n r t x) * k (ix3 n p x)) * qs (ix3 n r t) * ks (ix3 ⟨n.val / 2, by omega⟩ ⟨n.val % 2, by omega⟩ p)
      + bias (ix4 n r t ⟨9600 + p.val, by omega⟩) := by
  pointwise [rSn]
theorem rCaus_at (s : FVec Ideal S6x4x640x640 .f32) (n : Fin 6) (r : Fin 4) (t : Fin 640) (p : Fin 640) :
    rCaus rLater s (constant S_ .f32 0xFF800000#32) (ix4 n r t p) = if p.val ≤ t.val then s (ix4 n r t p) else Ideal.ofBits .f32 4286578688#32 := by
  have e : rCaus rLater s (constant S_ .f32 0xFF800000#32) (ix4 n r t p)
      = Scalar.select (IntOp.cmpi .sle (BitVec.ofNat 32 p.val) (BitVec.ofNat 32 t.val)) (s (ix4 n r t p)) (Ideal.ofBits .f32 4286578688#32) := by
    pointwise [rCaus, rLater]
  have i (x : Fin 640) : (BitVec.ofNat 32 x.val).toInt = x.val := by
    rw [BitVec.toInt_eq_toNat_of_lt (by rw [BitVec.toNat_ofNat]; omega), BitVec.toNat_ofNat, Nat.mod_eq_of_lt (by omega)]
  have c : IntOp.cmpi .sle (BitVec.ofNat 32 p.val) (BitVec.ofNat 32 t.val) = if p.val ≤ t.val then 1#1 else 0#1 := by
    show BitVec.ofBool (decide ((BitVec.ofNat 32 p.val).toInt ≤ (BitVec.ofNat 32 t.val).toInt)) = _
    rw [i, i]
    by_cases h : p.val ≤ t.val
    · rw [if_pos h, decide_eq_true (by exact_mod_cast h)]; rfl
    · rw [if_neg h, decide_eq_false (by exact_mod_cast h)]; rfl
  rw [e, c]
  by_cases h : p.val ≤ t.val
  · simp only [if_pos h]; rfl
  · simp only [if_neg h]; rfl
theorem mc_at (sn : FVec Ideal S6x4x640x9600 .f32) (n : Fin 6) (r : Fin 4) (t : Fin 640) :
   (Host.reduce FloatOps.maximumf sn (constant S_ .f32 0xFF800000#32) reducesTo_S6x4x640x9600_S6x4x640_d3 h_S_ : FVec Ideal S6x4x640 .f32) (ix3 n r t)
     = Finset.fold max (Ideal.ofBits .f32 4286578688#32) (fun x => sn (ix4 n r t x)) Finset.univ := by
  pointwise
theorem mn_at (sn : FVec Ideal S6x4x640x640 .f32) (n : Fin 6) (r : Fin 4) (t : Fin 640) :
   (Host.reduce FloatOps.maximumf sn (constant S_ .f32 0xFF800000#32) reducesTo_S6x4x640x640_S6x4x640_d3 h_S_ : FVec Ideal S6x4x640 .f32) (ix3 n r t)
     = Finset.fold max (Ideal.ofBits .f32 4286578688#32) (fun x => sn (ix4 n r t x)) Finset.univ := by
  pointwise
theorem ceil_at (a b : FVec Ideal S6x4x640 .f32) (n : Fin 6) (r : Fin 4) (t : Fin 640) (p : Fin 1) :
   (broadcastInDim S6x4x640x1 ![0, 1, 2] bcast_S6x4x640_S6x4x640x1_0_1_2 (Host.ceil (maximumf a b)) : FVec Ideal S6x4x640x1 .f32) (ix4 n r t p)
     = Ideal.liftRound Int.ceil (max (a (ix3 n r t)) (b (ix3 n r t))) := by
  pointwise
theorem rMax_at (sc : FVec Ideal S6x4x640x9600 .f32) (sn : FVec Ideal S6x4x640x640 .f32) (n : Fin 6) (r : Fin 4) (t : Fin 640) (p : Fin 1) :
    rMax sc sn (ix4 n r t p) = top (fun k => sc (ix4 n r t k)) (fun k => sn (ix4 n r t k)) := by
  unfold rMax top
  rw [ceil_at, mc_at, mn_at, Cert.KernelIdeal.RefValue.negInf]
theorem rPc_at (sc : FVec Ideal S6x4x640x9600 .f32) (m : FVec Ideal S6x4x640x1 .f32) (n : Fin 6) (r : Fin 4) (t : Fin 640) (p : Fin 9600) :
    rPc sc m (ix4 n r t p) = Ideal.exp2 (sc (ix4 n r t p) - m (ix4 n r t 0)) := by
  have e : rPc sc m (ix4 n r t p) = Ideal.pow (Ideal.ofBits FTy.f32 1073741824#32) (sc (ix4 n r t p) - m (ix4 n r t 0)) := by
    pointwise [rPc]
  rw [e, Cert.KernelIdeal.RefValue.two, Cert.KernelIdeal.RefValue.pow_two]
theorem rPn_at (sc : FVec Ideal S6x4x640x640 .f32) (m : FVec Ideal S6x4x640x1 .f32) (n : Fin 6) (r : Fin 4) (t : Fin 640) (p : Fin 640) :
    rPn sc m (ix4 n r t p) = Ideal.exp2 (sc (ix4 n r t p) - m (ix4 n r t 0)) := by
  have e : rPn sc m (ix4 n r t p) = Ideal.pow (Ideal.ofBits FTy.f32 1073741824#32) (sc (ix4 n r t p) - m (ix4 n r t 0)) := by
    pointwise [rPn]
  rw [e, Cert.KernelIdeal.RefValue.two, Cert.KernelIdeal.RefValue.pow_two]
theorem rDen_at (pc : FVec Ideal S6x4x640x9600 .f32) (pn : FVec Ideal S6x4x640x640 .f32) (n : Fin 6) (r : Fin 4) (t : Fin 640) :
    rDen pc pn (ix3 n r t) = ∑ x, pc (ix4 n r t x) + ∑ x, pn (ix4 n r t x) := by
  pointwise [rDen]
theorem rNum_at (pc : FVec Ideal S6x4x640x9600 .f32) (pn : FVec Ideal S6x4x640x640 .f32) (vc : FVec Ideal S6x9600x128 .bf16) (vn : FVec Ideal S6x640x128 .bf16)
    (cs ns : FVec Ideal S3x2x128 .f32) (n : Fin 6) (r : Fin 4) (t : Fin 640) (l : Fin 128) : rNum pc pn vc vn cs ns (ix4 n r t l)
    = (∑ x, pc (ix4 n r t x) * vc (ix3 n x l)) * cs (ix3 ⟨n.val / 2, by omega⟩ ⟨n.val % 2, by omega⟩ l)
      + (∑ x, pn (ix4 n r t x) * vn (ix3 n x l)) * ns (ix3 ⟨n.val / 2, by omega⟩ ⟨n.val % 2, by omega⟩ l) := by
  pointwise [rNum]
theorem rOut_at (num : FVec Ideal S6x4x640x128 .f32) (den : FVec Ideal S6x4x640 .f32) (b : Fin 3) (t : Fin 640) (e : Fin 1024) : rOut num den (ix3 b t e)
    = Ideal.div (num (ix4 ⟨b.val * 2 + e.val / 128 / 4, by omega⟩ ⟨e.val / 128 % 4, by omega⟩ t ⟨e.val % 128, by omega⟩))
      (den (ix3 ⟨b.val * 2 + e.val / 128 / 4, by omega⟩ ⟨e.val / 128 % 4, by omega⟩ t)) := by
  pointwise [rOut]

/-- The last list of host operations, read at one number. -/
theorem rAll_at (sc : FVec Ideal S6x4x640x9600 .f32) (sn : FVec Ideal S6x4x640x640 .f32) (vc : FVec Ideal S6x9600x128 .bf16) (vn : FVec Ideal S6x640x128 .bf16)
    (cs ns : FVec Ideal S3x2x128 .f32) (b : Fin 3) (t : Fin 640) (e : Fin 1024) (n : Fin 6) (r : Fin 4) (l : Fin 128)
    (hn : n.val = b.val * 2 + e.val / 128 / 4) (hr : r.val = e.val / 128 % 4) (hl : l.val = e.val % 128) :
    rAll sc sn vc vn cs ns (ix3 b t e) = attn (fun k => sc (ix4 n r t k)) (fun k => sn (ix4 n r t k)) (fun k => vc (ix3 n k l)) (fun k => vn (ix3 n k l))
      (cs (ix3 ⟨n.val / 2, by omega⟩ ⟨n.val % 2, by omega⟩ l)) (ns (ix3 ⟨n.val / 2, by omega⟩ ⟨n.val % 2, by omega⟩ l)) := by
  have e1 : (⟨b.val * 2 + e.val / 128 / 4, by omega⟩ : Fin 6) = n := Fin.ext hn.symm
  have e2 : (⟨e.val / 128 % 4, by omega⟩ : Fin 4) = r := Fin.ext hr.symm
  have e3 : (⟨e.val % 128, by omega⟩ : Fin 128) = l := Fin.ext hl.symm
  unfold rAll attn
  rw [rOut_at, rNum_at, rDen_at, e1, e2, e3]
  simp only [rPc_at, rPn_at, rMax_at]

/-- The scores against the cached keys. -/
theorem old_at (a0 : IVec S3x8x160 1) (a1 : IVec S3x8x10240 1) (q : FVec Ideal S3x8x640x128 .f32) (qs : FVec Ideal S3x640x8 .f32)
    (k : FVec Ideal S6x9600x128 .f32) (ks : FVec Ideal S3x2x9600 .f32) (b : Fin 3) (hd : Fin 8) (t : Fin 640) (p : Fin 9600) (n : Fin 6) (r : Fin 4)
    (hn : n.val = b.val * 2 + hd.val / 4) (hr : r.val = hd.val % 4) :
    rSc (shapeCast S6x4x640x128 q shapeCasts_S3x8x640x128_S6x4x640x128) k (rQS qs) ks
      (rBias (rSel (rKeep a0 a1) (constant S_ .f32 0x00000000#32) (constant S_ .f32 0xFF800000#32))) (ix4 n r t p)
      = scoreOld a0 a1 q qs k ks b hd t p := by
  have e1 : (⟨n.val / 2, by omega⟩ : Fin 3) = b := Fin.ext (by show n.val / 2 = b.val; omega)
  have e2 : (⟨n.val % 2 * 4 + r.val, by omega⟩ : Fin 8) = hd := Fin.ext (by show n.val % 2 * 4 + r.val = hd.val; omega)
  have e3 : (⟨n.val % 2, by omega⟩ : Fin 2) = gOf hd := Fin.ext (by show n.val % 2 = hd.val / 4; omega)
  have e4 : nOf b hd = n := Fin.ext hn.symm
  unfold scoreOld score
  rw [rSc_at, rBias_at, rSel_at, rKeep_at, rQS_at, e1, e2, e3, e4]
  simp only [rQ_at, e1, e2]

/-- The scores against the new keys. -/
theorem new_at (a0 : IVec S3x8x160 1) (a1 : IVec S3x8x10240 1) (q : FVec Ideal S3x8x640x128 .f32) (qs : FVec Ideal S3x640x8 .f32)
    (k : FVec Ideal S6x640x128 .f32) (ks : FVec Ideal S3x2x640 .f32) (b : Fin 3) (hd : Fin 8) (t : Fin 640) (p : Fin 640) (n : Fin 6) (r : Fin 4)
    (hn : n.val = b.val * 2 + hd.val / 4) (hr : r.val = hd.val % 4) :
    rCaus rLater (rSn (shapeCast S6x4x640x128 q shapeCasts_S3x8x640x128_S6x4x640x128) k (rQS qs) ks
      (rBias (rSel (rKeep a0 a1) (constant S_ .f32 0x00000000#32) (constant S_ .f32 0xFF800000#32)))) (constant S_ .f32 0xFF800000#32) (ix4 n r t p)
      = scoreNew a0 a1 q qs k ks b hd t p := by
  have e1 : (⟨n.val / 2, by omega⟩ : Fin 3) = b := Fin.ext (by show n.val / 2 = b.val; omega)
  have e2 : (⟨n.val % 2 * 4 + r.val, by omega⟩ : Fin 8) = hd := Fin.ext (by show n.val % 2 * 4 + r.val = hd.val; omega)
  have e3 : (⟨n.val % 2, by omega⟩ : Fin 2) = gOf hd := Fin.ext (by show n.val % 2 = hd.val / 4; omega)
  have e4 : nOf b hd = n := Fin.ext hn.symm
  have e5 : (9600 + p.val) / 64 = 150 + p.val / 64 := by omega
  unfold scoreNew score
  rw [rCaus_at, rSn_at, rBias_at, rSel_at, rKeep_at, rQS_at, e1, e2, e3, e4]
  simp only [rQ_at, e1, e2, e5]

/-- The whole reference, read at one number. -/
theorem all_at (a0 : IVec S3x8x160 1) (a1 : IVec S3x8x10240 1) (a2 : FVec Ideal S3x8x640x128 .f32) (a3 : FVec Ideal S3x640x8 .f32)
    (a4 : FVec Ideal S6x9600x128 .f32) (a5 : FVec Ideal S3x2x9600 .f32) (a6 : FVec Ideal S6x9600x128 .bf16) (a7 : FVec Ideal S3x2x128 .f32)
    (a8 : FVec Ideal S6x640x128 .f32) (a9 : FVec Ideal S3x2x640 .f32) (a10 : FVec Ideal S6x640x128 .bf16) (a11 : FVec Ideal S3x2x128 .f32)
    (b : Fin 3) (t : Fin 640) (e : Fin 1024) (hd : Fin 8) (l : Fin 128) (hh : hd.val = e.val / 128) (hl : l.val = e.val % 128) :
    rAll (rSc (shapeCast S6x4x640x128 a2 shapeCasts_S3x8x640x128_S6x4x640x128) a4 (rQS a3) a5
        (rBias (rSel (rKeep a0 a1) (constant S_ .f32 0x00000000#32) (constant S_ .f32 0xFF800000#32))))
      (rCaus rLater (rSn (shapeCast S6x4x640x128 a2 shapeCasts_S3x8x640x128_S6x4x640x128) a8 (rQS a3) a9
        (rBias (rSel (rKeep a0 a1) (constant S_ .f32 0x00000000#32) (constant S_ .f32 0xFF800000#32)))) (constant S_ .f32 0xFF800000#32))
      a6 a10 a7 a11 (ix3 b t e) = spec a0 a1 a2 a3 a4 a5 a6 a7 a8 a9 a10 a11 b hd t l := by
  rw [rAll_at _ _ _ _ _ _ b t e (nOf b hd) ⟨hd.val % 4, by omega⟩ l (by show b.val * 2 + hd.val / 4 = _; omega) (by show hd.val % 4 = _; omega) hl]
  unfold spec
  have e1 : (⟨(nOf b hd).val / 2, by omega⟩ : Fin 3) = b := Fin.ext (by show (b.val * 2 + hd.val / 4) / 2 = b.val; omega)
  have e3 : (⟨(nOf b hd).val % 2, by omega⟩ : Fin 2) = gOf hd := Fin.ext (by show (b.val * 2 + hd.val / 4) % 2 = hd.val / 4; omega)
  have eo : (fun k => rSc (shapeCast S6x4x640x128 a2 shapeCasts_S3x8x640x128_S6x4x640x128) a4 (rQS a3) a5
        (rBias (rSel (rKeep a0 a1) (constant S_ .f32 0x00000000#32) (constant S_ .f32 0xFF800000#32))) (ix4 (nOf b hd) ⟨hd.val % 4, by omega⟩ t k))
      = scoreOld a0 a1 a2 a3 a4 a5 b hd t := funext fun k => old_at a0 a1 a2 a3 a4 a5 b hd t k _ _ rfl rfl
  have en : (fun k => rCaus rLater (rSn (shapeCast S6x4x640x128 a2 shapeCasts_S3x8x640x128_S6x4x640x128) a8 (rQS a3) a9
        (rBias (rSel (rKeep a0 a1) (constant S_ .f32 0x00000000#32) (constant S_ .f32 0xFF800000#32)))) (constant S_ .f32 0xFF800000#32) (ix4 (nOf b hd) ⟨hd.val % 4, by omega⟩ t k))
      = scoreNew a0 a1 a2 a3 a8 a9 b hd t := funext fun k => new_at a0 a1 a2 a3 a8 a9 b hd t k _ _ rfl rfl
  rw [eo, en, e1, e3]
end Cert.ReferenceIdeal.RefValue
-- ==== Proof.Attend.RefWide.lean ====
module
public import proofs.«01_k».proof.Proof.Attend.RefAt
public import Idealize.ShloMosaic.Lib.Pipeline.Value
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.Attend
namespace Cert.ReferenceIdeal.RefValue
open Cert.ReferenceIdeal Cert.ReferenceIdeal.Gen
variable (m : (ℓ : Loc nD τ sig) → Buf (Elt Ideal) ℓ) (ρ : Dev nD → PrngReg)

/-- Every window is one block, its whole array. -/
theorem idx : ∀ t : Fin cfg0.N, win0_0.index t = ![0, 0, 0, 0] ∧ win0_1.index t = ![0, 0, 0] ∧ win0_2.index t = ![0, 0, 0] ∧ win0_3.index t = ![0, 0, 0] ∧ win0_4.index t = ![0, 0, 0] ∧ win0_5.index t = ![0, 0, 0, 0] ∧ win0_6.index t = ![0, 0, 0] ∧ win0_7.index t = ![0, 0, 0] ∧ win0_8.index t = ![0, 0, 0] ∧ win0_9.index t = ![0, 0, 0] :=
  (by decide +kernel : ∀ t : Fin grid0.N, _)

/-- The widened codes, as the region leaves them. -/
theorem wide5 (c : Dev nD) : (dats m 0 c).arrAt 5 cfg0.N = k0_pay1 (F := Ideal) (m ((c : Thread nD τ).loc main_arg2)) := by
  refine (dats m 0 c).arrAt_eq_of_covers 5 _ (by decide +kernel) fun t hf y => ?_
  blk_simp
  rw [after0_5]
  frame_out
  pointwise [k0_pay1]
  blk_point [iblk, V, idx t]
/-- The widened codes, as the region leaves them. -/
theorem wide6 (c : Dev nD) : (dats m 0 c).arrAt 6 cfg0.N = k0_pay2 (F := Ideal) (m ((c : Thread nD τ).loc main_arg4)) := by
  refine (dats m 0 c).arrAt_eq_of_covers 6 _ (by decide +kernel) fun t hf y => ?_
  blk_simp
  rw [after0_6]
  frame_out
  pointwise [k0_pay2]
  blk_point [iblk, V, idx t]
/-- The widened codes, as the region leaves them. -/
theorem wide7 (c : Dev nD) : (dats m 0 c).arrAt 7 cfg0.N = k0_pay3 (F := Ideal) (m ((c : Thread nD τ).loc main_arg6)) := by
  refine (dats m 0 c).arrAt_eq_of_covers 7 _ (by decide +kernel) fun t hf y => ?_
  blk_simp
  rw [after0_7]
  frame_out
  pointwise [k0_pay3]
  blk_point [iblk, V, idx t]
/-- The widened codes, as the region leaves them. -/
theorem wide8 (c : Dev nD) : (dats m 0 c).arrAt 8 cfg0.N = k0_pay4 (F := Ideal) (m ((c : Thread nD τ).loc main_arg8)) := by
  refine (dats m 0 c).arrAt_eq_of_covers 8 _ (by decide +kernel) fun t hf y => ?_
  blk_simp
  rw [after0_8]
  frame_out
  pointwise [k0_pay4]
  blk_point [iblk, V, idx t]
/-- The widened codes, as the region leaves them. -/
theorem wide9 (c : Dev nD) : (dats m 0 c).arrAt 9 cfg0.N = k0_pay5 (F := Ideal) (m ((c : Thread nD τ).loc main_arg10)) := by
  refine (dats m 0 c).arrAt_eq_of_covers 9 _ (by decide +kernel) fun t hf y => ?_
  blk_simp
  rw [after0_9]
  frame_out
  pointwise [k0_pay5]
  blk_point [iblk, V, idx t]
end Cert.ReferenceIdeal.RefValue
-- ==== Proof.Attend.RefRun.lean ====
module
public import proofs.«01_k».proof.Proof.Attend.RefWide
public import Idealize.ShloMosaic.Lib.Pipeline.Value
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.Attend
namespace Cert.ReferenceIdeal.RefValue
open Cert.ReferenceIdeal Cert.ReferenceIdeal.Gen
variable (m : (ℓ : Loc nD τ sig) → Buf (Elt Ideal) ℓ) (ρ : Dev nD → PrngReg)

/-- The operations after the region, from the arrays it leaves. -/
theorem whole_tail (W : Valuation τ sig (Elt Ideal)) :
    StableHlo.after (hostOps1_4 (F := Ideal)) (StableHlo.after (hostOps1_3 (F := Ideal)) (StableHlo.after (hostOps1_2 (F := Ideal)) (StableHlo.after (hostOps1_1 (F := Ideal)) (StableHlo.after (hostOps1 (F := Ideal)) W)))) (Proc.devRef .tc main_v101)
      = rAll (F := Ideal) (rSc (shapeCast S6x4x640x128 (W (Proc.devRef .tc main_v0_0) : FVec Ideal S3x8x640x128 .f32) shapeCasts_S3x8x640x128_S6x4x640x128)
        (W (Proc.devRef .tc main_v0_1)) (rQS (W (Proc.devRef .tc main_arg3))) (W (Proc.devRef .tc main_arg5))
        (rBias (rSel (rKeep (W (Proc.devRef .tc main_arg0)) (W (Proc.devRef .tc main_arg1))) (constant S_ .f32 0x00000000#32) (constant S_ .f32 0xFF800000#32))))
        (rCaus rLater (rSn (shapeCast S6x4x640x128 (W (Proc.devRef .tc main_v0_0) : FVec Ideal S3x8x640x128 .f32) shapeCasts_S3x8x640x128_S6x4x640x128)
        (W (Proc.devRef .tc main_v0_3)) (rQS (W (Proc.devRef .tc main_arg3))) (W (Proc.devRef .tc main_arg9))
        (rBias (rSel (rKeep (W (Proc.devRef .tc main_arg0)) (W (Proc.devRef .tc main_arg1))) (constant S_ .f32 0x00000000#32) (constant S_ .f32 0xFF800000#32))))
          (constant S_ .f32 0xFF800000#32))
        (W (Proc.devRef .tc main_v0_2)) (W (Proc.devRef .tc main_v0_4)) (W (Proc.devRef .tc main_arg7)) (W (Proc.devRef .tc main_arg11)) := by
  rw [r4, (tail W).1, (tail W).2,
    StableHlo.after_of_writes_sub (r := main_v0_2) hostOps1_3 _ hostOps1_3_writes (by decide +kernel),
    StableHlo.after_of_writes_sub (r := main_v0_2) hostOps1_2 _ hostOps1_2_writes (by decide +kernel),
    StableHlo.after_of_writes_sub (r := main_v0_2) hostOps1_1 _ hostOps1_1_writes (by decide +kernel),
    StableHlo.after_of_writes_sub (r := main_v0_2) hostOps1 _ hostOps1_writes (by decide +kernel),
    StableHlo.after_of_writes_sub (r := main_v0_4) hostOps1_3 _ hostOps1_3_writes (by decide +kernel),
    StableHlo.after_of_writes_sub (r := main_v0_4) hostOps1_2 _ hostOps1_2_writes (by decide +kernel),
    StableHlo.after_of_writes_sub (r := main_v0_4) hostOps1_1 _ hostOps1_1_writes (by decide +kernel),
    StableHlo.after_of_writes_sub (r := main_v0_4) hostOps1 _ hostOps1_writes (by decide +kernel),
    StableHlo.after_of_writes_sub (r := main_arg7) hostOps1_3 _ hostOps1_3_writes (by decide +kernel),
    StableHlo.after_of_writes_sub (r := main_arg7) hostOps1_2 _ hostOps1_2_writes (by decide +kernel),
    StableHlo.after_of_writes_sub (r := main_arg7) hostOps1_1 _ hostOps1_1_writes (by decide +kernel),
    StableHlo.after_of_writes_sub (r := main_arg7) hostOps1 _ hostOps1_writes (by decide +kernel),
    StableHlo.after_of_writes_sub (r := main_arg11) hostOps1_3 _ hostOps1_3_writes (by decide +kernel),
    StableHlo.after_of_writes_sub (r := main_arg11) hostOps1_2 _ hostOps1_2_writes (by decide +kernel),
    StableHlo.after_of_writes_sub (r := main_arg11) hostOps1_1 _ hostOps1_1_writes (by decide +kernel),
    StableHlo.after_of_writes_sub (r := main_arg11) hostOps1 _ hostOps1_writes (by decide +kernel)]

/-- The attention output of the launched arguments. -/
def whole (c : Dev nD) : Vec Ideal S3x640x1024 .f32 := fun idx =>
  spec (m (c, Proc.tc.devRef main_arg0)) (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6)) (m (c, Proc.tc.devRef main_arg7))
    (m (c, Proc.tc.devRef main_arg8)) (m (c, Proc.tc.devRef main_arg9)) (m (c, Proc.tc.devRef main_arg10)) (m (c, Proc.tc.devRef main_arg11))
    (idx 0) ⟨(idx 2).val / 128, Nat.div_lt_of_lt_mul (idx 2).isLt⟩ (idx 1) ⟨(idx 2).val % 128, Nat.mod_lt _ (by decide)⟩

theorem arr_inj : Function.Injective (Pipeline.arrRef spec0) := by decide

/-- The result after the run. -/
theorem result (c : Dev nD) : Pipeline.afterTail₀ cfgs (dats m) 0 (V0 m) [hostOps1, hostOps1_1, hostOps1_2, hostOps1_3, hostOps1_4] c main_v101 = whole m c := by
  unfold Pipeline.afterTail₀
  rw [List.flatten_cons, List.flatten_cons, List.flatten_cons, List.flatten_cons, List.flatten_cons, List.flatten_nil, List.append_nil, StableHlo.after_append, StableHlo.after_append, StableHlo.after_append, StableHlo.after_append]
  have w5 := (Pipeline.withArrays_arr spec0 arr_inj c (V0 m c) (fun w => (dats m 0 c).arrAt w cfg0.N) 5).trans (wide5 m c)
  have w6 := (Pipeline.withArrays_arr spec0 arr_inj c (V0 m c) (fun w => (dats m 0 c).arrAt w cfg0.N) 6).trans (wide6 m c)
  have w7 := (Pipeline.withArrays_arr spec0 arr_inj c (V0 m c) (fun w => (dats m 0 c).arrAt w cfg0.N) 7).trans (wide7 m c)
  have w8 := (Pipeline.withArrays_arr spec0 arr_inj c (V0 m c) (fun w => (dats m 0 c).arrAt w cfg0.N) 8).trans (wide8 m c)
  have w9 := (Pipeline.withArrays_arr spec0 arr_inj c (V0 m c) (fun w => (dats m 0 c).arrAt w cfg0.N) 9).trans (wide9 m c)
  have g0 := (Pipeline.withArrays_of_ne spec0 c (V0 m c) (fun w => (dats m 0 c).arrAt w cfg0.N) main_arg0 (by exact (by decide : ∀ w, Pipeline.arrRef spec0 w ≠ main_arg0))).trans (V_main_arg0 m c)
  have g1 := (Pipeline.withArrays_of_ne spec0 c (V0 m c) (fun w => (dats m 0 c).arrAt w cfg0.N) main_arg1 (by exact (by decide : ∀ w, Pipeline.arrRef spec0 w ≠ main_arg1))).trans (V_main_arg1 m c)
  have g3 := (Pipeline.withArrays_of_ne spec0 c (V0 m c) (fun w => (dats m 0 c).arrAt w cfg0.N) main_arg3 (by exact (by decide : ∀ w, Pipeline.arrRef spec0 w ≠ main_arg3))).trans (V_main_arg3 m c)
  have g5 := (Pipeline.withArrays_of_ne spec0 c (V0 m c) (fun w => (dats m 0 c).arrAt w cfg0.N) main_arg5 (by exact (by decide : ∀ w, Pipeline.arrRef spec0 w ≠ main_arg5))).trans (V_main_arg5 m c)
  have g7 := (Pipeline.withArrays_of_ne spec0 c (V0 m c) (fun w => (dats m 0 c).arrAt w cfg0.N) main_arg7 (by exact (by decide : ∀ w, Pipeline.arrRef spec0 w ≠ main_arg7))).trans (V_main_arg7 m c)
  have g9 := (Pipeline.withArrays_of_ne spec0 c (V0 m c) (fun w => (dats m 0 c).arrAt w cfg0.N) main_arg9 (by exact (by decide : ∀ w, Pipeline.arrRef spec0 w ≠ main_arg9))).trans (V_main_arg9 m c)
  have g11 := (Pipeline.withArrays_of_ne spec0 c (V0 m c) (fun w => (dats m 0 c).arrAt w cfg0.N) main_arg11 (by exact (by decide : ∀ w, Pipeline.arrRef spec0 w ≠ main_arg11))).trans (V_main_arg11 m c)
  revert w5 w6 w7 w8 w9 g0 g1 g3 g5 g7 g9 g11
  change (_ → _)
  generalize (Pipeline.withArrays spec0 c (V0 m c) (fun w => (dats m 0 c).arrAt w cfg0.N)) = W
  intro w5 w6 w7 w8 w9 g0 g1 g3 g5 g7 g9 g11
  refine (whole_tail W).trans ?_
  change W (Proc.devRef .tc main_v0_0) = _ at w5
  change W (Proc.devRef .tc main_v0_1) = _ at w6
  change W (Proc.devRef .tc main_v0_2) = _ at w7
  change W (Proc.devRef .tc main_v0_3) = _ at w8
  change W (Proc.devRef .tc main_v0_4) = _ at w9
  rw [w5, w6, w7, w8, w9, g0, g1, g3, g5, g7, g9, g11]
  funext idx
  have hi : idx = ix3 (idx 0) (idx 1) (idx 2) := by
    funext a; fin_cases a <;> rfl
  refine (congrArg _ hi).trans ?_
  refine (all_at _ _ _ _ _ _ _ _ _ _ _ _ (idx 0) (idx 1) (idx 2) ⟨(idx 2).val / 128, Nat.div_lt_of_lt_mul (idx 2).isLt⟩ ⟨(idx 2).val % 128, Nat.mod_lt _ (by decide)⟩ rfl rfl).trans ?_
  rfl

/-- The run of the reference: the result array and the arguments after it. -/
theorem run : θ_run defs (onTc (τ := τ) (main (F := Ideal))) ⟨m, fun _ => 0, ρ⟩ fun r => ∀ c : Dev nD,
    r.2.mem ((c.tc : Thread nD τ).loc main_v101) = whole m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  (θ_run defs _ _).mono (fun _ h c => ⟨((h c).2 main_v101 (Pipeline.mem_restRefs_of main_v101 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).1 1).trans (((dats m 0 c).arrAt_in 1 rfl _).trans ((A_eq m c 1).trans (V_main_arg4 m c))),
      ((h c).2 main_arg5 (Pipeline.mem_restRefs_of main_arg5 (by decide) (by decide))).trans (W_main_arg5 m (dats m) c),
      ((h c).1 2).trans (((dats m 0 c).arrAt_in 2 rfl _).trans ((A_eq m c 2).trans (V_main_arg6 m c))),
      ((h c).2 main_arg7 (Pipeline.mem_restRefs_of main_arg7 (by decide) (by decide))).trans (W_main_arg7 m (dats m) c),
      ((h c).1 3).trans (((dats m 0 c).arrAt_in 3 rfl _).trans ((A_eq m c 3).trans (V_main_arg8 m c))),
      ((h c).2 main_arg9 (Pipeline.mem_restRefs_of main_arg9 (by decide) (by decide))).trans (W_main_arg9 m (dats m) c),
      ((h c).1 4).trans (((dats m 0 c).arrAt_in 4 rfl _).trans ((A_eq m c 4).trans (V_main_arg10 m c))),
      ((h c).2 main_arg11 (Pipeline.mem_restRefs_of main_arg11 (by decide) (by decide))).trans (W_main_arg11 m (dats m) c)⟩) (run_main m ρ)
end Cert.ReferenceIdeal.RefValue
-- ==== Proof.Attend.Value.lean ====
/- At exact arithmetic the attention call computes its reference. -/
module

public import proofs.«01_k».proof.Defs
public import proofs.«01_k».proof.Proof.Attend.Ideal.Final
public import proofs.«01_k».proof.Proof.Attend.RefRun

@[expose] public section

noncomputable section

open Idealize.ShloMosaic Idealize.ShloMosaic.TcCoe Idealize.SL.Sem

namespace Cert.Proof.AttendClaims

/-- At exact arithmetic the attention output of the kernel is the reference's. -/
theorem algebraic : Cert.algebraic_KernelIdeal_ReferenceIdeal := by
  intro m g m' g' _ hagree
  refine ⟨_, (θ_run Cert.KernelIdeal.defs _ _).mono (fun r h c => h c) (Cert.KernelIdeal.Value.run_blocks m g trivial),
    (θ_run Cert.ReferenceIdeal.defs _ _).mono (fun r h c => ?_) (Cert.ReferenceIdeal.RefValue.run m' g')⟩
  obtain ⟨h0, hargs⟩ := h c
  obtain ⟨e0, e1, e2, e3, e4, e5, e6, e7, e8, e9, e10, e11⟩ := hagree c
  refine ⟨?_, hargs⟩
  rw [h0, Cert.KernelIdeal.RefValue.array11 m trivial c]
  funext idx
  unfold Cert.ReferenceIdeal.RefValue.whole Cert.KernelIdeal.RefValue.whole
  rw [← e0, ← e1, ← e2, ← e3, ← e4, ← e5, ← e6, ← e7, ← e8, ← e9, ← e10, ← e11]

end Cert.Proof.AttendClaims
end
-- ==== Proof.Out.RefRun.lean ====
/- The run of the output projection's reference: it takes no grid, so each result array after the run is the
   body's stored value at the argument arrays (`G4` to `G7`, `run`). -/
module

public import proofs.«01_k».proof.Proof.Gen.OutReferenceIdeal.Frame
public import Idealize.ShloMosaic.Lib.Pipeline.Value

@[expose] public section

noncomputable section

namespace Cert.OutReferenceIdeal.Value

open Cert.OutReferenceIdeal Cert.OutReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_3) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 4 cfg0.N
      ∧ r.2.mem ((c : Thread nD τ).loc main_v0_1) = (dats m 0 c).arrAt 5 cfg0.N
      ∧ r.2.mem ((c : Thread nD τ).loc main_v0_2) = (dats m 0 c).arrAt 6 cfg0.N
      ∧ r.2.mem ((c : Thread nD τ).loc main_v0_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      post7 m r h c,
      kept_main_arg0 m r h c,
      kept_main_arg1 m r h c,
      kept_main_arg2 m r h c,
      kept_main_arg3 m r h c⟩)
    (run_main m ρ)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S1920x1024.Idx) : ((cfg0.win 0).blk t).view.emb j = j := by
  obtain ⟨e0, e1⟩ := idx_zero0 t
  funext a; apply Fin.ext
  match a with
  | ⟨0, _⟩ => show win0_0.index t (0 : Fin 2) * 1920 + 1 * (j 0).val = (j 0).val; omega
  | ⟨1, _⟩ => show win0_0.index t (1 : Fin 2) * 1024 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S1920x4096.Idx) : ((cfg0.win 1).blk t).view.emb j = j := by
  obtain ⟨e0, e1⟩ := idx_zero1 t
  funext a; apply Fin.ext
  match a with
  | ⟨0, _⟩ => show win0_1.index t (0 : Fin 2) * 1920 + 1 * (j 0).val = (j 0).val; omega
  | ⟨1, _⟩ => show win0_1.index t (1 : Fin 2) * 4096 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1024x4096.Idx) : ((cfg0.win 2).blk t).view.emb j = j := by
  obtain ⟨e0, e1⟩ := idx_zero2 t
  funext a; apply Fin.ext
  match a with
  | ⟨0, _⟩ => show win0_2.index t (0 : Fin 2) * 1024 + 1 * (j 0).val = (j 0).val; omega
  | ⟨1, _⟩ => show win0_2.index t (1 : Fin 2) * 4096 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1x4096.Idx) : ((cfg0.win 3).blk t).view.emb j = j := by
  obtain ⟨e0, e1⟩ := idx_zero3 t
  funext a; apply Fin.ext
  match a with
  | ⟨0, _⟩ => show win0_3.index t (0 : Fin 2) * 1 + 1 * (j 0).val = (j 0).val; omega
  | ⟨1, _⟩ => show win0_3.index t (1 : Fin 2) * 4096 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S1920x4096.Idx) : ((cfg0.win 4).blk t).view.emb j = j := by
  obtain ⟨e0, e1⟩ := idx_zero4 t
  funext a; apply Fin.ext
  match a with
  | ⟨0, _⟩ => show win0_4.index t (0 : Fin 2) * 1920 + 1 * (j 0).val = (j 0).val; omega
  | ⟨1, _⟩ => show win0_4.index t (1 : Fin 2) * 4096 + 1 * (j 1).val = (j 1).val; omega

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S1920x1024.Idx) : ((cfg0.win 5).blk t).view.emb j = j := by
  obtain ⟨e0, e1⟩ := idx_zero5 t
  funext a; apply Fin.ext
  match a with
  | ⟨0, _⟩ => show win0_5.index t (0 : Fin 2) * 1920 + 1 * (j 0).val = (j 0).val; omega
  | ⟨1, _⟩ => show win0_5.index t (1 : Fin 2) * 1024 + 1 * (j 1).val = (j 1).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S15x1x128.Idx) : ((cfg0.win 6).blk t).view.emb j = j := by
  obtain ⟨e0, e1, e2⟩ := idx_zero6 t
  funext a; apply Fin.ext
  match a with
  | ⟨0, _⟩ => show win0_6.index t (0 : Fin 3) * 15 + 1 * (j 0).val = (j 0).val; omega
  | ⟨1, _⟩ => show win0_6.index t (1 : Fin 3) * 1 + 1 * (j 1).val = (j 1).val; omega
  | ⟨2, _⟩ => show win0_6.index t (2 : Fin 3) * 128 + 1 * (j 2).val = (j 2).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S1920x1024.Idx) : ((cfg0.win 7).blk t).view.emb j = j := by
  obtain ⟨e0, e1⟩ := idx_zero7 t
  funext a; apply Fin.ext
  match a with
  | ⟨0, _⟩ => show win0_7.index t (0 : Fin 2) * 1920 + 1 * (j 0).val = (j 0).val; omega
  | ⟨1, _⟩ => show win0_7.index t (1 : Fin 2) * 1024 + 1 * (j 1).val = (j 1).val; omega

/-! ### Output window 4: the array after the run -/

/-- What the window's array ends holding: `out0_4` applied to the argument arrays in place of the input blocks (a value that the
    frame states apart, `kK_payN a…`, keeps its loads inside its own definition). -/
abbrev G4 (a0 : Vec F S1920x1024 .f32) (a1 : Vec F S1920x4096 .bf16) (a2 : Vec F S1024x4096 .fp8e4m3) (a3 : Vec F S1x4096 .f32) : Vec F S1920x4096 .bf16 :=
  k0_pay5 a0 a2 a3 a1

/-- A load of the whole of a block reads the block, and the one store through the whole rectangle leaves its payload. -/
theorem out4_eq (a0 : Vec F S1920x1024 .f32) (a1 : Vec F S1920x4096 .bf16) (a2 : Vec F S1024x4096 .fp8e4m3) (a3 : Vec F S1x4096 .f32) : out0_4 (F := F) a0 a1 a2 a3 = G4 a0 a1 a2 a3 := by
  unfold out0_4
  rw [View.canon_unit_zero hz4, View.ld_unit_zero (S := S1920x1024) hz0 _ a0, View.ld_unit_zero (S := S1024x4096) hz2 _ a2, View.ld_unit_zero (S := S1x4096) hz3 _ a3, View.ld_unit_zero (S := S1920x4096) hz1 _ a1]

/-- Cutting the point's block out of `X` and reading `X` through the block's view give the same. -/
theorem cut4_eq (t : Fin cfg0.N) (X : Vec F S1920x4096 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S1920x4096.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S1920x1024 .f32) (a1 : Vec F S1920x4096 .bf16) (a2 : Vec F S1024x4096 .fp8e4m3) (a3 : Vec F S1x4096 .f32) : Vec F S1920x1024 .fp8e4m3 :=
  k0_pay2 a0

/-- A load of the whole of a block reads the block, and the one store through the whole rectangle leaves its payload. -/
theorem out5_eq (a0 : Vec F S1920x1024 .f32) (a1 : Vec F S1920x4096 .bf16) (a2 : Vec F S1024x4096 .fp8e4m3) (a3 : Vec F S1x4096 .f32) : out0_5 (F := F) a0 a1 a2 a3 = G5 a0 a1 a2 a3 := by
  unfold out0_5
  rw [View.canon_unit_zero hz5, View.ld_unit_zero (S := S1920x1024) hz0 _ a0]

/-- Cutting the point's block out of `X` and reading `X` through the block's view give the same. -/
theorem cut5_eq (t : Fin cfg0.N) (X : Vec F S1920x1024 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S1920x1024.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S1920x1024 .f32) (a1 : Vec F S1920x4096 .bf16) (a2 : Vec F S1024x4096 .fp8e4m3) (a3 : Vec F S1x4096 .f32) : Vec F S15x1x128 .f32 :=
  k0_pay3 a0

/-- A load of the whole of a block reads the block, and the one store through the whole rectangle leaves its payload. -/
theorem out6_eq (a0 : Vec F S1920x1024 .f32) (a1 : Vec F S1920x4096 .bf16) (a2 : Vec F S1024x4096 .fp8e4m3) (a3 : Vec F S1x4096 .f32) : out0_6 (F := F) a0 a1 a2 a3 = G6 a0 a1 a2 a3 := by
  unfold out0_6
  rw [View.canon_unit_zero hz6, View.ld_unit_zero (S := S1920x1024) hz0 _ a0]

/-- Cutting the point's block out of `X` and reading `X` through the block's view give the same. -/
theorem cut6_eq (t : Fin cfg0.N) (X : Vec F S15x1x128 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S15x1x128.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ### Output window 7: the array after the run -/

/-- What the window's array ends holding: `out0_7` applied to the argument arrays in place of the input blocks (a value that the
    frame states apart, `kK_payN a…`, keeps its loads inside its own definition). -/
abbrev G7 (a0 : Vec F S1920x1024 .f32) (a1 : Vec F S1920x4096 .bf16) (a2 : Vec F S1024x4096 .fp8e4m3) (a3 : Vec F S1x4096 .f32) : Vec F S1920x1024 .bf16 :=
  k0_pay4 a0

/-- A load of the whole of a block reads the block, and the one store through the whole rectangle leaves its payload. -/
theorem out7_eq (a0 : Vec F S1920x1024 .f32) (a1 : Vec F S1920x4096 .bf16) (a2 : Vec F S1024x4096 .fp8e4m3) (a3 : Vec F S1x4096 .f32) : out0_7 (F := F) a0 a1 a2 a3 = G7 a0 a1 a2 a3 := by
  unfold out0_7
  rw [View.canon_unit_zero hz7, View.ld_unit_zero (S := S1920x1024) hz0 _ a0]

/-- Cutting the point's block out of `X` and reading `X` through the block's view give the same. -/
theorem cut7_eq (t : Fin cfg0.N) (X : Vec F S1920x1024 .bf16) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3)) := by
  show (cfg0.win 7).cut (grid0.coords t) ((dats m 0 c).after 7 t) = _
  rw [after0_7, out7_eq, iblk0_eq, iblk1_eq, iblk2_eq, iblk3_eq]
  exact cut7_eq t _

/-- Every index of the array is in the point's block. -/
theorem covered7 (i : S1920x1024.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) :=
  ((dats m 0 c).arrAt_eq_of_cover 7 (G7 (V m c main_arg0) (V m c main_arg1) (V m c main_arg2) (V m c main_arg3)) (fun t _ => flushed7_eq m c t) covered7).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_v0_3) = G7 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      (post7 m r h c).trans (final7 m c),
      kept_main_arg0 m r h c,
      kept_main_arg1 m r h c,
      kept_main_arg2 m r h c,
      kept_main_arg3 m r h c⟩)
    (run_main m ρ)

end Cert.OutReferenceIdeal.Value

end
-- ==== Proof.Out.Value.lean ====
/- The value of the output projection: the pipelined kernel writes, block of 128 rows by block of 128 rows, what the
   reference computes at once over all 1920 rows. -/
module

public import proofs.«01_k».proof.Defs
public import proofs.«01_k».proof.Proof.Gen.OutKernelIdeal.Value
public import proofs.«01_k».proof.Proof.Out.RefRun
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutKernelIdeal.RefValue

open Cert.OutKernelIdeal Cert.OutKernelIdeal.Gen

variable (m : (ℓ : Loc nD τ sig) → Buf (Elt Ideal) ℓ)

/-- Every window's block index at each point (decided). -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0]
    ∧ win0_6.index t = ![t.val, 0, 0] ∧ win0_7.index t = ![t.val, 0] :=
  (by decide +kernel : ∀ t : Fin grid0.N, _)

theorem final7 (c : Dev nD) : (dats m 0 c).arrAt 7 cfg0.N
    = Cert.OutReferenceIdeal.Gen.k0_pay4 (F := Ideal) (m ((c : Thread nD τ).loc main_arg0)) := by
  refine (dats m 0 c).arrAt_eq_of_covers 7 _ (by decide +kernel) fun t hf y => ?_
  blk_simp
  rw [after0_7]
  frame_out
  pointwise [k0_pay5, Cert.OutReferenceIdeal.Gen.k0_pay4]
  blk_point [iblk, V, idx t]

theorem final5 (c : Dev nD) : (dats m 0 c).arrAt 5 cfg0.N
    = Cert.OutReferenceIdeal.Gen.k0_pay2 (F := Ideal) (m ((c : Thread nD τ).loc main_arg0)) := by
  refine (dats m 0 c).arrAt_eq_of_covers 5 _ (by decide +kernel) fun t hf y => ?_
  blk_simp
  rw [after0_5]
  frame_out
  pointwise [k0_pay3, k0_pay2, Cert.OutReferenceIdeal.Gen.k0_pay2, Cert.OutReferenceIdeal.Gen.k0_pay1]
  blk_point [iblk, V, idx t]

theorem final6 (c : Dev nD) : (dats m 0 c).arrAt 6 cfg0.N
    = Cert.OutReferenceIdeal.Gen.k0_pay3 (F := Ideal) (m ((c : Thread nD τ).loc main_arg0)) := by
  refine (dats m 0 c).arrAt_eq_of_covers 6 _ (by decide +kernel) fun t hf y => ?_
  blk_simp
  rw [after0_6]
  frame_out
  pointwise [k0_pay4, k0_pay2, Cert.OutReferenceIdeal.Gen.k0_pay3, Cert.OutReferenceIdeal.Gen.k0_pay1]
  blk_point [iblk, V, idx t]

theorem final4 (c : Dev nD) : (dats m 0 c).arrAt 4 cfg0.N
    = Cert.OutReferenceIdeal.Gen.k0_pay5 (F := Ideal) (m ((c : Thread nD τ).loc main_arg0))
        (m ((c : Thread nD τ).loc main_arg2)) (m ((c : Thread nD τ).loc main_arg3)) (m ((c : Thread nD τ).loc main_arg1)) := by
  refine (dats m 0 c).arrAt_eq_of_covers 4 _ (by decide +kernel) fun t hf y => ?_
  blk_simp
  rw [after0_4]
  frame_out
  pointwise [k0_pay1, k0_pay6, k0_pay3, k0_pay2, Cert.OutReferenceIdeal.Gen.k0_pay5, Cert.OutReferenceIdeal.Gen.k0_pay2,
    Cert.OutReferenceIdeal.Gen.k0_pay1]
  blk_point [iblk, V, idx t]

end Cert.OutKernelIdeal.RefValue

namespace Cert.Proof.OutClaims

/-- At exact arithmetic the kernel's four result arrays are the reference's. -/
theorem algebraic : Cert.algebraic_OutKernelIdeal_OutReferenceIdeal := by
  intro m g m' g' _ hagree
  refine ⟨_, _, _, _, (θ_run Cert.OutKernelIdeal.defs _ _).mono (fun r h c => h c) (Cert.OutKernelIdeal.Value.run_blocks m g),
    (θ_run Cert.OutReferenceIdeal.defs _ _).mono (fun r h c => ?_) (Cert.OutReferenceIdeal.Value.run m' g')⟩
  obtain ⟨h4, h5, h6, h7, a0, a1, a2, a3⟩ := h c
  obtain ⟨e0, e1, e2, e3⟩ := hagree c
  refine ⟨?_, ?_, ?_, ?_, a0, a1, a2, a3⟩
  · rw [h4, Cert.OutKernelIdeal.RefValue.final4 m c, e0, e1, e2, e3]
  · rw [h5, Cert.OutKernelIdeal.RefValue.final5 m c, e0]
  · rw [h6, Cert.OutKernelIdeal.RefValue.final6 m c, e0]
  · rw [h7, Cert.OutKernelIdeal.RefValue.final7 m c, e0]

end Cert.Proof.OutClaims
end
-- ==== Proof.lean ====
/- The proof of every claim of this certificate: the frames of the attention call and of its reference, the frames of the
   output projection call and of its reference, and that each of the two calls computes its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal.Frame
public import proofs.«01_k».proof.Proof.Gen.OutKernel.Frame
public import proofs.«01_k».proof.Proof.Gen.OutKernelIdeal.Value
public import proofs.«01_k».proof.Proof.Gen.OutReferenceIdeal.Frame
public import proofs.«01_k».proof.Proof.Attend.Bits.Frame
public import proofs.«01_k».proof.Proof.Attend.Ideal.Frame
public import proofs.«01_k».proof.Proof.Attend.Value
public import proofs.«01_k».proof.Proof.Out.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.OutKernel.Gen.facts, Cert.OutKernelIdeal.Gen.facts, Cert.OutReferenceIdeal.Gen.facts,
  fun m ρ _ => Cert.Kernel.Gen.frame m ρ trivial, fun m ρ _ => Cert.KernelIdeal.Gen.frame m ρ trivial,
  fun m ρ _ => Cert.ReferenceIdeal.Gen.frame m ρ, fun m ρ _ => Cert.OutKernel.Gen.frame m ρ,
  fun m ρ _ => Cert.OutKernelIdeal.Gen.frame m ρ, fun m ρ _ => Cert.OutReferenceIdeal.Gen.frame m ρ,
  trivial, AttendClaims.algebraic, trivial, OutClaims.algebraic⟩

end Cert.Proof

end
